-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "qscale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_1)) (v1 : (c : Dev Cert.Kernel3Ideal.nD) → Buf (Elt Ideal) ((c.tc : Thread Cert.Kernel3Ideal.nD Cert.Kernel3Ideal.τ).loc Cert.Kernel3Ideal.main_v6_2)) (v2 : (c : Dev Cert.Kernel3Ideal.nD) → Buf (Elt Ideal) ((c.tc : Thread Cert.Kernel3Ideal.nD Cert.Kernel3Ideal.τ).loc Cert.Kernel3Ideal.main_v6_3)) (v3 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_1) = v0 c
          ∧ r.2.mem ((c.tc : Thread Cert.Kernel3Ideal.nD Cert.Kernel3Ideal.τ).loc Cert.Kernel3Ideal.main_v6_2) = v1 c
          ∧ r.2.mem ((c.tc : Thread Cert.Kernel3Ideal.nD Cert.Kernel3Ideal.τ).loc Cert.Kernel3Ideal.main_v6_3) = v2 c
          ∧ r.2.mem ((c.tc : Thread Cert.Kernel3Ideal.nD Cert.Kernel3Ideal.τ).loc Cert.Kernel3Ideal.main_v6_4) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x4096x512 : Shape := ⟨3, ![8, 4096, 512]⟩
abbrev S512 : Shape := ⟨1, ![512]⟩
abbrev S8x512x4096 : Shape := ⟨3, ![8, 512, 4096]⟩
abbrev S_ : Shape := ⟨0, ![]⟩
abbrev S1x512 : Shape := ⟨2, ![1, 512]⟩
abbrev S1x512x128 : Shape := ⟨3, ![1, 512, 128]⟩
abbrev S1x128x4096 : Shape := ⟨3, ![1, 128, 4096]⟩
abbrev S1x4096x128 : Shape := ⟨3, ![1, 4096, 128]⟩
abbrev S1x128 : Shape := ⟨2, ![1, 128]⟩
abbrev S2x512x128 : Shape := ⟨3, ![2, 512, 128]⟩
abbrev S512x128 : Shape := ⟨2, ![512, 128]⟩
abbrev S256x256 : Shape := ⟨2, ![256, 256]⟩
abbrev S512x256 : Shape := ⟨2, ![512, 256]⟩
abbrev S1x128x256 : Shape := ⟨3, ![1, 128, 256]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S512x1 : Shape := ⟨2, ![512, 1]⟩
abbrev S512x512 : Shape := ⟨2, ![512, 512]⟩

abbrev nBuf : Space → Nat
  | .hbm => 20
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S512, .f32⟩
  | .hbm, ⟨5, _⟩ => ⟨S8x512x4096, .f32⟩
  | .hbm, ⟨6, _⟩ => ⟨S8x512x4096, .bf16⟩
  | .hbm, ⟨7, _⟩ => ⟨S8x4096x512, .bf16⟩
  | .hbm, ⟨8, _⟩ => ⟨S8x4096x512, .f32⟩
  | .hbm, ⟨9, _⟩ => ⟨S8x4096x512, .f32⟩
  | .hbm, ⟨10, _⟩ => ⟨S_, .f32⟩
  | .hbm, ⟨11, _⟩ => ⟨S8x4096x512, .f32⟩
  | .hbm, ⟨12, _⟩ => ⟨S8x4096x512, .f32⟩
  | .hbm, ⟨13, _⟩ => ⟨S_, .f32⟩
  | .hbm, ⟨14, _⟩ => ⟨S8x4096x512, .f32⟩
  | .hbm, ⟨15, _⟩ => ⟨S8x4096x512, .f32⟩
  | .hbm, ⟨16, _⟩ => ⟨S8x4096x512, .f32⟩
  | .hbm, ⟨17, _⟩ => ⟨S8x4096x512, .bf16⟩
  | .hbm, ⟨18, _⟩ => ⟨S1x512, .f32⟩
  | .hbm, ⟨19, _⟩ => ⟨S8x4096x512, .bf16⟩
  | .local _ .vmem, ⟨0, _⟩ => ⟨S1x512x128, .f32⟩
  | .local _ .vmem, ⟨1, _⟩ => ⟨S1x512x128, .f32⟩
  | .local _ .vmem, ⟨2, _⟩ => ⟨S1x128x4096, .bf16⟩
  | .local _ .vmem, ⟨3, _⟩ => ⟨S1x128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x128, .f32⟩
  | .local _ .vmem, ⟨9, _⟩ => ⟨S1x128, .f32⟩
  | .local _ .vmem, ⟨10, _⟩ => ⟨S1x512x128, .bf16⟩
  | .local _ .vmem, ⟨11, _⟩ => ⟨S1x512x128, .bf16⟩
  | .local _ .vmem, ⟨12, _⟩ => ⟨S2x512x128, .f32⟩
  | .local _ .vmem, ⟨13, _⟩ => ⟨S2x512x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond1 (i : grid0.Coords) : BitVec 1 :=
  let arg2 : BitVec 32 := BitVec.ofNat 32 (i 2).val
  let c0_i32_10 : BitVec 32 := 0#32
  let v33 : BitVec 1 := Scalar.cmpi .eq arg2 c0_i32_10
  let v34 : BitVec 32 := Scalar.extui v33
  let c0_i32_11 : BitVec 32 := 0#32
  let v35 : BitVec 1 := Scalar.cmpi .ne v34 c0_i32_11
  v35

def k0_mult1 (i : grid0.Coords) : BitVec 32 :=
  let arg2 : BitVec 32 := BitVec.ofNat 32 (i 2).val
  let c4_i32 : BitVec 32 := 4#32
  let v111 : BitVec 32 := Scalar.muli arg2 c4_i32
  let c2_i32_52 : BitVec 32 := 2#32
  let v112 : BitVec 32 := Scalar.addi v111 c2_i32_52
  let c128_i32 : BitVec 32 := 128#32
  let v113 : BitVec 32 := Scalar.muli v112 c128_i32
  v113
def k0_off1 (i : grid0.Coords) (c2_i32_52 : BitVec 32) : Fin 3 → Nat :=
  let c0_53 : Index := 0#32
  let c0_54 : Index := 0#32
  let arg2 : BitVec 32 := BitVec.ofNat 32 (i 2).val
  let c4_i32 : BitVec 32 := 4#32
  let v111 : BitVec 32 := Scalar.muli arg2 c4_i32
  let v112 : BitVec 32 := Scalar.addi v111 c2_i32_52
  let c128_i32 : BitVec 32 := 128#32
  let v113 : BitVec 32 := Scalar.muli v112 c128_i32
  let v114 : BitVec 32 := v113
  let v115 : Index := Scalar.indexCast v114
  ![0, 0, v115.toNat]
def k0_mult2 (i : grid0.Coords) : BitVec 32 :=
  let arg2 : BitVec 32 := BitVec.ofNat 32 (i 2).val
  let c4_i32 : BitVec 32 := 4#32
  let v111 : BitVec 32 := Scalar.muli arg2 c4_i32
  let c2_i32_56 : BitVec 32 := 2#32
  let v120 : BitVec 32 := Scalar.addi v111 c2_i32_56
  let c128_i32_57 : BitVec 32 := 128#32
  let v121 : BitVec 32 := Scalar.muli v120 c128_i32_57
  v121
def k0_mult3 (i : grid0.Coords) : BitVec 32 :=
  let arg2 : BitVec 32 := BitVec.ofNat 32 (i 2).val
  let c4_i32 : BitVec 32 := 4#32
  let v111 : BitVec 32 := Scalar.muli arg2 c4_i32
  let c0_i32_61 : BitVec 32 := 0#32
  let v128 : BitVec 32 := Scalar.addi v111 c0_i32_61
  let c128_i32_62 : BitVec 32 := 128#32
  let v129 : BitVec 32 := Scalar.muli v128 c128_i32_62
  v129
def k0_mult4 (i : grid0.Coords) : BitVec 32 :=
  let arg2 : BitVec 32 := BitVec.ofNat 32 (i 2).val
  let c4_i32 : BitVec 32 := 4#32
  let v111 : BitVec 32 := Scalar.muli arg2 c4_i32
  let c0_i32_66 : BitVec 32 := 0#32
  let v135 : BitVec 32 := Scalar.addi v111 c0_i32_66
  let c128_i32_67 : BitVec 32 := 128#32
  let v136 : BitVec 32 := Scalar.muli v135 c128_i32_67
  v136
def k0_mult5 (i : grid0.Coords) : BitVec 32 :=
  let arg2 : BitVec 32 := BitVec.ofNat 32 (i 2).val
  let c4_i32 : BitVec 32 := 4#32
  let v111 : BitVec 32 := Scalar.muli arg2 c4_i32
  let c128_i32_110 : BitVec 32 := 128#32
  let v271 : BitVec 32 := Scalar.muli v111 c128_i32_110
  v271
def k0_off2 (i : grid0.Coords) : Fin 3 → Nat :=
  let c0_111 : Index := 0#32
  let arg2 : BitVec 32 := BitVec.ofNat 32 (i 2).val
  let c4_i32 : BitVec 32 := 4#32
  let v111 : BitVec 32 := Scalar.muli arg2 c4_i32
  let c128_i32_110 : BitVec 32 := 128#32
  let v271 : BitVec 32 := Scalar.muli v111 c128_i32_110
  let v272 : BitVec 32 := v271
  let v273 : Index := Scalar.indexCast v272
  let c0_112 : Index := 0#32
  ![0, v273.toNat, 0]
def k0_cond2 (i : grid0.Coords) : BitVec 1 :=
  let arg2 : BitVec 32 := BitVec.ofNat 32 (i 2).val
  let c1_i32_12 : BitVec 32 := 1#32
  let v36 : BitVec 1 := Scalar.cmpi .eq arg2 c1_i32_12
  let v37 : BitVec 32 := Scalar.extui v36
  let c0_i32_13 : BitVec 32 := 0#32
  let v38 : BitVec 1 := Scalar.cmpi .ne v37 c0_i32_13
  v38

def k0_mult6 (i : grid0.Coords) : BitVec 32 :=
  let arg2 : BitVec 32 := BitVec.ofNat 32 (i 2).val
  let c4_i32 : BitVec 32 := 4#32
  let v111 : BitVec 32 := Scalar.muli arg2 c4_i32
  let c2_i32_54 : BitVec 32 := 2#32
  let v114 : BitVec 32 := Scalar.addi v111 c2_i32_54
  let c128_i32 : BitVec 32 := 128#32
  let v115 : BitVec 32 := Scalar.muli v114 c128_i32
  v115
def k0_off3 (i : grid0.Coords) (c2_i32_54 : BitVec 32) : Fin 3 → Nat :=
  let c0_55 : Index := 0#32
  let c0_56 : Index := 0#32
  let arg2 : BitVec 32 := BitVec.ofNat 32 (i 2).val
  let c4_i32 : BitVec 32 := 4#32
  let v111 : BitVec 32 := Scalar.muli arg2 c4_i32
  let v114 : BitVec 32 := Scalar.addi v111 c2_i32_54
  let c128_i32 : BitVec 32 := 128#32
  let v115 : BitVec 32 := Scalar.muli v114 c128_i32
  let v116 : BitVec 32 := v115
  let v117 : Index := Scalar.indexCast v116
  ![0, 0, v117.toNat]
def k0_mult7 (i : grid0.Coords) : BitVec 32 :=
  let arg2 : BitVec 32 := BitVec.ofNat 32 (i 2).val
  let c4_i32 : BitVec 32 := 4#32
  let v111 : BitVec 32 := Scalar.muli arg2 c4_i32
  let c2_i32_58 : BitVec 32 := 2#32
  let v122 : BitVec 32 := Scalar.addi v111 c2_i32_58
  let c128_i32_59 : BitVec 32 := 128#32
  let v123 : BitVec 32 := Scalar.muli v122 c128_i32_59
  v123
def k0_mult8 (i : grid0.Coords) : BitVec 32 :=
  let arg2 : BitVec 32 := BitVec.ofNat 32 (i 2).val
  let c4_i32 : BitVec 32 := 4#32
  let v111 : BitVec 32 := Scalar.muli arg2 c4_i32
  let c0_i32_63 : BitVec 32 := 0#32
  let v130 : BitVec 32 := Scalar.addi v111 c0_i32_63
  let c128_i32_64 : BitVec 32 := 128#32
  let v131 : BitVec 32 := Scalar.muli v130 c128_i32_64
  v131
def k0_mult9 (i : grid0.Coords) : BitVec 32 :=
  let arg2 : BitVec 32 := BitVec.ofNat 32 (i 2).val
  let c4_i32 : BitVec 32 := 4#32
  let v111 : BitVec 32 := Scalar.muli arg2 c4_i32
  let c0_i32_68 : BitVec 32 := 0#32
  let v137 : BitVec 32 := Scalar.addi v111 c0_i32_68
  let c128_i32_69 : BitVec 32 := 128#32
  let v138 : BitVec 32 := Scalar.muli v137 c128_i32_69
  v138
def k0_mult10 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c2_i32_84 : BitVec 32 := 2#32
  let v170 : BitVec 32 := Scalar.addi v113 c2_i32_84
  let c128_i32_85 : BitVec 32 := 128#32
  let v171 : BitVec 32 := Scalar.muli v170 c128_i32_85
  v171
def k0_off4 (i : grid0.Coords) (c2_i32_84 : BitVec 32) : Fin 3 → Nat :=
  let c0_86 : Index := 0#32
  let c0_87 : Index := 0#32
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let v170 : BitVec 32 := Scalar.addi v113 c2_i32_84
  let c128_i32_85 : BitVec 32 := 128#32
  let v171 : BitVec 32 := Scalar.muli v170 c128_i32_85
  let v172 : BitVec 32 := v171
  let v173 : Index := Scalar.indexCast v172
  ![0, 0, v173.toNat]
def k0_mult11 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c2_i32_96 : BitVec 32 := 2#32
  let v195 : BitVec 32 := Scalar.addi v113 c2_i32_96
  let c128_i32_97 : BitVec 32 := 128#32
  let v196 : BitVec 32 := Scalar.muli v195 c128_i32_97
  v196
def k0_mult12 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c0_i32_113 : BitVec 32 := 0#32
  let v251 : BitVec 32 := Scalar.addi v113 c0_i32_113
  let c128_i32_114 : BitVec 32 := 128#32
  let v252 : BitVec 32 := Scalar.muli v251 c128_i32_114
  v252
def k0_mult13 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c0_i32_125 : BitVec 32 := 0#32
  let v276 : BitVec 32 := Scalar.addi v113 c0_i32_125
  let c128_i32_126 : BitVec 32 := 128#32
  let v277 : BitVec 32 := Scalar.muli v276 c128_i32_126
  v277
def k0_mult14 (i : grid0.Coords) : BitVec 32 :=
  let arg2 : BitVec 32 := BitVec.ofNat 32 (i 2).val
  let c4_i32 : BitVec 32 := 4#32
  let v111 : BitVec 32 := Scalar.muli arg2 c4_i32
  let c128_i32_132 : BitVec 32 := 128#32
  let v301 : BitVec 32 := Scalar.muli v111 c128_i32_132
  v301
def k0_off5 (i : grid0.Coords) : Fin 3 → Nat :=
  let c0_133 : Index := 0#32
  let arg2 : BitVec 32 := BitVec.ofNat 32 (i 2).val
  let c4_i32 : BitVec 32 := 4#32
  let v111 : BitVec 32 := Scalar.muli arg2 c4_i32
  let c128_i32_132 : BitVec 32 := 128#32
  let v301 : BitVec 32 := Scalar.muli v111 c128_i32_132
  let v302 : BitVec 32 := v301
  let v303 : Index := Scalar.indexCast v302
  let c0_134 : Index := 0#32
  ![0, v303.toNat, 0]
def k0_mult15 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c128_i32_161 : BitVec 32 := 128#32
  let v404 : BitVec 32 := Scalar.muli v113 c128_i32_161
  v404
def k0_off6 (i : grid0.Coords) : Fin 3 → Nat :=
  let c0_162 : Index := 0#32
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c128_i32_161 : BitVec 32 := 128#32
  let v404 : BitVec 32 := Scalar.muli v113 c128_i32_161
  let v405 : BitVec 32 := v404
  let v406 : Index := Scalar.indexCast v405
  let c0_163 : Index := 0#32
  ![0, v406.toNat, 0]
def k0_cond3 (i : grid0.Coords) : BitVec 1 :=
  let arg2 : BitVec 32 := BitVec.ofNat 32 (i 2).val
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let c0_i32_14 : BitVec 32 := 0#32
  let v39 : BitVec 1 := Scalar.cmpi .eq v29 c0_i32_14
  let c1_i32_15 : BitVec 32 := 1#32
  let v40 : BitVec 1 := Scalar.cmpi .sgt arg2 c1_i32_15
  let v41 : BitVec 1 := Scalar.andi v39 v40
  let v42 : BitVec 32 := Scalar.extui v41
  let c0_i32_16 : BitVec 32 := 0#32
  let v43 : BitVec 1 := Scalar.cmpi .ne v42 c0_i32_16
  v43

def k0_mult16 (i : grid0.Coords) : BitVec 32 :=
  let arg2 : BitVec 32 := BitVec.ofNat 32 (i 2).val
  let c4_i32 : BitVec 32 := 4#32
  let v111 : BitVec 32 := Scalar.muli arg2 c4_i32
  let c2_i32_56 : BitVec 32 := 2#32
  let v116 : BitVec 32 := Scalar.addi v111 c2_i32_56
  let c128_i32 : BitVec 32 := 128#32
  let v117 : BitVec 32 := Scalar.muli v116 c128_i32
  v117
def k0_off7 (i : grid0.Coords) (c2_i32_56 : BitVec 32) : Fin 3 → Nat :=
  let c0_57 : Index := 0#32
  let c0_58 : Index := 0#32
  let arg2 : BitVec 32 := BitVec.ofNat 32 (i 2).val
  let c4_i32 : BitVec 32 := 4#32
  let v111 : BitVec 32 := Scalar.muli arg2 c4_i32
  let v116 : BitVec 32 := Scalar.addi v111 c2_i32_56
  let c128_i32 : BitVec 32 := 128#32
  let v117 : BitVec 32 := Scalar.muli v116 c128_i32
  let v118 : BitVec 32 := v117
  let v119 : Index := Scalar.indexCast v118
  ![0, 0, v119.toNat]
def k0_mult17 (i : grid0.Coords) : BitVec 32 :=
  let arg2 : BitVec 32 := BitVec.ofNat 32 (i 2).val
  let c4_i32 : BitVec 32 := 4#32
  let v111 : BitVec 32 := Scalar.muli arg2 c4_i32
  let c2_i32_60 : BitVec 32 := 2#32
  let v124 : BitVec 32 := Scalar.addi v111 c2_i32_60
  let c128_i32_61 : BitVec 32 := 128#32
  let v125 : BitVec 32 := Scalar.muli v124 c128_i32_61
  v125
def k0_mult18 (i : grid0.Coords) : BitVec 32 :=
  let arg2 : BitVec 32 := BitVec.ofNat 32 (i 2).val
  let c4_i32 : BitVec 32 := 4#32
  let v111 : BitVec 32 := Scalar.muli arg2 c4_i32
  let c0_i32_65 : BitVec 32 := 0#32
  let v132 : BitVec 32 := Scalar.addi v111 c0_i32_65
  let c128_i32_66 : BitVec 32 := 128#32
  let v133 : BitVec 32 := Scalar.muli v132 c128_i32_66
  v133
def k0_mult19 (i : grid0.Coords) : BitVec 32 :=
  let arg2 : BitVec 32 := BitVec.ofNat 32 (i 2).val
  let c4_i32 : BitVec 32 := 4#32
  let v111 : BitVec 32 := Scalar.muli arg2 c4_i32
  let c0_i32_70 : BitVec 32 := 0#32
  let v139 : BitVec 32 := Scalar.addi v111 c0_i32_70
  let c128_i32_71 : BitVec 32 := 128#32
  let v140 : BitVec 32 := Scalar.muli v139 c128_i32_71
  v140
def k0_mult20 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c2_i32_86 : BitVec 32 := 2#32
  let v172 : BitVec 32 := Scalar.addi v113 c2_i32_86
  let c128_i32_87 : BitVec 32 := 128#32
  let v173 : BitVec 32 := Scalar.muli v172 c128_i32_87
  v173
def k0_off8 (i : grid0.Coords) (c1_i32_52 : BitVec 32) (c2_i32_86 : BitVec 32) : Fin 3 → Nat :=
  let c0_88 : Index := 0#32
  let c0_89 : Index := 0#32
  let arg2 : BitVec 32 := BitVec.ofNat 32 (i 2).val
  let v112 : BitVec 32 := Scalar.subi arg2 c1_i32_52
  let c4_i32_53 : BitVec 32 := 4#32
  let v113 : BitVec 32 := Scalar.muli v112 c4_i32_53
  let v172 : BitVec 32 := Scalar.addi v113 c2_i32_86
  let c128_i32_87 : BitVec 32 := 128#32
  let v173 : BitVec 32 := Scalar.muli v172 c128_i32_87
  let v174 : BitVec 32 := v173
  let v175 : Index := Scalar.indexCast v174
  ![0, 0, v175.toNat]
def k0_mult21 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c2_i32_98 : BitVec 32 := 2#32
  let v197 : BitVec 32 := Scalar.addi v113 c2_i32_98
  let c128_i32_99 : BitVec 32 := 128#32
  let v198 : BitVec 32 := Scalar.muli v197 c128_i32_99
  v198
def k0_mult22 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c0_i32_115 : BitVec 32 := 0#32
  let v253 : BitVec 32 := Scalar.addi v113 c0_i32_115
  let c128_i32_116 : BitVec 32 := 128#32
  let v254 : BitVec 32 := Scalar.muli v253 c128_i32_116
  v254
def k0_mult23 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c0_i32_127 : BitVec 32 := 0#32
  let v278 : BitVec 32 := Scalar.addi v113 c0_i32_127
  let c128_i32_128 : BitVec 32 := 128#32
  let v279 : BitVec 32 := Scalar.muli v278 c128_i32_128
  v279
def k0_mult24 (i : grid0.Coords) : BitVec 32 :=
  let arg2 : BitVec 32 := BitVec.ofNat 32 (i 2).val
  let c4_i32 : BitVec 32 := 4#32
  let v111 : BitVec 32 := Scalar.muli arg2 c4_i32
  let c128_i32_134 : BitVec 32 := 128#32
  let v303 : BitVec 32 := Scalar.muli v111 c128_i32_134
  v303
def k0_off9 (i : grid0.Coords) : Fin 3 → Nat :=
  let c0_135 : Index := 0#32
  let arg2 : BitVec 32 := BitVec.ofNat 32 (i 2).val
  let c4_i32 : BitVec 32 := 4#32
  let v111 : BitVec 32 := Scalar.muli arg2 c4_i32
  let c128_i32_134 : BitVec 32 := 128#32
  let v303 : BitVec 32 := Scalar.muli v111 c128_i32_134
  let v304 : BitVec 32 := v303
  let v305 : Index := Scalar.indexCast v304
  let c0_136 : Index := 0#32
  ![0, v305.toNat, 0]
def k0_mult25 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c2_i32_145 : BitVec 32 := 2#32
  let v330 : BitVec 32 := Scalar.addi v115 c2_i32_145
  let c128_i32_146 : BitVec 32 := 128#32
  let v331 : BitVec 32 := Scalar.muli v330 c128_i32_146
  v331
def k0_mult26 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c2_i32_156 : BitVec 32 := 2#32
  let v353 : BitVec 32 := Scalar.addi v115 c2_i32_156
  let c128_i32_157 : BitVec 32 := 128#32
  let v354 : BitVec 32 := Scalar.muli v353 c128_i32_157
  v354
def k0_mult27 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c0_i32_167 : BitVec 32 := 0#32
  let v390 : BitVec 32 := Scalar.addi v115 c0_i32_167
  let c128_i32_168 : BitVec 32 := 128#32
  let v391 : BitVec 32 := Scalar.muli v390 c128_i32_168
  v391
def k0_mult28 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c0_i32_178 : BitVec 32 := 0#32
  let v413 : BitVec 32 := Scalar.addi v115 c0_i32_178
  let c128_i32_179 : BitVec 32 := 128#32
  let v414 : BitVec 32 := Scalar.muli v413 c128_i32_179
  v414
def k0_mult29 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c128_i32_183 : BitVec 32 := 128#32
  let v434 : BitVec 32 := Scalar.muli v113 c128_i32_183
  v434
def k0_off10 (i : grid0.Coords) (c1_i32_52 : BitVec 32) : Fin 3 → Nat :=
  let c0_184 : Index := 0#32
  let arg2 : BitVec 32 := BitVec.ofNat 32 (i 2).val
  let v112 : BitVec 32 := Scalar.subi arg2 c1_i32_52
  let c4_i32_53 : BitVec 32 := 4#32
  let v113 : BitVec 32 := Scalar.muli v112 c4_i32_53
  let c128_i32_183 : BitVec 32 := 128#32
  let v434 : BitVec 32 := Scalar.muli v113 c128_i32_183
  let v435 : BitVec 32 := v434
  let v436 : Index := Scalar.indexCast v435
  let c0_185 : Index := 0#32
  ![0, v436.toNat, 0]
def k0_mult30 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c128_i32_212 : BitVec 32 := 128#32
  let v537 : BitVec 32 := Scalar.muli v115 c128_i32_212
  v537
def k0_cond4 (i : grid0.Coords) : BitVec 1 :=
  let arg2 : BitVec 32 := BitVec.ofNat 32 (i 2).val
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let c1_i32_17 : BitVec 32 := 1#32
  let v44 : BitVec 1 := Scalar.cmpi .eq v29 c1_i32_17
  let c1_i32_18 : BitVec 32 := 1#32
  let v45 : BitVec 1 := Scalar.cmpi .sgt arg2 c1_i32_18
  let v46 : BitVec 1 := Scalar.andi v44 v45
  let v47 : BitVec 32 := Scalar.extui v46
  let c0_i32_19 : BitVec 32 := 0#32
  let v48 : BitVec 1 := Scalar.cmpi .ne v47 c0_i32_19
  v48

def k0_mult31 (i : grid0.Coords) : BitVec 32 :=
  let arg2 : BitVec 32 := BitVec.ofNat 32 (i 2).val
  let c4_i32 : BitVec 32 := 4#32
  let v111 : BitVec 32 := Scalar.muli arg2 c4_i32
  let c2_i32_57 : BitVec 32 := 2#32
  let v118 : BitVec 32 := Scalar.addi v111 c2_i32_57
  let c128_i32 : BitVec 32 := 128#32
  let v119 : BitVec 32 := Scalar.muli v118 c128_i32
  v119
def k0_off11 (i : grid0.Coords) (c2_i32_57 : BitVec 32) : Fin 3 → Nat :=
  let c0_58 : Index := 0#32
  let c0_59 : Index := 0#32
  let arg2 : BitVec 32 := BitVec.ofNat 32 (i 2).val
  let c4_i32 : BitVec 32 := 4#32
  let v111 : BitVec 32 := Scalar.muli arg2 c4_i32
  let v118 : BitVec 32 := Scalar.addi v111 c2_i32_57
  let c128_i32 : BitVec 32 := 128#32
  let v119 : BitVec 32 := Scalar.muli v118 c128_i32
  let v120 : BitVec 32 := v119
  let v121 : Index := Scalar.indexCast v120
  ![0, 0, v121.toNat]
def k0_mult32 (i : grid0.Coords) : BitVec 32 :=
  let arg2 : BitVec 32 := BitVec.ofNat 32 (i 2).val
  let c4_i32 : BitVec 32 := 4#32
  let v111 : BitVec 32 := Scalar.muli arg2 c4_i32
  let c2_i32_61 : BitVec 32 := 2#32
  let v126 : BitVec 32 := Scalar.addi v111 c2_i32_61
  let c128_i32_62 : BitVec 32 := 128#32
  let v127 : BitVec 32 := Scalar.muli v126 c128_i32_62
  v127
def k0_mult33 (i : grid0.Coords) : BitVec 32 :=
  let arg2 : BitVec 32 := BitVec.ofNat 32 (i 2).val
  let c4_i32 : BitVec 32 := 4#32
  let v111 : BitVec 32 := Scalar.muli arg2 c4_i32
  let c0_i32_66 : BitVec 32 := 0#32
  let v134 : BitVec 32 := Scalar.addi v111 c0_i32_66
  let c128_i32_67 : BitVec 32 := 128#32
  let v135 : BitVec 32 := Scalar.muli v134 c128_i32_67
  v135
def k0_mult34 (i : grid0.Coords) : BitVec 32 :=
  let arg2 : BitVec 32 := BitVec.ofNat 32 (i 2).val
  let c4_i32 : BitVec 32 := 4#32
  let v111 : BitVec 32 := Scalar.muli arg2 c4_i32
  let c0_i32_71 : BitVec 32 := 0#32
  let v141 : BitVec 32 := Scalar.addi v111 c0_i32_71
  let c128_i32_72 : BitVec 32 := 128#32
  let v142 : BitVec 32 := Scalar.muli v141 c128_i32_72
  v142
def k0_mult35 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c2_i32_87 : BitVec 32 := 2#32
  let v174 : BitVec 32 := Scalar.addi v113 c2_i32_87
  let c128_i32_88 : BitVec 32 := 128#32
  let v175 : BitVec 32 := Scalar.muli v174 c128_i32_88
  v175
def k0_off12 (i : grid0.Coords) (c1_i32_52 : BitVec 32) (c2_i32_87 : BitVec 32) : Fin 3 → Nat :=
  let c0_89 : Index := 0#32
  let c0_90 : Index := 0#32
  let arg2 : BitVec 32 := BitVec.ofNat 32 (i 2).val
  let v112 : BitVec 32 := Scalar.subi arg2 c1_i32_52
  let c4_i32_53 : BitVec 32 := 4#32
  let v113 : BitVec 32 := Scalar.muli v112 c4_i32_53
  let v174 : BitVec 32 := Scalar.addi v113 c2_i32_87
  let c128_i32_88 : BitVec 32 := 128#32
  let v175 : BitVec 32 := Scalar.muli v174 c128_i32_88
  let v176 : BitVec 32 := v175
  let v177 : Index := Scalar.indexCast v176
  ![0, 0, v177.toNat]
def k0_mult36 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c2_i32_99 : BitVec 32 := 2#32
  let v199 : BitVec 32 := Scalar.addi v113 c2_i32_99
  let c128_i32_100 : BitVec 32 := 128#32
  let v200 : BitVec 32 := Scalar.muli v199 c128_i32_100
  v200
def k0_mult37 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c0_i32_116 : BitVec 32 := 0#32
  let v255 : BitVec 32 := Scalar.addi v113 c0_i32_116
  let c128_i32_117 : BitVec 32 := 128#32
  let v256 : BitVec 32 := Scalar.muli v255 c128_i32_117
  v256
def k0_mult38 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c0_i32_128 : BitVec 32 := 0#32
  let v280 : BitVec 32 := Scalar.addi v113 c0_i32_128
  let c128_i32_129 : BitVec 32 := 128#32
  let v281 : BitVec 32 := Scalar.muli v280 c128_i32_129
  v281
def k0_mult39 (i : grid0.Coords) : BitVec 32 :=
  let arg2 : BitVec 32 := BitVec.ofNat 32 (i 2).val
  let c4_i32 : BitVec 32 := 4#32
  let v111 : BitVec 32 := Scalar.muli arg2 c4_i32
  let c128_i32_135 : BitVec 32 := 128#32
  let v305 : BitVec 32 := Scalar.muli v111 c128_i32_135
  v305
def k0_off13 (i : grid0.Coords) : Fin 3 → Nat :=
  let c0_136 : Index := 0#32
  let arg2 : BitVec 32 := BitVec.ofNat 32 (i 2).val
  let c4_i32 : BitVec 32 := 4#32
  let v111 : BitVec 32 := Scalar.muli arg2 c4_i32
  let c128_i32_135 : BitVec 32 := 128#32
  let v305 : BitVec 32 := Scalar.muli v111 c128_i32_135
  let v306 : BitVec 32 := v305
  let v307 : Index := Scalar.indexCast v306
  let c0_137 : Index := 0#32
  ![0, v307.toNat, 0]
def k0_mult40 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c2_i32_146 : BitVec 32 := 2#32
  let v332 : BitVec 32 := Scalar.addi v115 c2_i32_146
  let c128_i32_147 : BitVec 32 := 128#32
  let v333 : BitVec 32 := Scalar.muli v332 c128_i32_147
  v333
def k0_mult41 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c2_i32_157 : BitVec 32 := 2#32
  let v355 : BitVec 32 := Scalar.addi v115 c2_i32_157
  let c128_i32_158 : BitVec 32 := 128#32
  let v356 : BitVec 32 := Scalar.muli v355 c128_i32_158
  v356
def k0_mult42 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c0_i32_168 : BitVec 32 := 0#32
  let v392 : BitVec 32 := Scalar.addi v115 c0_i32_168
  let c128_i32_169 : BitVec 32 := 128#32
  let v393 : BitVec 32 := Scalar.muli v392 c128_i32_169
  v393
def k0_mult43 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c0_i32_179 : BitVec 32 := 0#32
  let v415 : BitVec 32 := Scalar.addi v115 c0_i32_179
  let c128_i32_180 : BitVec 32 := 128#32
  let v416 : BitVec 32 := Scalar.muli v415 c128_i32_180
  v416
def k0_mult44 (i : grid0.Coords) : BitVec 32 :=
  let arg2 : BitVec 32 := BitVec.ofNat 32 (i 2).val
  let c1_i32_52 : BitVec 32 := 1#32
  let v112 : BitVec 32 := Scalar.subi arg2 c1_i32_52
  let c4_i32_53 : BitVec 32 := 4#32
  let v113 : BitVec 32 := Scalar.muli v112 c4_i32_53
  let c128_i32_184 : BitVec 32 := 128#32
  let v436 : BitVec 32 := Scalar.muli v113 c128_i32_184
  v436
def k0_off14 (i : grid0.Coords) (c1_i32_52 : BitVec 32) : Fin 3 → Nat :=
  let c0_185 : Index := 0#32
  let arg2 : BitVec 32 := BitVec.ofNat 32 (i 2).val
  let v112 : BitVec 32 := Scalar.subi arg2 c1_i32_52
  let c4_i32_53 : BitVec 32 := 4#32
  let v113 : BitVec 32 := Scalar.muli v112 c4_i32_53
  let c128_i32_184 : BitVec 32 := 128#32
  let v436 : BitVec 32 := Scalar.muli v113 c128_i32_184
  let v437 : BitVec 32 := v436
  let v438 : Index := Scalar.indexCast v437
  let c0_186 : Index := 0#32
  ![0, v438.toNat, 0]
def k0_mult45 (i : grid0.Coords) : BitVec 32 :=
  let arg2 : BitVec 32 := BitVec.ofNat 32 (i 2).val
  let c3_i32 : BitVec 32 := 3#32
  let v116 : BitVec 32 := Scalar.subi arg2 c3_i32
  let c4_i32_56 : BitVec 32 := 4#32
  let v117 : BitVec 32 := Scalar.muli v116 c4_i32_56
  let c2_i32_195 : BitVec 32 := 2#32
  let v463 : BitVec 32 := Scalar.addi v117 c2_i32_195
  let c128_i32_196 : BitVec 32 := 128#32
  let v464 : BitVec 32 := Scalar.muli v463 c128_i32_196
  v464
def k0_mult46 (i : grid0.Coords) : BitVec 32 :=
  let arg2 : BitVec 32 := BitVec.ofNat 32 (i 2).val
  let c3_i32 : BitVec 32 := 3#32
  let v116 : BitVec 32 := Scalar.subi arg2 c3_i32
  let c4_i32_56 : BitVec 32 := 4#32
  let v117 : BitVec 32 := Scalar.muli v116 c4_i32_56
  let c2_i32_206 : BitVec 32 := 2#32
  let v486 : BitVec 32 := Scalar.addi v117 c2_i32_206
  let c128_i32_207 : BitVec 32 := 128#32
  let v487 : BitVec 32 := Scalar.muli v486 c128_i32_207
  v487
def k0_mult47 (i : grid0.Coords) : BitVec 32 :=
  let arg2 : BitVec 32 := BitVec.ofNat 32 (i 2).val
  let c3_i32 : BitVec 32 := 3#32
  let v116 : BitVec 32 := Scalar.subi arg2 c3_i32
  let c4_i32_56 : BitVec 32 := 4#32
  let v117 : BitVec 32 := Scalar.muli v116 c4_i32_56
  let c0_i32_217 : BitVec 32 := 0#32
  let v523 : BitVec 32 := Scalar.addi v117 c0_i32_217
  let c128_i32_218 : BitVec 32 := 128#32
  let v524 : BitVec 32 := Scalar.muli v523 c128_i32_218
  v524
def k0_mult48 (i : grid0.Coords) : BitVec 32 :=
  let arg2 : BitVec 32 := BitVec.ofNat 32 (i 2).val
  let c3_i32 : BitVec 32 := 3#32
  let v116 : BitVec 32 := Scalar.subi arg2 c3_i32
  let c4_i32_56 : BitVec 32 := 4#32
  let v117 : BitVec 32 := Scalar.muli v116 c4_i32_56
  let c0_i32_228 : BitVec 32 := 0#32
  let v546 : BitVec 32 := Scalar.addi v117 c0_i32_228
  let c128_i32_229 : BitVec 32 := 128#32
  let v547 : BitVec 32 := Scalar.muli v546 c128_i32_229
  v547
def k0_mult49 (i : grid0.Coords) : BitVec 32 :=
  let arg2 : BitVec 32 := BitVec.ofNat 32 (i 2).val
  let c2_i32_54 : BitVec 32 := 2#32
  let v114 : BitVec 32 := Scalar.subi arg2 c2_i32_54
  let c4_i32_55 : BitVec 32 := 4#32
  let v115 : BitVec 32 := Scalar.muli v114 c4_i32_55
  let c128_i32_233 : BitVec 32 := 128#32
  let v567 : BitVec 32 := Scalar.muli v115 c128_i32_233
  v567
def k0_mult50 (i : grid0.Coords) : BitVec 32 :=
  let arg2 : BitVec 32 := BitVec.ofNat 32 (i 2).val
  let c3_i32 : BitVec 32 := 3#32
  let v116 : BitVec 32 := Scalar.subi arg2 c3_i32
  let c4_i32_56 : BitVec 32 := 4#32
  let v117 : BitVec 32 := Scalar.muli v116 c4_i32_56
  let c128_i32_262 : BitVec 32 := 128#32
  let v670 : BitVec 32 := Scalar.muli v117 c128_i32_262
  v670
@[reducible] def k0_t1_loop (i : grid0.Coords) : Scf.Loop 32 :=
  let c0_i32_29 : BitVec 32 := 0#32
  let arg2 : BitVec 32 := BitVec.ofNat 32 (i 2).val
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_31 : BitVec 32 := 1#32
  ⟨c0_i32_29, v73, c1_i32_31⟩
def k0_mult51 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let c1_i32_31 : BitVec 32 := 1#32
  let arg11 : BitVec 32 := Scf.iv c0_i32_29 c1_i32_31 k0_t1
  let v111 : BitVec 32 := Scalar.muli c2_i32_52 arg11
  let v112 : BitVec 32 := Scalar.subi v50 v111
  let c4_i32 : BitVec 32 := 4#32
  let v113 : BitVec 32 := Scalar.muli v112 c4_i32
  let c2_i32_56 : BitVec 32 := 2#32
  let v118 : BitVec 32 := Scalar.addi v113 c2_i32_56
  let c128_i32 : BitVec 32 := 128#32
  let v119 : BitVec 32 := Scalar.muli v118 c128_i32
  v119
def k0_off15 (i : grid0.Coords) (k0_t1 : Fin (k0_t1_loop i).trips) (c2_i32_56 : BitVec 32) : Fin 3 → Nat :=
  let c0_57 : Index := 0#32
  let c0_58 : Index := 0#32
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let c1_i32_31 : BitVec 32 := 1#32
  let arg11 : BitVec 32 := Scf.iv c0_i32_29 c1_i32_31 k0_t1
  let v111 : BitVec 32 := Scalar.muli c2_i32_52 arg11
  let v112 : BitVec 32 := Scalar.subi v50 v111
  let c4_i32 : BitVec 32 := 4#32
  let v113 : BitVec 32 := Scalar.muli v112 c4_i32
  let v118 : BitVec 32 := Scalar.addi v113 c2_i32_56
  let c128_i32 : BitVec 32 := 128#32
  let v119 : BitVec 32 := Scalar.muli v118 c128_i32
  let v120 : BitVec 32 := v119
  let v121 : Index := Scalar.indexCast v120
  ![0, 0, v121.toNat]
def k0_mult52 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let c1_i32_31 : BitVec 32 := 1#32
  let arg11 : BitVec 32 := Scf.iv c0_i32_29 c1_i32_31 k0_t1
  let v111 : BitVec 32 := Scalar.muli c2_i32_52 arg11
  let v112 : BitVec 32 := Scalar.subi v50 v111
  let c4_i32 : BitVec 32 := 4#32
  let v113 : BitVec 32 := Scalar.muli v112 c4_i32
  let c2_i32_60 : BitVec 32 := 2#32
  let v125 : BitVec 32 := Scalar.addi v113 c2_i32_60
  let c128_i32_61 : BitVec 32 := 128#32
  let v126 : BitVec 32 := Scalar.muli v125 c128_i32_61
  v126
def k0_mult53 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let c1_i32_31 : BitVec 32 := 1#32
  let arg11 : BitVec 32 := Scf.iv c0_i32_29 c1_i32_31 k0_t1
  let v111 : BitVec 32 := Scalar.muli c2_i32_52 arg11
  let v112 : BitVec 32 := Scalar.subi v50 v111
  let c4_i32 : BitVec 32 := 4#32
  let v113 : BitVec 32 := Scalar.muli v112 c4_i32
  let c0_i32_65 : BitVec 32 := 0#32
  let v132 : BitVec 32 := Scalar.addi v113 c0_i32_65
  let c128_i32_66 : BitVec 32 := 128#32
  let v133 : BitVec 32 := Scalar.muli v132 c128_i32_66
  v133
def k0_mult54 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let c1_i32_31 : BitVec 32 := 1#32
  let arg11 : BitVec 32 := Scf.iv c0_i32_29 c1_i32_31 k0_t1
  let v111 : BitVec 32 := Scalar.muli c2_i32_52 arg11
  let v112 : BitVec 32 := Scalar.subi v50 v111
  let c4_i32 : BitVec 32 := 4#32
  let v113 : BitVec 32 := Scalar.muli v112 c4_i32
  let c0_i32_70 : BitVec 32 := 0#32
  let v139 : BitVec 32 := Scalar.addi v113 c0_i32_70
  let c128_i32_71 : BitVec 32 := 128#32
  let v140 : BitVec 32 := Scalar.muli v139 c128_i32_71
  v140
def k0_mult55 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let c1_i32_31 : BitVec 32 := 1#32
  let arg11 : BitVec 32 := Scf.iv c0_i32_29 c1_i32_31 k0_t1
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c2_i32_93 : BitVec 32 := 2#32
  let v170 : BitVec 32 := Scalar.addi v117 c2_i32_93
  let c128_i32_94 : BitVec 32 := 128#32
  let v171 : BitVec 32 := Scalar.muli v170 c128_i32_94
  v171
def k0_off16 (i : grid0.Coords) (k0_t1 : Fin (k0_t1_loop i).trips) (c2_i32_93 : BitVec 32) : Fin 3 → Nat :=
  let c0_95 : Index := 0#32
  let c0_96 : Index := 0#32
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let c1_i32_31 : BitVec 32 := 1#32
  let arg11 : BitVec 32 := Scf.iv c0_i32_29 c1_i32_31 k0_t1
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let v170 : BitVec 32 := Scalar.addi v117 c2_i32_93
  let c128_i32_94 : BitVec 32 := 128#32
  let v171 : BitVec 32 := Scalar.muli v170 c128_i32_94
  let v172 : BitVec 32 := v171
  let v173 : Index := Scalar.indexCast v172
  ![0, 0, v173.toNat]
def k0_mult56 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let c1_i32_31 : BitVec 32 := 1#32
  let arg11 : BitVec 32 := Scf.iv c0_i32_29 c1_i32_31 k0_t1
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c2_i32_104 : BitVec 32 := 2#32
  let v193 : BitVec 32 := Scalar.addi v117 c2_i32_104
  let c128_i32_105 : BitVec 32 := 128#32
  let v194 : BitVec 32 := Scalar.muli v193 c128_i32_105
  v194
def k0_mult57 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let c1_i32_31 : BitVec 32 := 1#32
  let arg11 : BitVec 32 := Scf.iv c0_i32_29 c1_i32_31 k0_t1
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c0_i32_115 : BitVec 32 := 0#32
  let v230 : BitVec 32 := Scalar.addi v117 c0_i32_115
  let c128_i32_116 : BitVec 32 := 128#32
  let v231 : BitVec 32 := Scalar.muli v230 c128_i32_116
  v231
def k0_mult58 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let c1_i32_31 : BitVec 32 := 1#32
  let arg11 : BitVec 32 := Scf.iv c0_i32_29 c1_i32_31 k0_t1
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c0_i32_126 : BitVec 32 := 0#32
  let v253 : BitVec 32 := Scalar.addi v117 c0_i32_126
  let c128_i32_127 : BitVec 32 := 128#32
  let v254 : BitVec 32 := Scalar.muli v253 c128_i32_127
  v254
def k0_mult59 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let c1_i32_31 : BitVec 32 := 1#32
  let arg11 : BitVec 32 := Scf.iv c0_i32_29 c1_i32_31 k0_t1
  let v111 : BitVec 32 := Scalar.muli c2_i32_52 arg11
  let v112 : BitVec 32 := Scalar.subi v50 v111
  let c4_i32 : BitVec 32 := 4#32
  let v113 : BitVec 32 := Scalar.muli v112 c4_i32
  let c128_i32_131 : BitVec 32 := 128#32
  let v274 : BitVec 32 := Scalar.muli v113 c128_i32_131
  v274
def k0_off17 (i : grid0.Coords) (k0_t1 : Fin (k0_t1_loop i).trips) : Fin 3 → Nat :=
  let c0_132 : Index := 0#32
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let c1_i32_31 : BitVec 32 := 1#32
  let arg11 : BitVec 32 := Scf.iv c0_i32_29 c1_i32_31 k0_t1
  let v111 : BitVec 32 := Scalar.muli c2_i32_52 arg11
  let v112 : BitVec 32 := Scalar.subi v50 v111
  let c4_i32 : BitVec 32 := 4#32
  let v113 : BitVec 32 := Scalar.muli v112 c4_i32
  let c128_i32_131 : BitVec 32 := 128#32
  let v274 : BitVec 32 := Scalar.muli v113 c128_i32_131
  let v275 : BitVec 32 := v274
  let v276 : Index := Scalar.indexCast v275
  let c0_133 : Index := 0#32
  ![0, v276.toNat, 0]
def k0_mult60 (i : grid0.Coords) (k0_t1 : Fin (k0_t1_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let c1_i32_31 : BitVec 32 := 1#32
  let arg11 : BitVec 32 := Scf.iv c0_i32_29 c1_i32_31 k0_t1
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c128_i32_160 : BitVec 32 := 128#32
  let v377 : BitVec 32 := Scalar.muli v117 c128_i32_160
  v377
def k0_off18 (i : grid0.Coords) (k0_t1 : Fin (k0_t1_loop i).trips) : Fin 3 → Nat :=
  let c0_161 : Index := 0#32
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let c1_i32_31 : BitVec 32 := 1#32
  let arg11 : BitVec 32 := Scf.iv c0_i32_29 c1_i32_31 k0_t1
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c128_i32_160 : BitVec 32 := 128#32
  let v377 : BitVec 32 := Scalar.muli v117 c128_i32_160
  let v378 : BitVec 32 := v377
  let v379 : Index := Scalar.indexCast v378
  let c0_162 : Index := 0#32
  ![0, v379.toNat, 0]
@[reducible] def k0_t2_loop (i : grid0.Coords) : Scf.Loop 32 :=
  let c0_i32_29 : BitVec 32 := 0#32
  let arg2 : BitVec 32 := BitVec.ofNat 32 (i 2).val
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let v70 : BitVec 32 := Scalar.addi c0_i32_29 v69
  let c1_i32_32 : BitVec 32 := 1#32
  ⟨v73, v70, c1_i32_32⟩
def k0_mult61 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v111 : BitVec 32 := Scalar.muli c2_i32_52 arg11
  let v112 : BitVec 32 := Scalar.subi v50 v111
  let c4_i32 : BitVec 32 := 4#32
  let v113 : BitVec 32 := Scalar.muli v112 c4_i32
  let c2_i32_56 : BitVec 32 := 2#32
  let v118 : BitVec 32 := Scalar.addi v113 c2_i32_56
  let c128_i32 : BitVec 32 := 128#32
  let v119 : BitVec 32 := Scalar.muli v118 c128_i32
  v119
def k0_off19 (i : grid0.Coords) (k0_t2 : Fin (k0_t2_loop i).trips) (c2_i32_56 : BitVec 32) : Fin 3 → Nat :=
  let c0_57 : Index := 0#32
  let c0_58 : Index := 0#32
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v111 : BitVec 32 := Scalar.muli c2_i32_52 arg11
  let v112 : BitVec 32 := Scalar.subi v50 v111
  let c4_i32 : BitVec 32 := 4#32
  let v113 : BitVec 32 := Scalar.muli v112 c4_i32
  let v118 : BitVec 32 := Scalar.addi v113 c2_i32_56
  let c128_i32 : BitVec 32 := 128#32
  let v119 : BitVec 32 := Scalar.muli v118 c128_i32
  let v120 : BitVec 32 := v119
  let v121 : Index := Scalar.indexCast v120
  ![0, 0, v121.toNat]
def k0_mult62 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v111 : BitVec 32 := Scalar.muli c2_i32_52 arg11
  let v112 : BitVec 32 := Scalar.subi v50 v111
  let c4_i32 : BitVec 32 := 4#32
  let v113 : BitVec 32 := Scalar.muli v112 c4_i32
  let c2_i32_60 : BitVec 32 := 2#32
  let v125 : BitVec 32 := Scalar.addi v113 c2_i32_60
  let c128_i32_61 : BitVec 32 := 128#32
  let v126 : BitVec 32 := Scalar.muli v125 c128_i32_61
  v126
def k0_mult63 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v111 : BitVec 32 := Scalar.muli c2_i32_52 arg11
  let v112 : BitVec 32 := Scalar.subi v50 v111
  let c4_i32 : BitVec 32 := 4#32
  let v113 : BitVec 32 := Scalar.muli v112 c4_i32
  let c0_i32_65 : BitVec 32 := 0#32
  let v132 : BitVec 32 := Scalar.addi v113 c0_i32_65
  let c128_i32_66 : BitVec 32 := 128#32
  let v133 : BitVec 32 := Scalar.muli v132 c128_i32_66
  v133
def k0_mult64 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v111 : BitVec 32 := Scalar.muli c2_i32_52 arg11
  let v112 : BitVec 32 := Scalar.subi v50 v111
  let c4_i32 : BitVec 32 := 4#32
  let v113 : BitVec 32 := Scalar.muli v112 c4_i32
  let c0_i32_70 : BitVec 32 := 0#32
  let v139 : BitVec 32 := Scalar.addi v113 c0_i32_70
  let c128_i32_71 : BitVec 32 := 128#32
  let v140 : BitVec 32 := Scalar.muli v139 c128_i32_71
  v140
def k0_mult65 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c2_i32_93 : BitVec 32 := 2#32
  let v170 : BitVec 32 := Scalar.addi v117 c2_i32_93
  let c128_i32_94 : BitVec 32 := 128#32
  let v171 : BitVec 32 := Scalar.muli v170 c128_i32_94
  v171
def k0_off20 (i : grid0.Coords) (k0_t2 : Fin (k0_t2_loop i).trips) (c2_i32_93 : BitVec 32) : Fin 3 → Nat :=
  let c0_95 : Index := 0#32
  let c0_96 : Index := 0#32
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let v170 : BitVec 32 := Scalar.addi v117 c2_i32_93
  let c128_i32_94 : BitVec 32 := 128#32
  let v171 : BitVec 32 := Scalar.muli v170 c128_i32_94
  let v172 : BitVec 32 := v171
  let v173 : Index := Scalar.indexCast v172
  ![0, 0, v173.toNat]
def k0_mult66 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c2_i32_104 : BitVec 32 := 2#32
  let v193 : BitVec 32 := Scalar.addi v117 c2_i32_104
  let c128_i32_105 : BitVec 32 := 128#32
  let v194 : BitVec 32 := Scalar.muli v193 c128_i32_105
  v194
def k0_mult67 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c0_i32_115 : BitVec 32 := 0#32
  let v230 : BitVec 32 := Scalar.addi v117 c0_i32_115
  let c128_i32_116 : BitVec 32 := 128#32
  let v231 : BitVec 32 := Scalar.muli v230 c128_i32_116
  v231
def k0_mult68 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c0_i32_126 : BitVec 32 := 0#32
  let v253 : BitVec 32 := Scalar.addi v117 c0_i32_126
  let c128_i32_127 : BitVec 32 := 128#32
  let v254 : BitVec 32 := Scalar.muli v253 c128_i32_127
  v254
def k0_mult69 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v111 : BitVec 32 := Scalar.muli c2_i32_52 arg11
  let v112 : BitVec 32 := Scalar.subi v50 v111
  let c4_i32 : BitVec 32 := 4#32
  let v113 : BitVec 32 := Scalar.muli v112 c4_i32
  let c128_i32_131 : BitVec 32 := 128#32
  let v274 : BitVec 32 := Scalar.muli v113 c128_i32_131
  v274
def k0_off21 (i : grid0.Coords) (k0_t2 : Fin (k0_t2_loop i).trips) : Fin 3 → Nat :=
  let c0_132 : Index := 0#32
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_52 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v111 : BitVec 32 := Scalar.muli c2_i32_52 arg11
  let v112 : BitVec 32 := Scalar.subi v50 v111
  let c4_i32 : BitVec 32 := 4#32
  let v113 : BitVec 32 := Scalar.muli v112 c4_i32
  let c128_i32_131 : BitVec 32 := 128#32
  let v274 : BitVec 32 := Scalar.muli v113 c128_i32_131
  let v275 : BitVec 32 := v274
  let v276 : Index := Scalar.indexCast v275
  let c0_133 : Index := 0#32
  ![0, v276.toNat, 0]
def k0_mult70 (i : grid0.Coords) (k0_t2 : Fin (k0_t2_loop i).trips) : BitVec 32 :=
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c128_i32_160 : BitVec 32 := 128#32
  let v377 : BitVec 32 := Scalar.muli v117 c128_i32_160
  v377
def k0_off22 (i : grid0.Coords) (k0_t2 : Fin (k0_t2_loop i).trips) : Fin 3 → Nat :=
  let c0_161 : Index := 0#32
  let arg2 : BitVec 32 := BitVec.ofNat 32 (i 2).val
  let c1_i32_20 : BitVec 32 := 1#32
  let v49 : BitVec 32 := Scalar.subi arg2 c1_i32_20
  let c1_i32_8 : BitVec 32 := 1#32
  let v30 : BitVec 1 := Scalar.cmpi .sle arg2 c1_i32_8
  let c2_i32_9 : BitVec 32 := 2#32
  let c2_i32 : BitVec 32 := 2#32
  let c0_i32 : BitVec 32 := 0#32
  let v20 : BitVec 1 := Scalar.cmpi .eq c2_i32 c0_i32
  let c1_i32 : BitVec 32 := 1#32
  let v21 : BitVec 32 := Scalar.select v20 c1_i32 c2_i32
  let v22 : BitVec 32 := Scalar.remsi arg2 v21
  let c0_i32_6 : BitVec 32 := 0#32
  let v24 : BitVec 1 := Scalar.cmpi .slt v22 c0_i32_6
  let c0_i32_7 : BitVec 32 := 0#32
  let v25 : BitVec 1 := Scalar.cmpi .slt v21 c0_i32_7
  let v26 : BitVec 1 := Scalar.xori v24 v25
  let c0_i32_5 : BitVec 32 := 0#32
  let v23 : BitVec 1 := Scalar.cmpi .ne v22 c0_i32_5
  let v27 : BitVec 1 := Scalar.andi v26 v23
  let v28 : BitVec 32 := Scalar.addi v22 v21
  let v29 : BitVec 32 := Scalar.select v27 v28 v22
  let v31 : BitVec 32 := Scalar.addi c2_i32_9 v29
  let v32 : BitVec 32 := Scalar.select v30 arg2 v31
  let v50 : BitVec 32 := Scalar.subi v49 v32
  let c2_i32_53 : BitVec 32 := 2#32
  let c0_i32_29 : BitVec 32 := 0#32
  let v51 : BitVec 32 := Scalar.subi arg2 v32
  let c0_i32_22 : BitVec 32 := 0#32
  let v53 : BitVec 1 := Scalar.cmpi .sgt v51 c0_i32_22
  let v54 : BitVec 32 := Scalar.extui v53
  let c0_i32_23 : BitVec 32 := 0#32
  let v55 : BitVec 1 := Scalar.cmpi .slt v51 c0_i32_23
  let v56 : BitVec 32 := Scalar.extui v55
  let v57 : BitVec 32 := Scalar.subi v54 v56
  let c2_i32_21 : BitVec 32 := 2#32
  let c0_i32_24 : BitVec 32 := 0#32
  let v58 : BitVec 1 := Scalar.cmpi .sgt c2_i32_21 c0_i32_24
  let v59 : BitVec 32 := Scalar.extui v58
  let c0_i32_25 : BitVec 32 := 0#32
  let v60 : BitVec 1 := Scalar.cmpi .slt c2_i32_21 c0_i32_25
  let v61 : BitVec 32 := Scalar.extui v60
  let v62 : BitVec 32 := Scalar.subi v59 v61
  let v63 : BitVec 1 := Scalar.cmpi .ne v57 v62
  let v64 : BitVec 32 := Scalar.remsi v51 c2_i32_21
  let c0_i32_26 : BitVec 32 := 0#32
  let v65 : BitVec 1 := Scalar.cmpi .ne v64 c0_i32_26
  let v66 : BitVec 1 := Scalar.andi v63 v65
  let v52 : BitVec 32 := Scalar.divsi v51 c2_i32_21
  let c1_i32_27 : BitVec 32 := 1#32
  let v67 : BitVec 32 := Scalar.subi v52 c1_i32_27
  let v68 : BitVec 32 := Scalar.select v66 v67 v52
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg11 : BitVec 32 := Scf.iv v73 c1_i32_32 k0_t2
  let v114 : BitVec 32 := Scalar.muli c2_i32_53 arg11
  let v115 : BitVec 32 := Scalar.subi v50 v114
  let c1_i32_54 : BitVec 32 := 1#32
  let v116 : BitVec 32 := Scalar.subi v115 c1_i32_54
  let c4_i32_55 : BitVec 32 := 4#32
  let v117 : BitVec 32 := Scalar.muli v116 c4_i32_55
  let c128_i32_160 : BitVec 32 := 128#32
  let v377 : BitVec 32 := Scalar.muli v117 c128_i32_160
  let v378 : BitVec 32 := v377
  let v379 : Index := Scalar.indexCast v378
  let c0_162 : Index := 0#32
  ![0, v379.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8x4096x512 : Shape := ⟨3, ![8, 4096, 512]⟩
abbrev S512 : Shape := ⟨1, ![512]⟩
abbrev S8x4096x8x64 : Shape := ⟨4, ![8, 4096, 8, 64]⟩
abbrev S8x8x4096x64 : Shape := ⟨4, ![8, 8, 4096, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x8 : Shape := ⟨3, ![8, 4096, 8]⟩
abbrev S8x4096x8x1 : Shape := ⟨4, ![8, 4096, 8, 1]⟩
abbrev S1x1x512 : Shape := ⟨3, ![1, 1, 512]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S512, .f32⟩
  | .hbm, ⟨5, _⟩ => ⟨S8x4096x8x64, .f32⟩
  | .hbm, ⟨6, _⟩ => ⟨S8x8x4096x64, .f32⟩
  | .hbm, ⟨7, _⟩ => ⟨S8x4096x8x64, .f32⟩
  | .hbm, ⟨8, _⟩ => ⟨S8x8x4096x64, .f32⟩
  | .hbm, ⟨9, _⟩ => ⟨S8x4096x8x64, .f32⟩
  | .hbm, ⟨10, _⟩ => ⟨S8x8x4096x64, .f32⟩
  | .hbm, ⟨11, _⟩ => ⟨S8x8x4096x4096, .f32⟩
  | .hbm, ⟨12, _⟩ => ⟨S_, .f32⟩
  | .hbm, ⟨13, _⟩ => ⟨S8x8x4096x4096, .f32⟩
  | .hbm, ⟨14, _⟩ => ⟨S8x8x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S_, .f32⟩
  | .hbm, ⟨39, _⟩ => ⟨S8x8x4096x4096, .i1⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S_, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .i1⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S_, .f32⟩
  | .hbm, ⟨65, _⟩ => ⟨S_, .f32⟩
  | .hbm, ⟨66, _⟩ => ⟨S8x8x4096x4096, .i1⟩
  | .hbm, ⟨67, _⟩ => ⟨S8x8x4096x4096, .f32⟩
  | .hbm, ⟨68, _⟩ => ⟨S8x8x4096x4096, .f32⟩
  | .hbm, ⟨69, _⟩ => ⟨S8x8x4096x64, .f32⟩
  | .hbm, ⟨70, _⟩ => ⟨S8x4096x8x64, .f32⟩
  | .hbm, ⟨71, _⟩ => ⟨S8x4096x8x64, .f32⟩
  | .hbm, ⟨72, _⟩ => ⟨S_, .f32⟩
  | .hbm, ⟨73, _⟩ => ⟨S8x4096x8, .f32⟩
  | .hbm, ⟨74, _⟩ => ⟨S8x4096x8x1, .f32⟩
  | .hbm, ⟨75, _⟩ => ⟨S_, .f32⟩
  | .hbm, ⟨76, _⟩ => ⟨S8x4096x8x1, .f32⟩
  | .hbm, ⟨77, _⟩ => ⟨S8x4096x8x1, .f32⟩
  | .hbm, ⟨78, _⟩ => ⟨S_, .f32⟩
  | .hbm, ⟨79, _⟩ => ⟨S8x4096x8x1, .f32⟩
  | .hbm, ⟨80, _⟩ => ⟨S8x4096x8x1, .f32⟩
  | .hbm, ⟨81, _⟩ => ⟨S8x4096x8x1, .f32⟩
  | .hbm, ⟨82, _⟩ => ⟨S8x4096x8x64, .f32⟩
  | .hbm, ⟨83, _⟩ => ⟨S8x4096x8x64, .f32⟩
  | .hbm, ⟨84, _⟩ => ⟨S8x4096x512, .f32⟩
  | .hbm, ⟨85, _⟩ => ⟨S1x1x512, .f32⟩
  | .hbm, ⟨86, _⟩ => ⟨S8x4096x512, .f32⟩
  | .hbm, ⟨87, _⟩ => ⟨S8x4096x512, .f32⟩
  | .hbm, ⟨88, _⟩ => ⟨S8x4096x512, .f32⟩
  | .hbm, ⟨89, _⟩ => ⟨S8x4096x512, .f32⟩
  | .hbm, ⟨90, _⟩ => ⟨S_, .f32⟩
  | .hbm, ⟨91, _⟩ => ⟨S8x4096x512, .f32⟩
  | .hbm, ⟨92, _⟩ => ⟨S8x4096x512, .f32⟩
  | .hbm, ⟨93, _⟩ => ⟨S_, .f32⟩
  | .hbm, ⟨94, _⟩ => ⟨S8x4096x512, .f32⟩
  | .hbm, ⟨95, _⟩ => ⟨S8x4096x512, .f32⟩
  | .hbm, ⟨96, _⟩ => ⟨S8x4096x512, .f32⟩
  | .hbm, ⟨97, _⟩ => ⟨S8x4096x512, .f32⟩
  | .hbm, ⟨98, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_2 : Ref sig .tc := ⟨.hbm, 72, rfl⟩
abbrev main_v28 : Ref sig .tc := ⟨.hbm, 73, rfl⟩
abbrev main_v29 : Ref sig .tc := ⟨.hbm, 74, rfl⟩
abbrev main_cst_3 : Ref sig .tc := ⟨.hbm, 75, rfl⟩
abbrev main_v30 : Ref sig .tc := ⟨.hbm, 76, rfl⟩
abbrev main_v31 : Ref sig .tc := ⟨.hbm, 77, rfl⟩
abbrev main_cst_4 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_call5_v0 : Ref sig .tc := ⟨.hbm, 88, rfl⟩
abbrev main_call5_v1 : Ref sig .tc := ⟨.hbm, 89, rfl⟩
abbrev main_call5_cst : Ref sig .tc := ⟨.hbm, 90, rfl⟩
abbrev main_call5_v2 : Ref sig .tc := ⟨.hbm, 91, rfl⟩
abbrev main_call5_v3 : Ref sig .tc := ⟨.hbm, 92, rfl⟩
abbrev main_call5_cst_0 : Ref sig .tc := ⟨.hbm, 93, rfl⟩
abbrev main_call5_v4 : Ref sig .tc := ⟨.hbm, 94, rfl⟩
abbrev main_call5_v5 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S2x8x4096x256 : Shape := ⟨4, ![2, 8, 4096, 256]⟩
abbrev S2x1024x1024 : Shape := ⟨3, ![2, 1024, 1024]⟩
abbrev S2x1024 : Shape := ⟨2, ![2, 1024]⟩
abbrev S2x256x1024 : Shape := ⟨3, ![2, 256, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x1024x1024 : Shape := ⟨3, ![1, 1024, 1024]⟩
abbrev S1x1x512x256 : Shape := ⟨4, ![1, 1, 512, 256]⟩
abbrev S1x256x1024 : Shape := ⟨3, ![1, 256, 1024]⟩
abbrev S512x1024 : Shape := ⟨2, ![512, 1024]⟩
abbrev S256x1024 : Shape := ⟨2, ![256, 1024]⟩
abbrev S1024x1024 : Shape := ⟨2, ![1024, 1024]⟩
abbrev S1x256x512 : Shape := ⟨3, ![1, 256, 512]⟩
abbrev S256x512 : Shape := ⟨2, ![256, 512]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x8x4096x256, .f32⟩
  | .hbm, ⟨4, _⟩ => ⟨S2x1024x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S2x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1024x1024, .f32⟩
  | .local _ .vmem, ⟨7, _⟩ => ⟨S1x1x512x256, .f32⟩
  | .local _ .vmem, ⟨8, _⟩ => ⟨S1x1x512x256, .f32⟩
  | .local _ .vmem, ⟨9, _⟩ => ⟨S1x256x1024, .f32⟩
  | .local _ .vmem, ⟨10, _⟩ => ⟨S1x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S2x8x4096x256 : Shape := ⟨4, ![2, 8, 4096, 256]⟩
abbrev S2x1024x1024 : Shape := ⟨3, ![2, 1024, 1024]⟩
abbrev S2x1024 : Shape := ⟨2, ![2, 1024]⟩
abbrev S2x256x1024 : Shape := ⟨3, ![2, 256, 1024]⟩
abbrev S1024 : Shape := ⟨1, ![1024]⟩
abbrev S1x1024x1024 : Shape := ⟨3, ![1, 1024, 1024]⟩
abbrev S1024x1024 : Shape := ⟨2, ![1024, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x8x4096x256, .f32⟩
  | .hbm, ⟨4, _⟩ => ⟨S2x1024x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S2x1024, .f32⟩
  | .hbm, ⟨9, _⟩ => ⟨S1024, .f32⟩
  | .hbm, ⟨10, _⟩ => ⟨S8x4096x1024, .bf16⟩
  | .hbm, ⟨11, _⟩ => ⟨S8x4096x1024, .f32⟩
  | .hbm, ⟨12, _⟩ => ⟨S1x1024x1024, .f32⟩
  | .hbm, ⟨13, _⟩ => ⟨S1024x1024, .f32⟩
  | .hbm, ⟨14, _⟩ => ⟨S8x4096x1024, .f32⟩
  | .hbm, ⟨15, _⟩ => ⟨S8x4096x1024, .f32⟩
  | .hbm, ⟨16, _⟩ => ⟨S1x8x4096x256, .f32⟩
  | .hbm, ⟨17, _⟩ => ⟨S8x4096x256, .f32⟩
  | .hbm, ⟨18, _⟩ => ⟨S1x256x1024, .f32⟩
  | .hbm, ⟨19, _⟩ => ⟨S256x1024, .f32⟩
  | .hbm, ⟨20, _⟩ => ⟨S8x4096x1024, .f32⟩
  | .hbm, ⟨21, _⟩ => ⟨S1x1024, .f32⟩
  | .hbm, ⟨22, _⟩ => ⟨S1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S1x1024, .f32⟩
  | .hbm, ⟨40, _⟩ => ⟨S1024, .f32⟩
  | .hbm, ⟨41, _⟩ => ⟨S8x4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S1x1024x1024, .f32⟩
  | .hbm, ⟨58, _⟩ => ⟨S1024x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1, .f32⟩
  | .hbm, ⟨81, _⟩ => ⟨S8x4096x1024, .f32⟩
  | .hbm, ⟨82, _⟩ => ⟨S8x4096x1024, .f32⟩
  | .hbm, ⟨83, _⟩ => ⟨S1x1x1024, .f32⟩
  | .hbm, ⟨84, _⟩ => ⟨S8x4096x1024, .f32⟩
  | .hbm, ⟨85, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x512 : Shape := ⟨2, ![2, 512]⟩
abbrev S1x1024 : Shape := ⟨2, ![1, 1024]⟩
abbrev S1024 : Shape := ⟨1, ![1024]⟩
abbrev S1x512 : Shape := ⟨2, ![1, 512]⟩
abbrev S512 : Shape := ⟨1, ![512]⟩
abbrev S8x4096x512 : Shape := ⟨3, ![8, 4096, 512]⟩
abbrev S8x512x4096 : Shape := ⟨3, ![8, 512, 4096]⟩
abbrev S1x512x1024 : Shape := ⟨3, ![1, 512, 1024]⟩
abbrev S1x1024x4096 : Shape := ⟨3, ![1, 1024, 4096]⟩
abbrev S1x512x512 : Shape := ⟨3, ![1, 512, 512]⟩
abbrev S4x128x128 : Shape := ⟨3, ![4, 128, 128]⟩
abbrev S512x1024 : Shape := ⟨2, ![512, 1024]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S64x64 : Shape := ⟨2, ![64, 64]⟩
abbrev S16x16 : Shape := ⟨2, ![16, 16]⟩
abbrev S16x32 : Shape := ⟨2, ![16, 32]⟩
abbrev S16x48 : Shape := ⟨2, ![16, 48]⟩
abbrev S16x64 : Shape := ⟨2, ![16, 64]⟩
abbrev S64x128 : Shape := ⟨2, ![64, 128]⟩
abbrev S1x128 : Shape := ⟨2, ![1, 128]⟩
abbrev S128x128 : Shape := ⟨2, ![128, 128]⟩
abbrev S16x128 : Shape := ⟨2, ![16, 128]⟩
abbrev S32x128 : Shape := ⟨2, ![32, 128]⟩
abbrev S48x128 : Shape := ⟨2, ![48, 128]⟩
abbrev S128x64 : Shape := ⟨2, ![128, 64]⟩
abbrev S1x128x128 : Shape := ⟨3, ![1, 128, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 16
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x512, .f32⟩
  | .hbm, ⟨4, _⟩ => ⟨S2x512, .f32⟩
  | .hbm, ⟨5, _⟩ => ⟨S1x1024, .f32⟩
  | .hbm, ⟨6, _⟩ => ⟨S1024, .f32⟩
  | .hbm, ⟨7, _⟩ => ⟨S1x512, .f32⟩
  | .hbm, ⟨8, _⟩ => ⟨S512, .f32⟩
  | .hbm, ⟨9, _⟩ => ⟨S1x1024, .f32⟩
  | .hbm, ⟨10, _⟩ => ⟨S1x512, .f32⟩
  | .hbm, ⟨11, _⟩ => ⟨S8x4096x512, .bf16⟩
  | .hbm, ⟨12, _⟩ => ⟨S8x4096x512, .bf16⟩
  | .hbm, ⟨13, _⟩ => ⟨S8x512x4096, .bf16⟩
  | .hbm, ⟨14, _⟩ => ⟨S8x4096x512, .bf16⟩
  | .hbm, ⟨15, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x4096, .f32⟩
  | .local _ .vmem, ⟨4, _⟩ => ⟨S2x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S4x128x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel3Ideal.lean ====
variable {F : FTy → Type} [FloatOps F] [Named F]
def κ : String → Option EReal := fun
  | "qscale" => some (((1 / 8) * (Real.log 2)⁻¹ : ℝ) : EReal)
  | _ => none
-- ==== Reference3Ideal.lean ====
abbrev S8x4096x1024 : Shape := ⟨3, ![8, 4096, 1024]⟩
abbrev S2x1024 : Shape := ⟨2, ![2, 1024]⟩
abbrev S2x1024x4096 : Shape := ⟨3, ![2, 1024, 4096]⟩
abbrev S2x512 : Shape := ⟨2, ![2, 512]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S8x4096x2048 : Shape := ⟨3, ![8, 4096, 2048]⟩
abbrev S8x4096x512 : Shape := ⟨3, ![8, 4096, 512]⟩
abbrev S8x512x4096 : Shape := ⟨3, ![8, 512, 4096]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x4096, .f32⟩
  | .hbm, ⟨3, _⟩ => ⟨S2x512, .f32⟩
  | .hbm, ⟨4, _⟩ => ⟨S2x512, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x4096, .f32⟩
  | .hbm, ⟨24, _⟩ => ⟨S1024x4096, .f32⟩
  | .hbm, ⟨25, _⟩ => ⟨S8x4096x4096, .f32⟩
  | .hbm, ⟨26, _⟩ => ⟨S8x4096x2048, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S_, .f32⟩
  | .hbm, ⟨32, _⟩ => ⟨S8x4096x512, .f32⟩
  | .hbm, ⟨33, _⟩ => ⟨S8x4096x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x4096x512, .f32⟩
  | .hbm, ⟨38, _⟩ => ⟨S8x4096x512, .f32⟩
  | .hbm, ⟨39, _⟩ => ⟨S8x4096x512, .bf16⟩
  | .hbm, ⟨40, _⟩ => ⟨S8x512x4096, .f32⟩
  | .hbm, ⟨41, _⟩ => ⟨S8x512x4096, .bf16⟩
  | .hbm, ⟨42, _⟩ => ⟨S8x4096x512, .bf16⟩
  | .hbm, ⟨43, _⟩ => ⟨S8x4096x512, .f32⟩
  | .hbm, ⟨44, _⟩ => ⟨S8x4096x512, .f32⟩
  | .hbm, ⟨45, _⟩ => ⟨S_, .f32⟩
  | .hbm, ⟨46, _⟩ => ⟨S8x4096x512, .f32⟩
  | .hbm, ⟨47, _⟩ => ⟨S8x4096x512, .f32⟩
  | .hbm, ⟨48, _⟩ => ⟨S_, .f32⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x512 : Shape := ⟨3, ![8, 4096, 512]⟩
abbrev S2x8x4096x256 : Shape := ⟨4, ![2, 8, 4096, 256]⟩
abbrev S2x1024x1024 : Shape := ⟨3, ![2, 1024, 1024]⟩
abbrev S2x1024 : Shape := ⟨2, ![2, 1024]⟩
abbrev S2x256x1024 : Shape := ⟨3, ![2, 256, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x1024x1024 : Shape := ⟨3, ![1, 1024, 1024]⟩
abbrev S1x1x512x256 : Shape := ⟨4, ![1, 1, 512, 256]⟩
abbrev S1x256x1024 : Shape := ⟨3, ![1, 256, 1024]⟩
abbrev S512x1024 : Shape := ⟨2, ![512, 1024]⟩
abbrev S256x1024 : Shape := ⟨2, ![256, 1024]⟩
abbrev S1024x1024 : Shape := ⟨2, ![1024, 1024]⟩
abbrev S1x256x512 : Shape := ⟨3, ![1, 256, 512]⟩
abbrev S256x512 : Shape := ⟨2, ![256, 512]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x8x4096x256, .f32⟩
  | .hbm, ⟨4, _⟩ => ⟨S2x1024x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S2x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1024x1024, .f32⟩
  | .local _ .vmem, ⟨7, _⟩ => ⟨S1x1x512x256, .f32⟩
  | .local _ .vmem, ⟨8, _⟩ => ⟨S1x1x512x256, .f32⟩
  | .local _ .vmem, ⟨9, _⟩ => ⟨S1x256x1024, .f32⟩
  | .local _ .vmem, ⟨10, _⟩ => ⟨S1x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4096x1024 : Shape := ⟨3, ![8, 4096, 1024]⟩
abbrev S8x4096x512 : Shape := ⟨3, ![8, 4096, 512]⟩
abbrev S2x8x4096x256 : Shape := ⟨4, ![2, 8, 4096, 256]⟩
abbrev S2x1024x1024 : Shape := ⟨3, ![2, 1024, 1024]⟩
abbrev S2x1024 : Shape := ⟨2, ![2, 1024]⟩
abbrev S2x256x1024 : Shape := ⟨3, ![2, 256, 1024]⟩
abbrev S1024 : Shape := ⟨1, ![1024]⟩
abbrev S1x1024x1024 : Shape := ⟨3, ![1, 1024, 1024]⟩
abbrev S1024x1024 : Shape := ⟨2, ![1024, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S2x8x4096x256, .f32⟩
  | .hbm, ⟨4, _⟩ => ⟨S2x1024x1024, .f32⟩
  | .hbm, ⟨5, _⟩ => ⟨S2x1024, .f32⟩
  | .hbm, ⟨6, _⟩ => ⟨S2x1024x1024, .f32⟩
  | .hbm, ⟨7, _⟩ => ⟨S2x256x1024, .f32⟩
  | .hbm, ⟨8, _⟩ => ⟨S2x1024, .f32⟩
  | .hbm, ⟨9, _⟩ => ⟨S1024, .f32⟩
  | .hbm, ⟨10, _⟩ => ⟨S8x4096x1024, .bf16⟩
  | .hbm, ⟨11, _⟩ => ⟨S8x4096x1024, .f32⟩
  | .hbm, ⟨12, _⟩ => ⟨S1x1024x1024, .f32⟩
  | .hbm, ⟨13, _⟩ => ⟨S1024x1024, .f32⟩
  | .hbm, ⟨14, _⟩ => ⟨S8x4096x1024, .f32⟩
  | .hbm, ⟨15, _⟩ => ⟨S8x4096x1024, .f32⟩
  | .hbm, ⟨16, _⟩ => ⟨S1x8x4096x256, .f32⟩
  | .hbm, ⟨17, _⟩ => ⟨S8x4096x256, .f32⟩
  | .hbm, ⟨18, _⟩ => ⟨S1x256x1024, .f32⟩
  | .hbm, ⟨19, _⟩ => ⟨S256x1024, .f32⟩
  | .hbm, ⟨20, _⟩ => ⟨S8x4096x1024, .f32⟩
  | .hbm, ⟨21, _⟩ => ⟨S1x1024, .f32⟩
  | .hbm, ⟨22, _⟩ => ⟨S1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S1x1024, .f32⟩
  | .hbm, ⟨40, _⟩ => ⟨S1024, .f32⟩
  | .hbm, ⟨41, _⟩ => ⟨S8x4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S1x1024x1024, .f32⟩
  | .hbm, ⟨58, _⟩ => ⟨S1024x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Proof.Visit.lean ====
/- The kernel's arithmetic on whole tiles, named once: the softplus of a tile of logits, its row totals, the
   weights of one pair of key blocks, and what one group of four key blocks adds to the running sum and to the
   accumulator. Every way the kernel's body has of doing a group is one of these two functions. -/
module

public import proofs.«01_k».proof.Proof.Gen.KernelIdeal.Skeleton

@[expose] public section

noncomputable section

namespace Cert.KernelIdeal.Visit

open Cert.KernelIdeal Cert.KernelIdeal.Gen
open Idealize.ShloMosaic Idealize.ShloMosaic.TcCoe Idealize.SL.Sem

variable {F : FTy → Type} [FloatOps F] [Named F]

/-- The constant of a shape, the f32 zero. -/
def zer (s : Shape) : FVec F s .f32 := broadcast s (Scalar.ofBits .f32 0x00000000#32)

/-- Softplus to base two, lane by lane: `max z 0 + log (1 + 2^(-|z|)) · log2 e`. -/
def sp (s : Shape) (z : FVec F s .f32) : FVec F s .f32 :=
  addf (maximumf z (zer s))
    (mulf (log (addf (broadcast s (Scalar.ofBits .f32 0x3F800000#32)) (exp2 (subf (zer s) (absf z)))))
      (broadcast s (Named.named κ "log2e" 0x3FB8AA3B#32)))

/-- A query tile against a pair of key blocks. -/
def logits (q : FVec F S512x128 .bf16) (kt : Vec F S1x128x256 .bf16) : FVec F S512x256 .f32 :=
  matmul dot_S512x128_S128x256_S512x256_1_0_0_1_n_n none q
    (shapeCast S128x256 kt shapeCasts_S1x128x256_S128x256) (constant S512x256 .f32 0x00000000#32)

/-- Row totals of a tile, on every lane. -/
def tot (s : FVec F S512x256 .f32) : FVec F S512x128 .f32 :=
  broadcastTo S512x128 (shapeCast S512x1
    (multiReduction .add [1] S512 s 0x00000000#32 reduces_S512x256_S512 (.inl rfl) rfl)
    shapeCasts_S512_S512x1) broadcasts_S512x1_S512x128

/-- The cumulated softplus of a tile, by the triangular product. -/
def cum (w : FVec F S256x256 .bf16) (s : FVec F S512x256 .f32) : FVec F S512x256 .f32 :=
  matmul dot_S512x256_S256x256_S512x256_1_0_0_1_n_n none (truncf .bf16 s bitsLt_bf16_f32) w
    (constant S512x256 .f32 0x00000000#32)

/-- The running sum on both halves of a pair's lanes. -/
def twice (r : FVec F S512x128 .f32) : FVec F S512x256 .f32 :=
  concatenate S512x256 1 [⟨S512x128, r⟩, ⟨S512x128, r⟩] concatenates_S512x128_S512x128_S512x256_d1

/-- The weights of a pair of key blocks, unmasked, at the running sum found. -/
def wt (w : FVec F S256x256 .bf16) (z : FVec F S512x256 .f32) (r : FVec F S512x128 .f32) : FVec F S512x256 .bf16 :=
  truncf .bf16 (exp2 (addf (addf z (cum w (sp _ z))) (twice r))) bitsLt_bf16_f32

/-- The running sum after a pair. -/
def runP (z : FVec F S512x256 .f32) (r : FVec F S512x128 .f32) : FVec F S512x128 .f32 := subf r (tot (sp _ z))

/-- The product of a group's weights with its values, added to the accumulator. -/
def accG (w0 w1 : FVec F S512x256 .bf16) (v : Vec F S1x512x128 .bf16) (a : FVec F S512x128 .f32) :
    FVec F S512x128 .f32 :=
  addf a (matmul dot_S512x512_S512x128_S512x128_1_0_0_1_n_n none
    (concatenate S512x512 1 [⟨S512x256, w0⟩, ⟨S512x256, w1⟩] concatenates_S512x256_S512x256_S512x512_d1)
    (shapeCast S512x128 v shapeCasts_S1x512x128_S512x128) (constant S512x128 .f32 0x00000000#32))

/-- The running sum after a whole group: its later pair, then its earlier pair. -/
def offR (z0 z1 : FVec F S512x256 .f32) (r : FVec F S512x128 .f32) : FVec F S512x128 .f32 := runP z0 (runP z1 r)

/-- The accumulator after a whole group. -/
def offA (w : FVec F S256x256 .bf16) (z0 z1 : FVec F S512x256 .f32) (v : Vec F S1x512x128 .bf16)
    (r a : FVec F S512x128 .f32) : FVec F S512x128 .f32 :=
  accG (wt w z0 (runP z1 r)) (wt w z1 r) v a

/-! ### The diagonal group -/

/-- Which keys of the earlier pair a row may look at. -/
def mask0 (row col : IVec S512x256 32) : IVec S512x256 1 := cmpi .slt (addi col (broadcast S512x256 0#32)) row

/-- Which keys of the later pair a row of the lower half may look at. -/
def mask1 (row col : IVec S512x256 32) : IVec S256x256 1 :=
  extractStridedSlice S256x256 ![256, 0] (cmpi .slt (addi col (broadcast S512x256 256#32)) row)
    slices_S512x256_o256_0_S256x256

/-- The lower half of the query tile against the later pair of key blocks. -/
def logits1 (q : FVec F S512x128 .bf16) (kt : Vec F S1x128x256 .bf16) : FVec F S256x256 .f32 :=
  matmul dot_S256x128_S128x256_S256x256_1_0_0_1_n_n none
    (extractStridedSlice S256x128 ![256, 0] q slices_S512x128_o256_0_S256x128)
    (shapeCast S128x256 kt shapeCasts_S1x128x256_S128x256) (constant S256x256 .f32 0x00000000#32)

/-- Row totals of the lower half. -/
def tot1 (s : FVec F S256x256 .f32) : FVec F S256x128 .f32 :=
  broadcastTo S256x128 (shapeCast S256x1
    (multiReduction .add [1] S256 s 0x00000000#32 reduces_S256x256_S256 (.inl rfl) rfl)
    shapeCasts_S256_S256x1) broadcasts_S256x1_S256x128

/-- The masked softplus of the later pair. -/
def spD1 (mk : IVec S256x256 1) (z : FVec F S256x256 .f32) : FVec F S256x256 .f32 := select mk (sp _ z) (zer _)

/-- The masked softplus of the earlier pair. -/
def spD0 (mk : IVec S512x256 1) (z : FVec F S512x256 .f32) : FVec F S512x256 .f32 := select mk (sp _ z) (zer _)

/-- The lower half of a tile of 512 rows. -/
def low (r : FVec F S512x128 .f32) : FVec F S256x128 .f32 :=
  extractStridedSlice S256x128 ![256, 0] r slices_S512x128_o256_0_S256x128

/-- The diagonal group's weights of the later pair: nothing for the upper half of the rows. -/
def wtD1 (w : FVec F S256x256 .bf16) (mk : IVec S256x256 1) (z : FVec F S256x256 .f32) (r : FVec F S512x128 .f32) :
    FVec F S512x256 .bf16 :=
  concatenate S512x256 0 [⟨S256x256, broadcast S256x256 (Scalar.ofBits .bf16 0x0000#16)⟩,
    ⟨S256x256, truncf .bf16 (select mk (exp2 (addf (addf z
      (matmul dot_S256x256_S256x256_S256x256_1_0_0_1_n_n none (truncf .bf16 (spD1 mk z) bitsLt_bf16_f32) w
        (constant S256x256 .f32 0x00000000#32)))
      (concatenate S256x256 1 [⟨S256x128, low r⟩, ⟨S256x128, low r⟩] concatenates_S256x128_S256x128_S256x256_d1)))
      (zer _)) bitsLt_bf16_f32⟩] concatenates_S256x256_S256x256_S512x256_d0

/-- The running sum after the diagonal group's later pair. -/
def runD1 (mk : IVec S256x256 1) (z : FVec F S256x256 .f32) (r : FVec F S512x128 .f32) : FVec F S512x128 .f32 :=
  concatenate S512x128 0 [⟨S256x128, extractStridedSlice S256x128 ![0, 0] r slices_S512x128_o0_0_S256x128⟩,
    ⟨S256x128, subf (low r) (tot1 (spD1 mk z))⟩] concatenates_S256x128_S256x128_S512x128_d0

/-- The diagonal group's weights of the earlier pair. -/
def wtD0 (w : FVec F S256x256 .bf16) (mk : IVec S512x256 1) (z : FVec F S512x256 .f32) (r : FVec F S512x128 .f32) :
    FVec F S512x256 .bf16 :=
  truncf .bf16 (select mk (exp2 (addf (addf z (cum w (spD0 mk z))) (twice r))) (zer _)) bitsLt_bf16_f32

/-- The running sum after the diagonal group, from nothing. -/
def diagR (row col : IVec S512x256 32) (z0 : FVec F S512x256 .f32) (z1 : FVec F S256x256 .f32) :
    FVec F S512x128 .f32 :=
  subf (runD1 (mask1 row col) z1 (zer _)) (tot (spD0 (mask0 row col) z0))

/-- The accumulator after the diagonal group, from nothing. -/
def diagA (w : FVec F S256x256 .bf16) (row col : IVec S512x256 32) (z0 : FVec F S512x256 .f32)
    (z1 : FVec F S256x256 .f32) (v : Vec F S1x512x128 .bf16) : FVec F S512x128 .f32 :=
  accG (wtD0 w (mask0 row col) z0 (runD1 (mask1 row col) z1 (zer _))) (wtD1 w (mask1 row col) z1 (zer _)) v (zer _)

end Cert.KernelIdeal.Visit
-- ==== Proof.Tile.lean ====
/- The two tiles of a scratch buffer, one per head of the pair, and the loads of a pair of key blocks and of a group's
   values: what they are named by, and what a tile reads after both tiles were written. -/
module

public import proofs.«01_k».proof.Proof.Visit

@[expose] public section

noncomputable section

namespace Cert.KernelIdeal.Visit

open Cert.KernelIdeal Cert.KernelIdeal.Gen
open Idealize.ShloMosaic Idealize.ShloMosaic.TcCoe Idealize.SL.Sem

variable {F : FTy → Type} [FloatOps F] [Named F]

/-- The first head's tile of a scratch buffer. -/
abbrev rect0 : Rect S2x512x128 :=
  Rect.unit (s := S2x512x128) ![0, 0, 0] S1x512x128.size inb_S2x512x128_S1x512x128_0_0_0

/-- The second head's tile. -/
abbrev rect1 : Rect S2x512x128 :=
  Rect.unit (s := S2x512x128) ![1, 0, 0] S1x512x128.size inb_S2x512x128_S1x512x128_1_0_0

/-- Writing the first head's tile. -/
abbrev piece0 (x : FVec F S512x128 .f32) : View.Piece (Elt F) S2x512x128 .f32 :=
  ⟨rect0, shapeCast S1x512x128 x shapeCasts_S512x128_S1x512x128⟩

/-- Writing the second head's tile. -/
abbrev piece1 (x : FVec F S512x128 .f32) : View.Piece (Elt F) S2x512x128 .f32 :=
  ⟨rect1, shapeCast S1x512x128 x shapeCasts_S512x128_S1x512x128⟩

/-- Reading the first head's tile. -/
abbrev tile0 {sp : Space} (v : View sig .tc sp S2x512x128 .f32) (f : v.ty.Contents (Elt F)) : FVec F S512x128 .f32 :=
  shapeCast S512x128 (View.readAt (Elt F) v rect0.toLoadRect f) shapeCasts_S1x512x128_S512x128

/-- Reading the second head's tile. -/
abbrev tile1 {sp : Space} (v : View sig .tc sp S2x512x128 .f32) (f : v.ty.Contents (Elt F)) : FVec F S512x128 .f32 :=
  shapeCast S512x128 (View.readAt (Elt F) v rect1.toLoadRect f) shapeCasts_S1x512x128_S512x128

/-- Reading a pair of key blocks. -/
abbrev ldK {sp : Space} (v : View sig .tc sp S1x128x4096 .bf16) (f : v.ty.Contents (Elt F)) (off : Fin 3 → Nat)
    (h : ∀ a, off a + S1x128x256.size a ≤ S1x128x4096.size a) : Vec F S1x128x256 .bf16 :=
  View.readAt (Elt F) v (Rect.unit (s := S1x128x4096) off S1x128x256.size h).toLoadRect f

/-- Reading a group's values. -/
abbrev ldV {sp : Space} (v : View sig .tc sp S1x4096x128 .bf16) (f : v.ty.Contents (Elt F)) (off : Fin 3 → Nat)
    (h : ∀ a, off a + S1x512x128.size a ≤ S1x4096x128.size a) : Vec F S1x512x128 .bf16 :=
  View.readAt (Elt F) v (Rect.unit (s := S1x4096x128) off S1x512x128.size h).toLoadRect f

end Cert.KernelIdeal.Visit

end
-- ==== Proof.Trip.lean ====
/- One trip of the kernel's loop over the groups of keys left, found to be two groups done one after the other on each
   head: the tiles it writes back are the ones the named functions give of the tiles it read. -/
module

public import proofs.«01_k».proof.Proof.Gen.KernelIdeal.Loops
public import proofs.«01_k».proof.Proof.Tile

@[expose] public section

set_option maxRecDepth 65536

noncomputable section

namespace Cert.KernelIdeal.Visit

open Cert.KernelIdeal.Gen
open Idealize.ShloMosaic Idealize.ShloMosaic.TcCoe Idealize.ShloMosaic.Tactic Idealize.SL.Sem

variable {F : FTy → Type} [FloatOps F] [Named F]

theorem trip_eq (𝒱 : Variants) (c : Dev nD) (bd : Option 𝒱.V) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (arg2 : BitVec 32) (v9 : FVec F S512x128 .bf16) (v10 : FVec F S512x128 .bf16) (v17 : FVec F S256x256 .bf16) (v18 : IVec S512x256 32) (v19 : IVec S512x256 32) (v29 : BitVec 32) (v32 : BitVec 32) (v36 : BitVec 1) (v50 : BitVec 32) (X_arg4 : BufTy.Contents (Elt F) arg4.view.ty) (X_arg5 : BufTy.Contents (Elt F) arg5.view.ty) (k : Fin (k0_t1_loop i).trips)
    (f9 : BufTy.Contents (Elt F) arg9.view.ty) (f10 : BufTy.Contents (Elt F) arg10.view.ty) :
    (trip_k0_t1 (F := F) 𝒱 c bd i arg3 harg3 arg4 harg4 arg5 harg5 arg6 harg6 arg7 harg7 arg8 harg8 arg9 harg9 arg10 harg10 arg2 v9 v10 v17 v18 v19 v29 v32 v36 v50 X_arg4 X_arg5 k).1 f9 f10 =
        [piece1 (offR (logits v10 (ldK arg4.view X_arg4 (k0_off16 i k 0#32) (k0_off16_inb i k 0))) (logits v10 (ldK arg4.view X_arg4 (k0_off16 i k 2#32) (k0_off16_inb i k 1))) (offR (logits v10 (ldK arg4.view X_arg4 (k0_off15 i k 0#32) (k0_off15_inb i k 0))) (logits v10 (ldK arg4.view X_arg4 (k0_off15 i k 2#32) (k0_off15_inb i k 1))) (tile1 arg9.view f9))),
          piece0 (offR (logits v9 (ldK arg4.view X_arg4 (k0_off16 i k 0#32) (k0_off16_inb i k 0))) (logits v9 (ldK arg4.view X_arg4 (k0_off16 i k 2#32) (k0_off16_inb i k 1))) (offR (logits v9 (ldK arg4.view X_arg4 (k0_off15 i k 0#32) (k0_off15_inb i k 0))) (logits v9 (ldK arg4.view X_arg4 (k0_off15 i k 2#32) (k0_off15_inb i k 1))) (tile0 arg9.view f9)))]
    ∧ (trip_k0_t1 (F := F) 𝒱 c bd i arg3 harg3 arg4 harg4 arg5 harg5 arg6 harg6 arg7 harg7 arg8 harg8 arg9 harg9 arg10 harg10 arg2 v9 v10 v17 v18 v19 v29 v32 v36 v50 X_arg4 X_arg5 k).2.1 f9 f10 =
        [piece1 (offA v17 (logits v10 (ldK arg4.view X_arg4 (k0_off16 i k 0#32) (k0_off16_inb i k 0))) (logits v10 (ldK arg4.view X_arg4 (k0_off16 i k 2#32) (k0_off16_inb i k 1))) (ldV arg5.view X_arg5 (k0_off18 i k) (k0_off18_inb i k)) (offR (logits v10 (ldK arg4.view X_arg4 (k0_off15 i k 0#32) (k0_off15_inb i k 0))) (logits v10 (ldK arg4.view X_arg4 (k0_off15 i k 2#32) (k0_off15_inb i k 1))) (tile1 arg9.view f9)) (offA v17 (logits v10 (ldK arg4.view X_arg4 (k0_off15 i k 0#32) (k0_off15_inb i k 0))) (logits v10 (ldK arg4.view X_arg4 (k0_off15 i k 2#32) (k0_off15_inb i k 1))) (ldV arg5.view X_arg5 (k0_off17 i k) (k0_off17_inb i k)) (tile1 arg9.view f9) (tile1 arg10.view f10))),
          piece0 (offA v17 (logits v9 (ldK arg4.view X_arg4 (k0_off16 i k 0#32) (k0_off16_inb i k 0))) (logits v9 (ldK arg4.view X_arg4 (k0_off16 i k 2#32) (k0_off16_inb i k 1))) (ldV arg5.view X_arg5 (k0_off18 i k) (k0_off18_inb i k)) (offR (logits v9 (ldK arg4.view X_arg4 (k0_off15 i k 0#32) (k0_off15_inb i k 0))) (logits v9 (ldK arg4.view X_arg4 (k0_off15 i k 2#32) (k0_off15_inb i k 1))) (tile0 arg9.view f9)) (offA v17 (logits v9 (ldK arg4.view X_arg4 (k0_off15 i k 0#32) (k0_off15_inb i k 0))) (logits v9 (ldK arg4.view X_arg4 (k0_off15 i k 2#32) (k0_off15_inb i k 1))) (ldV arg5.view X_arg5 (k0_off17 i k) (k0_off17_inb i k)) (tile0 arg9.view f9) (tile0 arg10.view f10)))] := by
  unfold trip_k0_t1
  exact ⟨rfl, rfl⟩

end Cert.KernelIdeal.Visit

end
-- ==== Proof.Loop.lean ====
/- The kernel's loop over the groups of keys left: a relation of the four tiles that every trip carries on holds of the
   tiles after all of them. The second, remainder loop makes no trip. -/
module

public import proofs.«01_k».proof.Proof.Trip
public import Idealize.ShloMosaic.Lib.Pipeline.Value

@[expose] public section

set_option maxRecDepth 65536

noncomputable section

namespace Cert.KernelIdeal.Visit

open Cert.KernelIdeal.Gen
open Idealize.ShloMosaic Idealize.ShloMosaic.TcCoe Idealize.ShloMosaic.Tactic Idealize.SL.Sem

variable {F : FTy → Type} [FloatOps F] [Named F]

/-- The second tile reads what was last written to it. -/
theorem tile1_writes {sp : Space} (v : View sig .tc sp S2x512x128 .f32) (f : v.ty.Contents (Elt F))
    (x : FVec F S512x128 .f32) (L : List (View.Piece (Elt F) S2x512x128 .f32)) :
    tile1 v (v.writes (Elt F) f (piece1 x :: L)) = x := by
  have h : View.readAt (Elt F) v rect1.toLoadRect (v.writes (Elt F) f (piece1 x :: L)) =
      shapeCast S1x512x128 x shapeCasts_S512x128_S1x512x128 :=
    funext fun j => View.read_writes_cons_emb v f rect1 _ L j
  rw [tile1, h]; exact shapeCast_shapeCast _ _ _

/-- The first tile reads what was written to it before the second tile was. -/
theorem tile0_writes {sp : Space} (v : View sig .tc sp S2x512x128 .f32) (f : v.ty.Contents (Elt F))
    (x y : FVec F S512x128 .f32) (L : List (View.Piece (Elt F) S2x512x128 .f32)) :
    tile0 v (v.writes (Elt F) f (piece1 x :: piece0 y :: L)) = y := by
  have h : View.readAt (Elt F) v rect0.toLoadRect (v.writes (Elt F) f (piece1 x :: piece0 y :: L)) =
      shapeCast S1x512x128 y shapeCasts_S512x128_S1x512x128 := funext fun j => by
    refine (View.read_writes_cons_miss_of_axis v f (piece1 x) (piece0 y :: L) _ (0 : Fin 3) 1 1 rfl rfl rfl (.inl ?_)).trans
      (View.read_writes_cons_emb v f rect0 _ L j)
    have hj : (j (0 : Fin 3)).val < 1 := (j (0 : Fin 3)).isLt
    show 0 + 1 * (j (0 : Fin 3)).val < 1
    omega
  rw [tile0, h]; exact shapeCast_shapeCast _ _ _

/-- The remainder loop makes no trip. -/
theorem rem_trips (i : grid0.Coords) : (k0_t2_loop i).trips = 0 := by
  revert i; decide +kernel

/-- No trip, so nothing written. -/
theorem rem_none (𝒱 : Variants) (c : Dev nD) (bd : Option 𝒱.V) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (v2 : IVec S512x128 1) (v9 : FVec F S512x128 .bf16) (v10 : FVec F S512x128 .bf16) (v17 : FVec F S256x256 .bf16) (v50 : BitVec 32) (v73 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty) :
    pb_k0_t2 (F := F) 𝒱 c bd i arg3 harg3 arg4 harg4 arg5 harg5 arg6 harg6 arg7 harg7 arg8 harg8 arg9 harg9 arg10 harg10 v2 v9 v10 v17 v50 v73 X_arg4 X_arg5 G_arg9 G_arg10 (k0_t2_loop i).trips = ([], []) := by
  rw [rem_trips]; rfl

theorem loop_inv (𝒱 : Variants) (c : Dev nD) (bd : Option 𝒱.V) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (arg2 : BitVec 32) (v9 : FVec F S512x128 .bf16) (v10 : FVec F S512x128 .bf16) (v17 : FVec F S256x256 .bf16) (v18 : IVec S512x256 32) (v19 : IVec S512x256 32) (v29 : BitVec 32) (v32 : BitVec 32) (v36 : BitVec 1) (v50 : BitVec 32) (X_arg4 : BufTy.Contents (Elt F) arg4.view.ty) (X_arg5 : BufTy.Contents (Elt F) arg5.view.ty) (G_arg9 : BufTy.Contents (Elt F) arg9.view.ty) (G_arg10 : BufTy.Contents (Elt F) arg10.view.ty)
    (Q : ℕ → FVec F S512x128 .f32 → FVec F S512x128 .f32 → FVec F S512x128 .f32 → FVec F S512x128 .f32 → Prop)
    (h0 : Q 0 (tile0 arg9.view G_arg9) (tile1 arg9.view G_arg9) (tile0 arg10.view G_arg10) (tile1 arg10.view G_arg10))
    (hs : ∀ (k : Fin (k0_t1_loop i).trips) (r0 r1 a0 a1 : FVec F S512x128 .f32), Q k.val r0 r1 a0 a1 →
      Q (k.val + 1) (offR (logits v9 (ldK arg4.view X_arg4 (k0_off16 i k 0#32) (k0_off16_inb i k 0))) (logits v9 (ldK arg4.view X_arg4 (k0_off16 i k 2#32) (k0_off16_inb i k 1))) (offR (logits v9 (ldK arg4.view X_arg4 (k0_off15 i k 0#32) (k0_off15_inb i k 0))) (logits v9 (ldK arg4.view X_arg4 (k0_off15 i k 2#32) (k0_off15_inb i k 1))) r0))
        (offR (logits v10 (ldK arg4.view X_arg4 (k0_off16 i k 0#32) (k0_off16_inb i k 0))) (logits v10 (ldK arg4.view X_arg4 (k0_off16 i k 2#32) (k0_off16_inb i k 1))) (offR (logits v10 (ldK arg4.view X_arg4 (k0_off15 i k 0#32) (k0_off15_inb i k 0))) (logits v10 (ldK arg4.view X_arg4 (k0_off15 i k 2#32) (k0_off15_inb i k 1))) r1))
        (offA v17 (logits v9 (ldK arg4.view X_arg4 (k0_off16 i k 0#32) (k0_off16_inb i k 0))) (logits v9 (ldK arg4.view X_arg4 (k0_off16 i k 2#32) (k0_off16_inb i k 1))) (ldV arg5.view X_arg5 (k0_off18 i k) (k0_off18_inb i k)) (offR (logits v9 (ldK arg4.view X_arg4 (k0_off15 i k 0#32) (k0_off15_inb i k 0))) (logits v9 (ldK arg4.view X_arg4 (k0_off15 i k 2#32) (k0_off15_inb i k 1))) r0) (offA v17 (logits v9 (ldK arg4.view X_arg4 (k0_off15 i k 0#32) (k0_off15_inb i k 0))) (logits v9 (ldK arg4.view X_arg4 (k0_off15 i k 2#32) (k0_off15_inb i k 1))) (ldV arg5.view X_arg5 (k0_off17 i k) (k0_off17_inb i k)) r0 a0))
        (offA v17 (logits v10 (ldK arg4.view X_arg4 (k0_off16 i k 0#32) (k0_off16_inb i k 0))) (logits v10 (ldK arg4.view X_arg4 (k0_off16 i k 2#32) (k0_off16_inb i k 1))) (ldV arg5.view X_arg5 (k0_off18 i k) (k0_off18_inb i k)) (offR (logits v10 (ldK arg4.view X_arg4 (k0_off15 i k 0#32) (k0_off15_inb i k 0))) (logits v10 (ldK arg4.view X_arg4 (k0_off15 i k 2#32) (k0_off15_inb i k 1))) r1) (offA v17 (logits v10 (ldK arg4.view X_arg4 (k0_off15 i k 0#32) (k0_off15_inb i k 0))) (logits v10 (ldK arg4.view X_arg4 (k0_off15 i k 2#32) (k0_off15_inb i k 1))) (ldV arg5.view X_arg5 (k0_off17 i k) (k0_off17_inb i k)) r1 a1))) :
    ∀ n, n ≤ (k0_t1_loop i).trips →
      Q n (tile0 arg9.view (arg9.view.writes (Elt F) G_arg9 (pb_k0_t1 (F := F) 𝒱 c bd i arg3 harg3 arg4 harg4 arg5 harg5 arg6 harg6 arg7 harg7 arg8 harg8 arg9 harg9 arg10 harg10 arg2 v9 v10 v17 v18 v19 v29 v32 v36 v50 X_arg4 X_arg5 G_arg9 G_arg10 n).1)) (tile1 arg9.view (arg9.view.writes (Elt F) G_arg9 (pb_k0_t1 (F := F) 𝒱 c bd i arg3 harg3 arg4 harg4 arg5 harg5 arg6 harg6 arg7 harg7 arg8 harg8 arg9 harg9 arg10 harg10 arg2 v9 v10 v17 v18 v19 v29 v32 v36 v50 X_arg4 X_arg5 G_arg9 G_arg10 n).1)) (tile0 arg10.view (arg10.view.writes (Elt F) G_arg10 (pb_k0_t1 (F := F) 𝒱 c bd i arg3 harg3 arg4 harg4 arg5 harg5 arg6 harg6 arg7 harg7 arg8 harg8 arg9 harg9 arg10 harg10 arg2 v9 v10 v17 v18 v19 v29 v32 v36 v50 X_arg4 X_arg5 G_arg9 G_arg10 n).2)) (tile1 arg10.view (arg10.view.writes (Elt F) G_arg10 (pb_k0_t1 (F := F) 𝒱 c bd i arg3 harg3 arg4 harg4 arg5 harg5 arg6 harg6 arg7 harg7 arg8 harg8 arg9 harg9 arg10 harg10 arg2 v9 v10 v17 v18 v19 v29 v32 v36 v50 X_arg4 X_arg5 G_arg9 G_arg10 n).2)) := by
  intro n
  induction n with
  | zero => intro _; exact h0
  | succ n ih =>
    intro hn
    have e := pb_k0_t1_succ (F := F) 𝒱 c bd i arg3 harg3 arg4 harg4 arg5 harg5 arg6 harg6 arg7 harg7 arg8 harg8 arg9 harg9 arg10 harg10 arg2 v9 v10 v17 v18 v19 v29 v32 v36 v50 X_arg4 X_arg5 G_arg9 G_arg10 ⟨n, hn⟩
    have q := hs ⟨n, hn⟩ _ _ _ _ (ih (Nat.le_of_succ_le hn))
    simp only at e
    rw [e]
    simp only [tripL_k0_t1]
    rw [(trip_eq 𝒱 c bd i arg3 harg3 arg4 harg4 arg5 harg5 arg6 harg6 arg7 harg7 arg8 harg8 arg9 harg9 arg10 harg10 arg2 v9 v10 v17 v18 v19 v29 v32 v36 v50 X_arg4 X_arg5 ⟨n, hn⟩ _ _).1,
      (trip_eq 𝒱 c bd i arg3 harg3 arg4 harg4 arg5 harg5 arg6 harg6 arg7 harg7 arg8 harg8 arg9 harg9 arg10 harg10 arg2 v9 v10 v17 v18 v19 v29 v32 v36 v50 X_arg4 X_arg5 ⟨n, hn⟩ _ _).2,
      View.writes_append, View.writes_append]
    rw [tile1_writes, tile0_writes, tile1_writes, tile0_writes]
    exact q

end Cert.KernelIdeal.Visit

end
-- ==== Proof.LoopEnd.lean ====
/- What the accumulator's two tiles hold when the loops are done, from the tiles the first visit wrote: any relation
   every trip carries on. -/
module

public import proofs.«01_k».proof.Proof.Loop

@[expose] public section

set_option maxRecDepth 65536

noncomputable section

namespace Cert.KernelIdeal.Visit

open Cert.KernelIdeal.Gen
open Idealize.ShloMosaic Idealize.ShloMosaic.TcCoe Idealize.ShloMosaic.Tactic Idealize.SL.Sem

variable {F : FTy → Type} [FloatOps F] [Named F]

/-- The rows of the logits' tile. -/
abbrev rowI : IVec S512x256 32 := iota .tc S512x256 32 [0] iota_S512x256_d0_w32

/-- The columns of the logits' tile. -/
abbrev colI : IVec S512x256 32 := iota .tc S512x256 32 [1] iota_S512x256_d1_w32

/-- The whole query block. -/
abbrev ldQ {sp : Space} {e : EltTy} (v : View sig .tc sp S1x512x128 e) (f : v.ty.Contents (Elt F)) : Vec F S1x512x128 e :=
  View.readAt (Elt F) v (Rect.unit (s := S1x512x128) ![0, 0, 0] S1x512x128.size inb_S1x512x128_S1x512x128_0_0_0).toLoadRect f

theorem loop_end (𝒱 : Variants) (c : Dev nD) (bd : Option 𝒱.V) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (arg2 : BitVec 32) (v9 : FVec F S512x128 .bf16) (v10 : FVec F S512x128 .bf16) (v17 : FVec F S256x256 .bf16) (v18 : IVec S512x256 32) (v19 : IVec S512x256 32) (v29 : BitVec 32) (v32 : BitVec 32) (v36 : BitVec 1) (v50 : BitVec 32) (X_arg4 : BufTy.Contents (Elt F) arg4.view.ty) (X_arg5 : BufTy.Contents (Elt F) arg5.view.ty)
    (Q : ℕ → FVec F S512x128 .f32 → FVec F S512x128 .f32 → FVec F S512x128 .f32 → FVec F S512x128 .f32 → Prop)
    (HS9 HS10 L : List (View.Piece (Elt F) S2x512x128 .f32)) (R0 R1 A0 A1 : FVec F S512x128 .f32)
    (e9 : HS9 = [piece1 R1, piece0 R0]) (e10 : HS10 = [piece1 A1, piece0 A0]) (eL : L = [])
    (h0 : Q 0 R0 R1 A0 A1)
    (hs : ∀ (k : Fin (k0_t1_loop i).trips) (r0 r1 a0 a1 : FVec F S512x128 .f32), Q k.val r0 r1 a0 a1 →
      Q (k.val + 1) (offR (logits v9 (ldK arg4.view X_arg4 (k0_off16 i k 0#32) (k0_off16_inb i k 0))) (logits v9 (ldK arg4.view X_arg4 (k0_off16 i k 2#32) (k0_off16_inb i k 1))) (offR (logits v9 (ldK arg4.view X_arg4 (k0_off15 i k 0#32) (k0_off15_inb i k 0))) (logits v9 (ldK arg4.view X_arg4 (k0_off15 i k 2#32) (k0_off15_inb i k 1))) r0))
        (offR (logits v10 (ldK arg4.view X_arg4 (k0_off16 i k 0#32) (k0_off16_inb i k 0))) (logits v10 (ldK arg4.view X_arg4 (k0_off16 i k 2#32) (k0_off16_inb i k 1))) (offR (logits v10 (ldK arg4.view X_arg4 (k0_off15 i k 0#32) (k0_off15_inb i k 0))) (logits v10 (ldK arg4.view X_arg4 (k0_off15 i k 2#32) (k0_off15_inb i k 1))) r1))
        (offA v17 (logits v9 (ldK arg4.view X_arg4 (k0_off16 i k 0#32) (k0_off16_inb i k 0))) (logits v9 (ldK arg4.view X_arg4 (k0_off16 i k 2#32) (k0_off16_inb i k 1))) (ldV arg5.view X_arg5 (k0_off18 i k) (k0_off18_inb i k)) (offR (logits v9 (ldK arg4.view X_arg4 (k0_off15 i k 0#32) (k0_off15_inb i k 0))) (logits v9 (ldK arg4.view X_arg4 (k0_off15 i k 2#32) (k0_off15_inb i k 1))) r0) (offA v17 (logits v9 (ldK arg4.view X_arg4 (k0_off15 i k 0#32) (k0_off15_inb i k 0))) (logits v9 (ldK arg4.view X_arg4 (k0_off15 i k 2#32) (k0_off15_inb i k 1))) (ldV arg5.view X_arg5 (k0_off17 i k) (k0_off17_inb i k)) r0 a0))
        (offA v17 (logits v10 (ldK arg4.view X_arg4 (k0_off16 i k 0#32) (k0_off16_inb i k 0))) (logits v10 (ldK arg4.view X_arg4 (k0_off16 i k 2#32) (k0_off16_inb i k 1))) (ldV arg5.view X_arg5 (k0_off18 i k) (k0_off18_inb i k)) (offR (logits v10 (ldK arg4.view X_arg4 (k0_off15 i k 0#32) (k0_off15_inb i k 0))) (logits v10 (ldK arg4.view X_arg4 (k0_off15 i k 2#32) (k0_off15_inb i k 1))) r1) (offA v17 (logits v10 (ldK arg4.view X_arg4 (k0_off15 i k 0#32) (k0_off15_inb i k 0))) (logits v10 (ldK arg4.view X_arg4 (k0_off15 i k 2#32) (k0_off15_inb i k 1))) (ldV arg5.view X_arg5 (k0_off17 i k) (k0_off17_inb i k)) r1 a1))) :
    ∃ r0 r1, Q (k0_t1_loop i).trips r0 r1
      (shapeCast S512x128 (arg10.view.readCov (L ++ ((pb_k0_t1 (F := F) 𝒱 c bd i arg3 harg3 arg4 harg4 arg5 harg5 arg6 harg6 arg7 harg7 arg8 harg8 arg9 harg9 arg10 harg10 arg2 v9 v10 v17 v18 v19 v29 v32 v36 v50 X_arg4 X_arg5 (arg9.view.writes (Elt F) arg9.view.junk HS9) (arg10.view.writes (Elt F) arg10.view.junk HS10) (k0_t1_loop i).trips).2 ++ HS10)) rect0.toLoadRect) shapeCasts_S1x512x128_S512x128)
      (shapeCast S512x128 (arg10.view.readCov (L ++ ((pb_k0_t1 (F := F) 𝒱 c bd i arg3 harg3 arg4 harg4 arg5 harg5 arg6 harg6 arg7 harg7 arg8 harg8 arg9 harg9 arg10 harg10 arg2 v9 v10 v17 v18 v19 v29 v32 v36 v50 X_arg4 X_arg5 (arg9.view.writes (Elt F) arg9.view.junk HS9) (arg10.view.writes (Elt F) arg10.view.junk HS10) (k0_t1_loop i).trips).2 ++ HS10)) rect1.toLoadRect) shapeCasts_S1x512x128_S512x128) := by
  subst e9 e10 eL
  have q := loop_inv (F := F) 𝒱 c bd i arg3 harg3 arg4 harg4 arg5 harg5 arg6 harg6 arg7 harg7 arg8 harg8 arg9 harg9 arg10 harg10 arg2 v9 v10 v17 v18 v19 v29 v32 v36 v50 X_arg4 X_arg5
    (arg9.view.writes (Elt F) arg9.view.junk [piece1 R1, piece0 R0])
    (arg10.view.writes (Elt F) arg10.view.junk [piece1 A1, piece0 A0]) Q (by
    rw [tile1_writes, tile0_writes, tile1_writes, tile0_writes]; exact h0) hs _ le_rfl
  simp only [View.readCov, List.nil_append, View.writes_append]
  exact ⟨_, _, q⟩

end Cert.KernelIdeal.Visit

end
-- ==== Proof.CaseA.lean ====
/- The block of the result, where the first visit covers one group of keys: any relation of the
   tiles that the visit starts and every trip carries on holds of the accumulator the epilogue reads. -/
module

public import proofs.«01_k».proof.Proof.Gen.KernelIdeal.Frame
public import proofs.«01_k».proof.Proof.LoopEnd
public import Idealize.ShloMosaic.Lib.VecWindow

@[expose] public section

set_option maxRecDepth 65536

noncomputable section

namespace Cert.KernelIdeal.Visit

open Cert.KernelIdeal.Gen
open Idealize.ShloMosaic Idealize.ShloMosaic.TcCoe Idealize.ShloMosaic.Tactic Idealize.SL.Sem

variable {F : FTy → Type} [FloatOps F] [Named F]

theorem caseA (c : Dev nD) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (hc0 : cond0_0 i) (hc1 : ¬cond0_1 i) (hc2 : ¬cond0_2 i) (hc3 : ¬cond0_3 i)
    (x0 : Vec F S1x512x128 .f32) (x1 : Vec F S1x128x4096 .bf16) (x2 : Vec F S1x4096x128 .bf16) (x3 : Vec F S1x512x128 .bf16) (x4 : Vec F S1x128 .f32)
    (Q : ℕ → FVec F S512x128 .f32 → FVec F S512x128 .f32 → FVec F S512x128 .f32 → FVec F S512x128 .f32 → Prop)
    (h0 : Q 0 (diagR rowI colI (logits (k0_pay384 (ldQ arg3.view (harg3.unread x0))) (ldK arg4.view (harg4.unread x1) (k0_off1 i 0#32) (k0_off1_inb i hc0 0))) (logits1 (k0_pay384 (ldQ arg3.view (harg3.unread x0))) (ldK arg4.view (harg4.unread x1) (k0_off1 i 2#32) (k0_off1_inb i hc0 1))))
      (diagR rowI colI (logits (k0_pay385 (ldQ arg3.view (harg3.unread x0))) (ldK arg4.view (harg4.unread x1) (k0_off1 i 0#32) (k0_off1_inb i hc0 0))) (logits1 (k0_pay385 (ldQ arg3.view (harg3.unread x0))) (ldK arg4.view (harg4.unread x1) (k0_off1 i 2#32) (k0_off1_inb i hc0 1))))
      (diagA (k0_pay386 (F := F)) rowI colI (logits (k0_pay384 (ldQ arg3.view (harg3.unread x0))) (ldK arg4.view (harg4.unread x1) (k0_off1 i 0#32) (k0_off1_inb i hc0 0))) (logits1 (k0_pay384 (ldQ arg3.view (harg3.unread x0))) (ldK arg4.view (harg4.unread x1) (k0_off1 i 2#32) (k0_off1_inb i hc0 1))) (ldV arg5.view (harg5.unread x2) (k0_off2 i) (k0_off2_inb i hc0)))
      (diagA (k0_pay386 (F := F)) rowI colI (logits (k0_pay385 (ldQ arg3.view (harg3.unread x0))) (ldK arg4.view (harg4.unread x1) (k0_off1 i 0#32) (k0_off1_inb i hc0 0))) (logits1 (k0_pay385 (ldQ arg3.view (harg3.unread x0))) (ldK arg4.view (harg4.unread x1) (k0_off1 i 2#32) (k0_off1_inb i hc0 1))) (ldV arg5.view (harg5.unread x2) (k0_off2 i) (k0_off2_inb i hc0))))
    (hs : ∀ (k : Fin (k0_t1_loop i).trips) (r0 r1 a0 a1 : FVec F S512x128 .f32), Q k.val r0 r1 a0 a1 →
      Q (k.val + 1) (offR (logits (k0_pay384 (ldQ arg3.view (harg3.unread x0))) (ldK arg4.view (harg4.unread x1) (k0_off16 i k 0#32) (k0_off16_inb i k 0))) (logits (k0_pay384 (ldQ arg3.view (harg3.unread x0))) (ldK arg4.view (harg4.unread x1) (k0_off16 i k 2#32) (k0_off16_inb i k 1))) (offR (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) r0))
        (offR (logits (k0_pay385 (ldQ arg3.view (harg3.unread x0))) (ldK arg4.view (harg4.unread x1) (k0_off16 i k 0#32) (k0_off16_inb i k 0))) (logits (k0_pay385 (ldQ arg3.view (harg3.unread x0))) (ldK arg4.view (harg4.unread x1) (k0_off16 i k 2#32) (k0_off16_inb i k 1))) (offR (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) r1))
        (offA (k0_pay386 (F := F)) (logits (k0_pay384 (ldQ arg3.view (harg3.unread x0))) (ldK arg4.view (harg4.unread x1) (k0_off16 i k 0#32) (k0_off16_inb i k 0))) (logits (k0_pay384 (ldQ arg3.view (harg3.unread x0))) (ldK arg4.view (harg4.unread x1) (k0_off16 i k 2#32) (k0_off16_inb i k 1))) (ldV arg5.view (harg5.unread x2) (k0_off18 i k) (k0_off18_inb i k)) (offR (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) r0) (offA (k0_pay386 (F := F)) (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) (ldV arg5.view (harg5.unread x2) (k0_off17 i k) (k0_off17_inb i k)) r0 a0))
        (offA (k0_pay386 (F := F)) (logits (k0_pay385 (ldQ arg3.view (harg3.unread x0))) (ldK arg4.view (harg4.unread x1) (k0_off16 i k 0#32) (k0_off16_inb i k 0))) (logits (k0_pay385 (ldQ arg3.view (harg3.unread x0))) (ldK arg4.view (harg4.unread x1) (k0_off16 i k 2#32) (k0_off16_inb i k 1))) (ldV arg5.view (harg5.unread x2) (k0_off18 i k) (k0_off18_inb i k)) (offR (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) r1) (offA (k0_pay386 (F := F)) (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) (ldV arg5.view (harg5.unread x2) (k0_off17 i k) (k0_off17_inb i k)) r1 a1))) :
    ∃ r0 r1 o0 o1, Q (k0_t1_loop i).trips r0 r1 (shapeCast S512x128 o0 shapeCasts_S1x512x128_S512x128) (shapeCast S512x128 o1 shapeCasts_S1x512x128_S512x128)
      ∧ out0_A_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) := by
  have key : ∀ (o0 o1 : Vec F S1x512x128 .f32),
      (∃ r0 r1, Q (k0_t1_loop i).trips r0 r1 (shapeCast S512x128 o0 shapeCasts_S1x512x128_S512x128) (shapeCast S512x128 o1 shapeCasts_S1x512x128_S512x128)) →
      out0_A_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) →
      ∃ r0 r1 o0 o1, Q (k0_t1_loop i).trips r0 r1 (shapeCast S512x128 o0 shapeCasts_S1x512x128_S512x128) (shapeCast S512x128 o1 shapeCasts_S1x512x128_S512x128)
      ∧ out0_A_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) :=
    fun o0 o1 ⟨r0, r1, q⟩ e => ⟨r0, r1, o0, o1, q, e⟩
  refine key ?o0 ?o1 ?_ ?out
  case out =>
    unfold out0_A_5 kernelRun0_A
    dsimp only
    exact View.read_writes_full _ _ _ _ _
  · refine loop_end (F := F) _ _ _ i arg3 harg3 arg4 harg4 arg5 harg5 arg6 harg6 arg7 harg7 arg8 harg8 arg9 harg9 arg10 harg10 _ _ _ _ _ _ _ _ _ _ _ _ Q _ _ _
      _ _ _ _ ?_ ?_ ?_ h0 hs
    · rfl
    · rfl
    · exact congrArg Prod.snd (rem_none (F := F) ..)

end Cert.KernelIdeal.Visit

end
-- ==== Proof.CaseB.lean ====
/- The block of the result, where the first visit covers two groups of keys: any relation of the
   tiles that the visit starts and every trip carries on holds of the accumulator the epilogue reads. -/
module

public import proofs.«01_k».proof.Proof.Gen.KernelIdeal.Frame
public import proofs.«01_k».proof.Proof.LoopEnd
public import Idealize.ShloMosaic.Lib.VecWindow

@[expose] public section

set_option maxRecDepth 65536

noncomputable section

namespace Cert.KernelIdeal.Visit

open Cert.KernelIdeal.Gen
open Idealize.ShloMosaic Idealize.ShloMosaic.TcCoe Idealize.ShloMosaic.Tactic Idealize.SL.Sem

variable {F : FTy → Type} [FloatOps F] [Named F]

theorem caseB (c : Dev nD) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (hc0 : ¬cond0_0 i) (hc1 : cond0_1 i) (hc2 : ¬cond0_2 i) (hc3 : ¬cond0_3 i)
    (x0 : Vec F S1x512x128 .f32) (x1 : Vec F S1x128x4096 .bf16) (x2 : Vec F S1x4096x128 .bf16) (x3 : Vec F S1x512x128 .bf16) (x4 : Vec F S1x128 .f32)
    (Q : ℕ → FVec F S512x128 .f32 → FVec F S512x128 .f32 → FVec F S512x128 .f32 → FVec F S512x128 .f32 → Prop)
    (h0 : Q 0 (offR (logits (k0_pay384 (ldQ arg3.view (harg3.unread x0))) (ldK arg4.view (harg4.unread x1) (k0_off4 i 0#32) (k0_off4_inb i hc1 0))) (logits (k0_pay384 (ldQ arg3.view (harg3.unread x0))) (ldK arg4.view (harg4.unread x1) (k0_off4 i 2#32) (k0_off4_inb i hc1 1))) (diagR rowI colI (logits (k0_pay384 (ldQ arg3.view (harg3.unread x0))) (ldK arg4.view (harg4.unread x1) (k0_off3 i 0#32) (k0_off3_inb i hc1 0))) (logits1 (k0_pay384 (ldQ arg3.view (harg3.unread x0))) (ldK arg4.view (harg4.unread x1) (k0_off3 i 2#32) (k0_off3_inb i hc1 1)))))
      (offR (logits (k0_pay385 (ldQ arg3.view (harg3.unread x0))) (ldK arg4.view (harg4.unread x1) (k0_off4 i 0#32) (k0_off4_inb i hc1 0))) (logits (k0_pay385 (ldQ arg3.view (harg3.unread x0))) (ldK arg4.view (harg4.unread x1) (k0_off4 i 2#32) (k0_off4_inb i hc1 1))) (diagR rowI colI (logits (k0_pay385 (ldQ arg3.view (harg3.unread x0))) (ldK arg4.view (harg4.unread x1) (k0_off3 i 0#32) (k0_off3_inb i hc1 0))) (logits1 (k0_pay385 (ldQ arg3.view (harg3.unread x0))) (ldK arg4.view (harg4.unread x1) (k0_off3 i 2#32) (k0_off3_inb i hc1 1)))))
      (offA (k0_pay386 (F := F)) (logits (k0_pay384 (ldQ arg3.view (harg3.unread x0))) (ldK arg4.view (harg4.unread x1) (k0_off4 i 0#32) (k0_off4_inb i hc1 0))) (logits (k0_pay384 (ldQ arg3.view (harg3.unread x0))) (ldK arg4.view (harg4.unread x1) (k0_off4 i 2#32) (k0_off4_inb i hc1 1))) (ldV arg5.view (harg5.unread x2) (k0_off6 i) (k0_off6_inb i hc1)) (diagR rowI colI (logits (k0_pay384 (ldQ arg3.view (harg3.unread x0))) (ldK arg4.view (harg4.unread x1) (k0_off3 i 0#32) (k0_off3_inb i hc1 0))) (logits1 (k0_pay384 (ldQ arg3.view (harg3.unread x0))) (ldK arg4.view (harg4.unread x1) (k0_off3 i 2#32) (k0_off3_inb i hc1 1)))) (diagA (k0_pay386 (F := F)) rowI colI (logits (k0_pay384 (ldQ arg3.view (harg3.unread x0))) (ldK arg4.view (harg4.unread x1) (k0_off3 i 0#32) (k0_off3_inb i hc1 0))) (logits1 (k0_pay384 (ldQ arg3.view (harg3.unread x0))) (ldK arg4.view (harg4.unread x1) (k0_off3 i 2#32) (k0_off3_inb i hc1 1))) (ldV arg5.view (harg5.unread x2) (k0_off5 i) (k0_off5_inb i hc1))))
      (offA (k0_pay386 (F := F)) (logits (k0_pay385 (ldQ arg3.view (harg3.unread x0))) (ldK arg4.view (harg4.unread x1) (k0_off4 i 0#32) (k0_off4_inb i hc1 0))) (logits (k0_pay385 (ldQ arg3.view (harg3.unread x0))) (ldK arg4.view (harg4.unread x1) (k0_off4 i 2#32) (k0_off4_inb i hc1 1))) (ldV arg5.view (harg5.unread x2) (k0_off6 i) (k0_off6_inb i hc1)) (diagR rowI colI (logits (k0_pay385 (ldQ arg3.view (harg3.unread x0))) (ldK arg4.view (harg4.unread x1) (k0_off3 i 0#32) (k0_off3_inb i hc1 0))) (logits1 (k0_pay385 (ldQ arg3.view (harg3.unread x0))) (ldK arg4.view (harg4.unread x1) (k0_off3 i 2#32) (k0_off3_inb i hc1 1)))) (diagA (k0_pay386 (F := F)) rowI colI (logits (k0_pay385 (ldQ arg3.view (harg3.unread x0))) (ldK arg4.view (harg4.unread x1) (k0_off3 i 0#32) (k0_off3_inb i hc1 0))) (logits1 (k0_pay385 (ldQ arg3.view (harg3.unread x0))) (ldK arg4.view (harg4.unread x1) (k0_off3 i 2#32) (k0_off3_inb i hc1 1))) (ldV arg5.view (harg5.unread x2) (k0_off5 i) (k0_off5_inb i hc1)))))
    (hs : ∀ (k : Fin (k0_t1_loop i).trips) (r0 r1 a0 a1 : FVec F S512x128 .f32), Q k.val r0 r1 a0 a1 →
      Q (k.val + 1) (offR (logits (k0_pay384 (ldQ arg3.view (harg3.unread x0))) (ldK arg4.view (harg4.unread x1) (k0_off16 i k 0#32) (k0_off16_inb i k 0))) (logits (k0_pay384 (ldQ arg3.view (harg3.unread x0))) (ldK arg4.view (harg4.unread x1) (k0_off16 i k 2#32) (k0_off16_inb i k 1))) (offR (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) r0))
        (offR (logits (k0_pay385 (ldQ arg3.view (harg3.unread x0))) (ldK arg4.view (harg4.unread x1) (k0_off16 i k 0#32) (k0_off16_inb i k 0))) (logits (k0_pay385 (ldQ arg3.view (harg3.unread x0))) (ldK arg4.view (harg4.unread x1) (k0_off16 i k 2#32) (k0_off16_inb i k 1))) (offR (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) r1))
        (offA (k0_pay386 (F := F)) (logits (k0_pay384 (ldQ arg3.view (harg3.unread x0))) (ldK arg4.view (harg4.unread x1) (k0_off16 i k 0#32) (k0_off16_inb i k 0))) (logits (k0_pay384 (ldQ arg3.view (harg3.unread x0))) (ldK arg4.view (harg4.unread x1) (k0_off16 i k 2#32) (k0_off16_inb i k 1))) (ldV arg5.view (harg5.unread x2) (k0_off18 i k) (k0_off18_inb i k)) (offR (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) r0) (offA (k0_pay386 (F := F)) (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) (ldV arg5.view (harg5.unread x2) (k0_off17 i k) (k0_off17_inb i k)) r0 a0))
        (offA (k0_pay386 (F := F)) (logits (k0_pay385 (ldQ arg3.view (harg3.unread x0))) (ldK arg4.view (harg4.unread x1) (k0_off16 i k 0#32) (k0_off16_inb i k 0))) (logits (k0_pay385 (ldQ arg3.view (harg3.unread x0))) (ldK arg4.view (harg4.unread x1) (k0_off16 i k 2#32) (k0_off16_inb i k 1))) (ldV arg5.view (harg5.unread x2) (k0_off18 i k) (k0_off18_inb i k)) (offR (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) r1) (offA (k0_pay386 (F := F)) (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) (ldV arg5.view (harg5.unread x2) (k0_off17 i k) (k0_off17_inb i k)) r1 a1))) :
    ∃ r0 r1 o0 o1, Q (k0_t1_loop i).trips r0 r1 (shapeCast S512x128 o0 shapeCasts_S1x512x128_S512x128) (shapeCast S512x128 o1 shapeCasts_S1x512x128_S512x128)
      ∧ out0_B_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) := by
  have key : ∀ (o0 o1 : Vec F S1x512x128 .f32),
      (∃ r0 r1, Q (k0_t1_loop i).trips r0 r1 (shapeCast S512x128 o0 shapeCasts_S1x512x128_S512x128) (shapeCast S512x128 o1 shapeCasts_S1x512x128_S512x128)) →
      out0_B_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) →
      ∃ r0 r1 o0 o1, Q (k0_t1_loop i).trips r0 r1 (shapeCast S512x128 o0 shapeCasts_S1x512x128_S512x128) (shapeCast S512x128 o1 shapeCasts_S1x512x128_S512x128)
      ∧ out0_B_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) :=
    fun o0 o1 ⟨r0, r1, q⟩ e => ⟨r0, r1, o0, o1, q, e⟩
  refine key ?o0 ?o1 ?_ ?out
  case out =>
    unfold out0_B_5 kernelRun0_B
    dsimp only
    exact View.read_writes_full _ _ _ _ _
  · refine loop_end (F := F) _ _ _ i arg3 harg3 arg4 harg4 arg5 harg5 arg6 harg6 arg7 harg7 arg8 harg8 arg9 harg9 arg10 harg10 _ _ _ _ _ _ _ _ _ _ _ _ Q _ _ _
      _ _ _ _ ?_ ?_ ?_ h0 hs
    · rfl
    · rfl
    · exact congrArg Prod.snd (rem_none (F := F) ..)

end Cert.KernelIdeal.Visit

end
-- ==== Proof.CaseC.lean ====
/- The block of the result, where the first visit covers three groups of keys: any relation of the
   tiles that the visit starts and every trip carries on holds of the accumulator the epilogue reads. -/
module

public import proofs.«01_k».proof.Proof.Gen.KernelIdeal.Frame
public import proofs.«01_k».proof.Proof.LoopEnd
public import Idealize.ShloMosaic.Lib.VecWindow

@[expose] public section

set_option maxRecDepth 65536

noncomputable section

namespace Cert.KernelIdeal.Visit

open Cert.KernelIdeal.Gen
open Idealize.ShloMosaic Idealize.ShloMosaic.TcCoe Idealize.ShloMosaic.Tactic Idealize.SL.Sem

variable {F : FTy → Type} [FloatOps F] [Named F]

theorem caseC (c : Dev nD) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (hc0 : ¬cond0_0 i) (hc1 : ¬cond0_1 i) (hc2 : cond0_2 i) (hc3 : ¬cond0_3 i)
    (x0 : Vec F S1x512x128 .f32) (x1 : Vec F S1x128x4096 .bf16) (x2 : Vec F S1x4096x128 .bf16) (x3 : Vec F S1x512x128 .bf16) (x4 : Vec F S1x128 .f32)
    (Q : ℕ → FVec F S512x128 .f32 → FVec F S512x128 .f32 → FVec F S512x128 .f32 → FVec F S512x128 .f32 → Prop)
    (h0 : Q 0 (offR (logits (k0_pay384 (ldQ arg3.view (harg3.unread x0))) (ldK arg4.view (harg4.unread x1) (k0_off8 i 2#32 0#32) (k0_off8_inb i hc2 1 0))) (logits (k0_pay384 (ldQ arg3.view (harg3.unread x0))) (ldK arg4.view (harg4.unread x1) (k0_off8 i 2#32 2#32) (k0_off8_inb i hc2 1 1))) (offR (logits (k0_pay384 (ldQ arg3.view (harg3.unread x0))) (ldK arg4.view (harg4.unread x1) (k0_off8 i 1#32 0#32) (k0_off8_inb i hc2 0 0))) (logits (k0_pay384 (ldQ arg3.view (harg3.unread x0))) (ldK arg4.view (harg4.unread x1) (k0_off8 i 1#32 2#32) (k0_off8_inb i hc2 0 1))) (diagR rowI colI (logits (k0_pay384 (ldQ arg3.view (harg3.unread x0))) (ldK arg4.view (harg4.unread x1) (k0_off7 i 0#32) (k0_off7_inb i hc2 0))) (logits1 (k0_pay384 (ldQ arg3.view (harg3.unread x0))) (ldK arg4.view (harg4.unread x1) (k0_off7 i 2#32) (k0_off7_inb i hc2 1))))))
      (offR (logits (k0_pay385 (ldQ arg3.view (harg3.unread x0))) (ldK arg4.view (harg4.unread x1) (k0_off8 i 2#32 0#32) (k0_off8_inb i hc2 1 0))) (logits (k0_pay385 (ldQ arg3.view (harg3.unread x0))) (ldK arg4.view (harg4.unread x1) (k0_off8 i 2#32 2#32) (k0_off8_inb i hc2 1 1))) (offR (logits (k0_pay385 (ldQ arg3.view (harg3.unread x0))) (ldK arg4.view (harg4.unread x1) (k0_off8 i 1#32 0#32) (k0_off8_inb i hc2 0 0))) (logits (k0_pay385 (ldQ arg3.view (harg3.unread x0))) (ldK arg4.view (harg4.unread x1) (k0_off8 i 1#32 2#32) (k0_off8_inb i hc2 0 1))) (diagR rowI colI (logits (k0_pay385 (ldQ arg3.view (harg3.unread x0))) (ldK arg4.view (harg4.unread x1) (k0_off7 i 0#32) (k0_off7_inb i hc2 0))) (logits1 (k0_pay385 (ldQ arg3.view (harg3.unread x0))) (ldK arg4.view (harg4.unread x1) (k0_off7 i 2#32) (k0_off7_inb i hc2 1))))))
      (offA (k0_pay386 (F := F)) (logits (k0_pay384 (ldQ arg3.view (harg3.unread x0))) (ldK arg4.view (harg4.unread x1) (k0_off8 i 2#32 0#32) (k0_off8_inb i hc2 1 0))) (logits (k0_pay384 (ldQ arg3.view (harg3.unread x0))) (ldK arg4.view (harg4.unread x1) (k0_off8 i 2#32 2#32) (k0_off8_inb i hc2 1 1))) (ldV arg5.view (harg5.unread x2) (k0_off10 i 2#32) (k0_off10_inb i hc2 1)) (offR (logits (k0_pay384 (ldQ arg3.view (harg3.unread x0))) (ldK arg4.view (harg4.unread x1) (k0_off8 i 1#32 0#32) (k0_off8_inb i hc2 0 0))) (logits (k0_pay384 (ldQ arg3.view (harg3.unread x0))) (ldK arg4.view (harg4.unread x1) (k0_off8 i 1#32 2#32) (k0_off8_inb i hc2 0 1))) (diagR rowI colI (logits (k0_pay384 (ldQ arg3.view (harg3.unread x0))) (ldK arg4.view (harg4.unread x1) (k0_off7 i 0#32) (k0_off7_inb i hc2 0))) (logits1 (k0_pay384 (ldQ arg3.view (harg3.unread x0))) (ldK arg4.view (harg4.unread x1) (k0_off7 i 2#32) (k0_off7_inb i hc2 1))))) (offA (k0_pay386 (F := F)) (logits (k0_pay384 (ldQ arg3.view (harg3.unread x0))) (ldK arg4.view (harg4.unread x1) (k0_off8 i 1#32 0#32) (k0_off8_inb i hc2 0 0))) (logits (k0_pay384 (ldQ arg3.view (harg3.unread x0))) (ldK arg4.view (harg4.unread x1) (k0_off8 i 1#32 2#32) (k0_off8_inb i hc2 0 1))) (ldV arg5.view (harg5.unread x2) (k0_off10 i 1#32) (k0_off10_inb i hc2 0)) (diagR rowI colI (logits (k0_pay384 (ldQ arg3.view (harg3.unread x0))) (ldK arg4.view (harg4.unread x1) (k0_off7 i 0#32) (k0_off7_inb i hc2 0))) (logits1 (k0_pay384 (ldQ arg3.view (harg3.unread x0))) (ldK arg4.view (harg4.unread x1) (k0_off7 i 2#32) (k0_off7_inb i hc2 1)))) (diagA (k0_pay386 (F := F)) rowI colI (logits (k0_pay384 (ldQ arg3.view (harg3.unread x0))) (ldK arg4.view (harg4.unread x1) (k0_off7 i 0#32) (k0_off7_inb i hc2 0))) (logits1 (k0_pay384 (ldQ arg3.view (harg3.unread x0))) (ldK arg4.view (harg4.unread x1) (k0_off7 i 2#32) (k0_off7_inb i hc2 1))) (ldV arg5.view (harg5.unread x2) (k0_off9 i) (k0_off9_inb i hc2)))))
      (offA (k0_pay386 (F := F)) (logits (k0_pay385 (ldQ arg3.view (harg3.unread x0))) (ldK arg4.view (harg4.unread x1) (k0_off8 i 2#32 0#32) (k0_off8_inb i hc2 1 0))) (logits (k0_pay385 (ldQ arg3.view (harg3.unread x0))) (ldK arg4.view (harg4.unread x1) (k0_off8 i 2#32 2#32) (k0_off8_inb i hc2 1 1))) (ldV arg5.view (harg5.unread x2) (k0_off10 i 2#32) (k0_off10_inb i hc2 1)) (offR (logits (k0_pay385 (ldQ arg3.view (harg3.unread x0))) (ldK arg4.view (harg4.unread x1) (k0_off8 i 1#32 0#32) (k0_off8_inb i hc2 0 0))) (logits (k0_pay385 (ldQ arg3.view (harg3.unread x0))) (ldK arg4.view (harg4.unread x1) (k0_off8 i 1#32 2#32) (k0_off8_inb i hc2 0 1))) (diagR rowI colI (logits (k0_pay385 (ldQ arg3.view (harg3.unread x0))) (ldK arg4.view (harg4.unread x1) (k0_off7 i 0#32) (k0_off7_inb i hc2 0))) (logits1 (k0_pay385 (ldQ arg3.view (harg3.unread x0))) (ldK arg4.view (harg4.unread x1) (k0_off7 i 2#32) (k0_off7_inb i hc2 1))))) (offA (k0_pay386 (F := F)) (logits (k0_pay385 (ldQ arg3.view (harg3.unread x0))) (ldK arg4.view (harg4.unread x1) (k0_off8 i 1#32 0#32) (k0_off8_inb i hc2 0 0))) (logits (k0_pay385 (ldQ arg3.view (harg3.unread x0))) (ldK arg4.view (harg4.unread x1) (k0_off8 i 1#32 2#32) (k0_off8_inb i hc2 0 1))) (ldV arg5.view (harg5.unread x2) (k0_off10 i 1#32) (k0_off10_inb i hc2 0)) (diagR rowI colI (logits (k0_pay385 (ldQ arg3.view (harg3.unread x0))) (ldK arg4.view (harg4.unread x1) (k0_off7 i 0#32) (k0_off7_inb i hc2 0))) (logits1 (k0_pay385 (ldQ arg3.view (harg3.unread x0))) (ldK arg4.view (harg4.unread x1) (k0_off7 i 2#32) (k0_off7_inb i hc2 1)))) (diagA (k0_pay386 (F := F)) rowI colI (logits (k0_pay385 (ldQ arg3.view (harg3.unread x0))) (ldK arg4.view (harg4.unread x1) (k0_off7 i 0#32) (k0_off7_inb i hc2 0))) (logits1 (k0_pay385 (ldQ arg3.view (harg3.unread x0))) (ldK arg4.view (harg4.unread x1) (k0_off7 i 2#32) (k0_off7_inb i hc2 1))) (ldV arg5.view (harg5.unread x2) (k0_off9 i) (k0_off9_inb i hc2))))))
    (hs : ∀ (k : Fin (k0_t1_loop i).trips) (r0 r1 a0 a1 : FVec F S512x128 .f32), Q k.val r0 r1 a0 a1 →
      Q (k.val + 1) (offR (logits (k0_pay384 (ldQ arg3.view (harg3.unread x0))) (ldK arg4.view (harg4.unread x1) (k0_off16 i k 0#32) (k0_off16_inb i k 0))) (logits (k0_pay384 (ldQ arg3.view (harg3.unread x0))) (ldK arg4.view (harg4.unread x1) (k0_off16 i k 2#32) (k0_off16_inb i k 1))) (offR (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) r0))
        (offR (logits (k0_pay385 (ldQ arg3.view (harg3.unread x0))) (ldK arg4.view (harg4.unread x1) (k0_off16 i k 0#32) (k0_off16_inb i k 0))) (logits (k0_pay385 (ldQ arg3.view (harg3.unread x0))) (ldK arg4.view (harg4.unread x1) (k0_off16 i k 2#32) (k0_off16_inb i k 1))) (offR (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) r1))
        (offA (k0_pay386 (F := F)) (logits (k0_pay384 (ldQ arg3.view (harg3.unread x0))) (ldK arg4.view (harg4.unread x1) (k0_off16 i k 0#32) (k0_off16_inb i k 0))) (logits (k0_pay384 (ldQ arg3.view (harg3.unread x0))) (ldK arg4.view (harg4.unread x1) (k0_off16 i k 2#32) (k0_off16_inb i k 1))) (ldV arg5.view (harg5.unread x2) (k0_off18 i k) (k0_off18_inb i k)) (offR (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) r0) (offA (k0_pay386 (F := F)) (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) (ldV arg5.view (harg5.unread x2) (k0_off17 i k) (k0_off17_inb i k)) r0 a0))
        (offA (k0_pay386 (F := F)) (logits (k0_pay385 (ldQ arg3.view (harg3.unread x0))) (ldK arg4.view (harg4.unread x1) (k0_off16 i k 0#32) (k0_off16_inb i k 0))) (logits (k0_pay385 (ldQ arg3.view (harg3.unread x0))) (ldK arg4.view (harg4.unread x1) (k0_off16 i k 2#32) (k0_off16_inb i k 1))) (ldV arg5.view (harg5.unread x2) (k0_off18 i k) (k0_off18_inb i k)) (offR (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) r1) (offA (k0_pay386 (F := F)) (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) (ldV arg5.view (harg5.unread x2) (k0_off17 i k) (k0_off17_inb i k)) r1 a1))) :
    ∃ r0 r1 o0 o1, Q (k0_t1_loop i).trips r0 r1 (shapeCast S512x128 o0 shapeCasts_S1x512x128_S512x128) (shapeCast S512x128 o1 shapeCasts_S1x512x128_S512x128)
      ∧ out0_C_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) := by
  have key : ∀ (o0 o1 : Vec F S1x512x128 .f32),
      (∃ r0 r1, Q (k0_t1_loop i).trips r0 r1 (shapeCast S512x128 o0 shapeCasts_S1x512x128_S512x128) (shapeCast S512x128 o1 shapeCasts_S1x512x128_S512x128)) →
      out0_C_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) →
      ∃ r0 r1 o0 o1, Q (k0_t1_loop i).trips r0 r1 (shapeCast S512x128 o0 shapeCasts_S1x512x128_S512x128) (shapeCast S512x128 o1 shapeCasts_S1x512x128_S512x128)
      ∧ out0_C_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) :=
    fun o0 o1 ⟨r0, r1, q⟩ e => ⟨r0, r1, o0, o1, q, e⟩
  refine key ?o0 ?o1 ?_ ?out
  case out =>
    unfold out0_C_5 kernelRun0_C
    dsimp only
    exact View.read_writes_full _ _ _ _ _
  · refine loop_end (F := F) _ _ _ i arg3 harg3 arg4 harg4 arg5 harg5 arg6 harg6 arg7 harg7 arg8 harg8 arg9 harg9 arg10 harg10 _ _ _ _ _ _ _ _ _ _ _ _ Q _ _ _
      _ _ _ _ ?_ ?_ ?_ h0 hs
    · rfl
    · rfl
    · exact congrArg Prod.snd (rem_none (F := F) ..)

end Cert.KernelIdeal.Visit

end
-- ==== Proof.CaseD.lean ====
/- The block of the result, where the first visit covers four groups of keys: any relation of the
   tiles that the visit starts and every trip carries on holds of the accumulator the epilogue reads. -/
module

public import proofs.«01_k».proof.Proof.Gen.KernelIdeal.Frame
public import proofs.«01_k».proof.Proof.LoopEnd
public import Idealize.ShloMosaic.Lib.VecWindow

@[expose] public section

set_option maxRecDepth 65536

noncomputable section

namespace Cert.KernelIdeal.Visit

open Cert.KernelIdeal.Gen
open Idealize.ShloMosaic Idealize.ShloMosaic.TcCoe Idealize.ShloMosaic.Tactic Idealize.SL.Sem

variable {F : FTy → Type} [FloatOps F] [Named F]

theorem caseD (c : Dev nD) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (hc0 : ¬cond0_0 i) (hc1 : ¬cond0_1 i) (hc2 : ¬cond0_2 i) (hc3 : cond0_3 i)
    (x0 : Vec F S1x512x128 .f32) (x1 : Vec F S1x128x4096 .bf16) (x2 : Vec F S1x4096x128 .bf16) (x3 : Vec F S1x512x128 .bf16) (x4 : Vec F S1x128 .f32)
    (Q : ℕ → FVec F S512x128 .f32 → FVec F S512x128 .f32 → FVec F S512x128 .f32 → FVec F S512x128 .f32 → Prop)
    (h0 : Q 0 (offR (logits (k0_pay384 (ldQ arg3.view (harg3.unread x0))) (ldK arg4.view (harg4.unread x1) (k0_off12 i 3#32 0#32) (k0_off12_inb i hc3 2 0))) (logits (k0_pay384 (ldQ arg3.view (harg3.unread x0))) (ldK arg4.view (harg4.unread x1) (k0_off12 i 3#32 2#32) (k0_off12_inb i hc3 2 1))) (offR (logits (k0_pay384 (ldQ arg3.view (harg3.unread x0))) (ldK arg4.view (harg4.unread x1) (k0_off12 i 2#32 0#32) (k0_off12_inb i hc3 1 0))) (logits (k0_pay384 (ldQ arg3.view (harg3.unread x0))) (ldK arg4.view (harg4.unread x1) (k0_off12 i 2#32 2#32) (k0_off12_inb i hc3 1 1))) (offR (logits (k0_pay384 (ldQ arg3.view (harg3.unread x0))) (ldK arg4.view (harg4.unread x1) (k0_off12 i 1#32 0#32) (k0_off12_inb i hc3 0 0))) (logits (k0_pay384 (ldQ arg3.view (harg3.unread x0))) (ldK arg4.view (harg4.unread x1) (k0_off12 i 1#32 2#32) (k0_off12_inb i hc3 0 1))) (diagR rowI colI (logits (k0_pay384 (ldQ arg3.view (harg3.unread x0))) (ldK arg4.view (harg4.unread x1) (k0_off11 i 0#32) (k0_off11_inb i hc3 0))) (logits1 (k0_pay384 (ldQ arg3.view (harg3.unread x0))) (ldK arg4.view (harg4.unread x1) (k0_off11 i 2#32) (k0_off11_inb i hc3 1)))))))
      (offR (logits (k0_pay385 (ldQ arg3.view (harg3.unread x0))) (ldK arg4.view (harg4.unread x1) (k0_off12 i 3#32 0#32) (k0_off12_inb i hc3 2 0))) (logits (k0_pay385 (ldQ arg3.view (harg3.unread x0))) (ldK arg4.view (harg4.unread x1) (k0_off12 i 3#32 2#32) (k0_off12_inb i hc3 2 1))) (offR (logits (k0_pay385 (ldQ arg3.view (harg3.unread x0))) (ldK arg4.view (harg4.unread x1) (k0_off12 i 2#32 0#32) (k0_off12_inb i hc3 1 0))) (logits (k0_pay385 (ldQ arg3.view (harg3.unread x0))) (ldK arg4.view (harg4.unread x1) (k0_off12 i 2#32 2#32) (k0_off12_inb i hc3 1 1))) (offR (logits (k0_pay385 (ldQ arg3.view (harg3.unread x0))) (ldK arg4.view (harg4.unread x1) (k0_off12 i 1#32 0#32) (k0_off12_inb i hc3 0 0))) (logits (k0_pay385 (ldQ arg3.view (harg3.unread x0))) (ldK arg4.view (harg4.unread x1) (k0_off12 i 1#32 2#32) (k0_off12_inb i hc3 0 1))) (diagR rowI colI (logits (k0_pay385 (ldQ arg3.view (harg3.unread x0))) (ldK arg4.view (harg4.unread x1) (k0_off11 i 0#32) (k0_off11_inb i hc3 0))) (logits1 (k0_pay385 (ldQ arg3.view (harg3.unread x0))) (ldK arg4.view (harg4.unread x1) (k0_off11 i 2#32) (k0_off11_inb i hc3 1)))))))
      (offA (k0_pay386 (F := F)) (logits (k0_pay384 (ldQ arg3.view (harg3.unread x0))) (ldK arg4.view (harg4.unread x1) (k0_off12 i 3#32 0#32) (k0_off12_inb i hc3 2 0))) (logits (k0_pay384 (ldQ arg3.view (harg3.unread x0))) (ldK arg4.view (harg4.unread x1) (k0_off12 i 3#32 2#32) (k0_off12_inb i hc3 2 1))) (ldV arg5.view (harg5.unread x2) (k0_off14 i 3#32) (k0_off14_inb i hc3 2)) (offR (logits (k0_pay384 (ldQ arg3.view (harg3.unread x0))) (ldK arg4.view (harg4.unread x1) (k0_off12 i 2#32 0#32) (k0_off12_inb i hc3 1 0))) (logits (k0_pay384 (ldQ arg3.view (harg3.unread x0))) (ldK arg4.view (harg4.unread x1) (k0_off12 i 2#32 2#32) (k0_off12_inb i hc3 1 1))) (offR (logits (k0_pay384 (ldQ arg3.view (harg3.unread x0))) (ldK arg4.view (harg4.unread x1) (k0_off12 i 1#32 0#32) (k0_off12_inb i hc3 0 0))) (logits (k0_pay384 (ldQ arg3.view (harg3.unread x0))) (ldK arg4.view (harg4.unread x1) (k0_off12 i 1#32 2#32) (k0_off12_inb i hc3 0 1))) (diagR rowI colI (logits (k0_pay384 (ldQ arg3.view (harg3.unread x0))) (ldK arg4.view (harg4.unread x1) (k0_off11 i 0#32) (k0_off11_inb i hc3 0))) (logits1 (k0_pay384 (ldQ arg3.view (harg3.unread x0))) (ldK arg4.view (harg4.unread x1) (k0_off11 i 2#32) (k0_off11_inb i hc3 1)))))) (offA (k0_pay386 (F := F)) (logits (k0_pay384 (ldQ arg3.view (harg3.unread x0))) (ldK arg4.view (harg4.unread x1) (k0_off12 i 2#32 0#32) (k0_off12_inb i hc3 1 0))) (logits (k0_pay384 (ldQ arg3.view (harg3.unread x0))) (ldK arg4.view (harg4.unread x1) (k0_off12 i 2#32 2#32) (k0_off12_inb i hc3 1 1))) (ldV arg5.view (harg5.unread x2) (k0_off14 i 2#32) (k0_off14_inb i hc3 1)) (offR (logits (k0_pay384 (ldQ arg3.view (harg3.unread x0))) (ldK arg4.view (harg4.unread x1) (k0_off12 i 1#32 0#32) (k0_off12_inb i hc3 0 0))) (logits (k0_pay384 (ldQ arg3.view (harg3.unread x0))) (ldK arg4.view (harg4.unread x1) (k0_off12 i 1#32 2#32) (k0_off12_inb i hc3 0 1))) (diagR rowI colI (logits (k0_pay384 (ldQ arg3.view (harg3.unread x0))) (ldK arg4.view (harg4.unread x1) (k0_off11 i 0#32) (k0_off11_inb i hc3 0))) (logits1 (k0_pay384 (ldQ arg3.view (harg3.unread x0))) (ldK arg4.view (harg4.unread x1) (k0_off11 i 2#32) (k0_off11_inb i hc3 1))))) (offA (k0_pay386 (F := F)) (logits (k0_pay384 (ldQ arg3.view (harg3.unread x0))) (ldK arg4.view (harg4.unread x1) (k0_off12 i 1#32 0#32) (k0_off12_inb i hc3 0 0))) (logits (k0_pay384 (ldQ arg3.view (harg3.unread x0))) (ldK arg4.view (harg4.unread x1) (k0_off12 i 1#32 2#32) (k0_off12_inb i hc3 0 1))) (ldV arg5.view (harg5.unread x2) (k0_off14 i 1#32) (k0_off14_inb i hc3 0)) (diagR rowI colI (logits (k0_pay384 (ldQ arg3.view (harg3.unread x0))) (ldK arg4.view (harg4.unread x1) (k0_off11 i 0#32) (k0_off11_inb i hc3 0))) (logits1 (k0_pay384 (ldQ arg3.view (harg3.unread x0))) (ldK arg4.view (harg4.unread x1) (k0_off11 i 2#32) (k0_off11_inb i hc3 1)))) (diagA (k0_pay386 (F := F)) rowI colI (logits (k0_pay384 (ldQ arg3.view (harg3.unread x0))) (ldK arg4.view (harg4.unread x1) (k0_off11 i 0#32) (k0_off11_inb i hc3 0))) (logits1 (k0_pay384 (ldQ arg3.view (harg3.unread x0))) (ldK arg4.view (harg4.unread x1) (k0_off11 i 2#32) (k0_off11_inb i hc3 1))) (ldV arg5.view (harg5.unread x2) (k0_off13 i) (k0_off13_inb i hc3))))))
      (offA (k0_pay386 (F := F)) (logits (k0_pay385 (ldQ arg3.view (harg3.unread x0))) (ldK arg4.view (harg4.unread x1) (k0_off12 i 3#32 0#32) (k0_off12_inb i hc3 2 0))) (logits (k0_pay385 (ldQ arg3.view (harg3.unread x0))) (ldK arg4.view (harg4.unread x1) (k0_off12 i 3#32 2#32) (k0_off12_inb i hc3 2 1))) (ldV arg5.view (harg5.unread x2) (k0_off14 i 3#32) (k0_off14_inb i hc3 2)) (offR (logits (k0_pay385 (ldQ arg3.view (harg3.unread x0))) (ldK arg4.view (harg4.unread x1) (k0_off12 i 2#32 0#32) (k0_off12_inb i hc3 1 0))) (logits (k0_pay385 (ldQ arg3.view (harg3.unread x0))) (ldK arg4.view (harg4.unread x1) (k0_off12 i 2#32 2#32) (k0_off12_inb i hc3 1 1))) (offR (logits (k0_pay385 (ldQ arg3.view (harg3.unread x0))) (ldK arg4.view (harg4.unread x1) (k0_off12 i 1#32 0#32) (k0_off12_inb i hc3 0 0))) (logits (k0_pay385 (ldQ arg3.view (harg3.unread x0))) (ldK arg4.view (harg4.unread x1) (k0_off12 i 1#32 2#32) (k0_off12_inb i hc3 0 1))) (diagR rowI colI (logits (k0_pay385 (ldQ arg3.view (harg3.unread x0))) (ldK arg4.view (harg4.unread x1) (k0_off11 i 0#32) (k0_off11_inb i hc3 0))) (logits1 (k0_pay385 (ldQ arg3.view (harg3.unread x0))) (ldK arg4.view (harg4.unread x1) (k0_off11 i 2#32) (k0_off11_inb i hc3 1)))))) (offA (k0_pay386 (F := F)) (logits (k0_pay385 (ldQ arg3.view (harg3.unread x0))) (ldK arg4.view (harg4.unread x1) (k0_off12 i 2#32 0#32) (k0_off12_inb i hc3 1 0))) (logits (k0_pay385 (ldQ arg3.view (harg3.unread x0))) (ldK arg4.view (harg4.unread x1) (k0_off12 i 2#32 2#32) (k0_off12_inb i hc3 1 1))) (ldV arg5.view (harg5.unread x2) (k0_off14 i 2#32) (k0_off14_inb i hc3 1)) (offR (logits (k0_pay385 (ldQ arg3.view (harg3.unread x0))) (ldK arg4.view (harg4.unread x1) (k0_off12 i 1#32 0#32) (k0_off12_inb i hc3 0 0))) (logits (k0_pay385 (ldQ arg3.view (harg3.unread x0))) (ldK arg4.view (harg4.unread x1) (k0_off12 i 1#32 2#32) (k0_off12_inb i hc3 0 1))) (diagR rowI colI (logits (k0_pay385 (ldQ arg3.view (harg3.unread x0))) (ldK arg4.view (harg4.unread x1) (k0_off11 i 0#32) (k0_off11_inb i hc3 0))) (logits1 (k0_pay385 (ldQ arg3.view (harg3.unread x0))) (ldK arg4.view (harg4.unread x1) (k0_off11 i 2#32) (k0_off11_inb i hc3 1))))) (offA (k0_pay386 (F := F)) (logits (k0_pay385 (ldQ arg3.view (harg3.unread x0))) (ldK arg4.view (harg4.unread x1) (k0_off12 i 1#32 0#32) (k0_off12_inb i hc3 0 0))) (logits (k0_pay385 (ldQ arg3.view (harg3.unread x0))) (ldK arg4.view (harg4.unread x1) (k0_off12 i 1#32 2#32) (k0_off12_inb i hc3 0 1))) (ldV arg5.view (harg5.unread x2) (k0_off14 i 1#32) (k0_off14_inb i hc3 0)) (diagR rowI colI (logits (k0_pay385 (ldQ arg3.view (harg3.unread x0))) (ldK arg4.view (harg4.unread x1) (k0_off11 i 0#32) (k0_off11_inb i hc3 0))) (logits1 (k0_pay385 (ldQ arg3.view (harg3.unread x0))) (ldK arg4.view (harg4.unread x1) (k0_off11 i 2#32) (k0_off11_inb i hc3 1)))) (diagA (k0_pay386 (F := F)) rowI colI (logits (k0_pay385 (ldQ arg3.view (harg3.unread x0))) (ldK arg4.view (harg4.unread x1) (k0_off11 i 0#32) (k0_off11_inb i hc3 0))) (logits1 (k0_pay385 (ldQ arg3.view (harg3.unread x0))) (ldK arg4.view (harg4.unread x1) (k0_off11 i 2#32) (k0_off11_inb i hc3 1))) (ldV arg5.view (harg5.unread x2) (k0_off13 i) (k0_off13_inb i hc3)))))))
    (hs : ∀ (k : Fin (k0_t1_loop i).trips) (r0 r1 a0 a1 : FVec F S512x128 .f32), Q k.val r0 r1 a0 a1 →
      Q (k.val + 1) (offR (logits (k0_pay384 (ldQ arg3.view (harg3.unread x0))) (ldK arg4.view (harg4.unread x1) (k0_off16 i k 0#32) (k0_off16_inb i k 0))) (logits (k0_pay384 (ldQ arg3.view (harg3.unread x0))) (ldK arg4.view (harg4.unread x1) (k0_off16 i k 2#32) (k0_off16_inb i k 1))) (offR (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) r0))
        (offR (logits (k0_pay385 (ldQ arg3.view (harg3.unread x0))) (ldK arg4.view (harg4.unread x1) (k0_off16 i k 0#32) (k0_off16_inb i k 0))) (logits (k0_pay385 (ldQ arg3.view (harg3.unread x0))) (ldK arg4.view (harg4.unread x1) (k0_off16 i k 2#32) (k0_off16_inb i k 1))) (offR (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) r1))
        (offA (k0_pay386 (F := F)) (logits (k0_pay384 (ldQ arg3.view (harg3.unread x0))) (ldK arg4.view (harg4.unread x1) (k0_off16 i k 0#32) (k0_off16_inb i k 0))) (logits (k0_pay384 (ldQ arg3.view (harg3.unread x0))) (ldK arg4.view (harg4.unread x1) (k0_off16 i k 2#32) (k0_off16_inb i k 1))) (ldV arg5.view (harg5.unread x2) (k0_off18 i k) (k0_off18_inb i k)) (offR (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) r0) (offA (k0_pay386 (F := F)) (logits (k0_pay384 (ldQ arg3.view (harg3.unread x0))) (ldK arg4.view (harg4.unread x1) (k0_off15 i k 0#32) (k0_off15_inb i k 0))) (logits (k0_pay384 (ldQ arg3.view (harg3.unread x0))) (ldK arg4.view (harg4.unread x1) (k0_off15 i k 2#32) (k0_off15_inb i k 1))) (ldV arg5.view (harg5.unread x2) (k0_off17 i k) (k0_off17_inb i k)) r0 a0))
        (offA (k0_pay386 (F := F)) (logits (k0_pay385 (ldQ arg3.view (harg3.unread x0))) (ldK arg4.view (harg4.unread x1) (k0_off16 i k 0#32) (k0_off16_inb i k 0))) (logits (k0_pay385 (ldQ arg3.view (harg3.unread x0))) (ldK arg4.view (harg4.unread x1) (k0_off16 i k 2#32) (k0_off16_inb i k 1))) (ldV arg5.view (harg5.unread x2) (k0_off18 i k) (k0_off18_inb i k)) (offR (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) r1) (offA (k0_pay386 (F := F)) (logits (k0_pay385 (ldQ arg3.view (harg3.unread x0))) (ldK arg4.view (harg4.unread x1) (k0_off15 i k 0#32) (k0_off15_inb i k 0))) (logits (k0_pay385 (ldQ arg3.view (harg3.unread x0))) (ldK arg4.view (harg4.unread x1) (k0_off15 i k 2#32) (k0_off15_inb i k 1))) (ldV arg5.view (harg5.unread x2) (k0_off17 i k) (k0_off17_inb i k)) r1 a1))) :
    ∃ r0 r1 o0 o1, Q (k0_t1_loop i).trips r0 r1 (shapeCast S512x128 o0 shapeCasts_S1x512x128_S512x128) (shapeCast S512x128 o1 shapeCasts_S1x512x128_S512x128)
      ∧ out0_D_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) := by
  have key : ∀ (o0 o1 : Vec F S1x512x128 .f32),
      (∃ r0 r1, Q (k0_t1_loop i).trips r0 r1 (shapeCast S512x128 o0 shapeCasts_S1x512x128_S512x128) (shapeCast S512x128 o1 shapeCasts_S1x512x128_S512x128)) →
      out0_D_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) →
      ∃ r0 r1 o0 o1, Q (k0_t1_loop i).trips r0 r1 (shapeCast S512x128 o0 shapeCasts_S1x512x128_S512x128) (shapeCast S512x128 o1 shapeCasts_S1x512x128_S512x128)
      ∧ out0_D_5 c i arg3 harg3 arg4 harg4 arg5 harg5 arg6 harg6 arg7 harg7 arg8 harg8 arg9 harg9 arg10 harg10 hc0 hc1 hc2 hc3 x0 x1 x2 x3 x4 = k0_pay404 k0_pay381 o0 o1
          (View.readAt (Elt F) arg7.view (Rect.unit (s := S1x128) ![0, 0] S1x128.size inb_S1x128_S1x128_0_0).toLoadRect (harg7.unread x4))
          (ldQ arg6.view (harg6.unread x3)) :=
    fun o0 o1 ⟨r0, r1, q⟩ e => ⟨r0, r1, o0, o1, q, e⟩
  refine key ?o0 ?o1 ?_ ?out
  case out =>
    unfold out0_D_5 kernelRun0_D
    dsimp only
    exact View.read_writes_full _ _ _ _ _
  · refine loop_end (F := F) _ _ _ i arg3 harg3 arg4 harg4 arg5 harg5 arg6 harg6 arg7 harg7 arg8 harg8 arg9 harg9 arg10 harg10 _ _ _ _ _ _ _ _ _ _ _ _ Q _ _ _
      _ _ _ _ ?_ ?_ ?_ h0 hs
    · rfl
    · rfl
    · exact congrArg Prod.snd (rem_none (F := F) ..)

end Cert.KernelIdeal.Visit

end
-- ==== Proof.Math.lean ====
/- The arithmetic of stick-breaking weights over the extended reals: softplus in base e and in base two, the sums of it
   over the keys from one key to the last, the weight a key gets, and how both grow by a block of keys. -/
module

public import Idealize.ShloMosaic.PureOps.Ideal
public import Mathlib.Algebra.BigOperators.Intervals
public import Mathlib.Algebra.Order.BigOperators.Group.Finset

@[expose] public section

noncomputable section

namespace Cert.Stick

open Idealize.ShloMosaic Finset

/-- The softplus, as the reference writes it. -/
def softp (z : EReal) : EReal := max z 0 + Ideal.log1p (Ideal.exp (-(max z (-z))))

/-- The base-two logarithm of e. -/
def l2e : ℝ := (Real.log 2)⁻¹

/-- The softplus to base two of a logit to base two, as the kernel writes it. -/
def sp2 (z : EReal) : EReal := max z 0 + Ideal.log (1 + Ideal.exp2 (0 - max z (-z))) * (l2e : EReal)

theorem l2e_pos : 0 < l2e := inv_pos.mpr (Real.log_pos (by norm_num))

theorem exp2_real (x : ℝ) : Ideal.exp2 ((x * l2e : ℝ) : EReal) = (Real.exp x : EReal) := by
  rw [Ideal.exp2_coe]
  congr 1
  show (2 : ℝ) ^ (x * l2e) = _
  rw [Real.rpow_def_of_pos (by norm_num)]
  congr 1
  have : Real.log 2 ≠ 0 := (Real.log_pos (by norm_num)).ne'
  rw [l2e]; field_simp

theorem exp2_mul (x : EReal) : Ideal.exp2 (x * (l2e : EReal)) = Ideal.exp x := by
  induction x with
  | bot => rw [EReal.bot_mul_coe_of_pos l2e_pos]; rfl
  | top => rw [EReal.top_mul_coe_of_pos l2e_pos]; rfl
  | coe x => rw [← EReal.coe_mul, exp2_real]; rfl

theorem softp_bot : softp ⊥ = 0 := by
  simp [softp, Ideal.log1p, ← EReal.coe_one]

theorem softp_top : softp ⊤ = ⊤ := by
  simp only [softp, Ideal.log1p, EReal.neg_top, bot_le, sup_of_le_left, Ideal.exp_bot, add_zero, le_top]
  rw [← EReal.coe_one, Ideal.log_coe]
  simp

theorem max_coe (x y : ℝ) : max (x : EReal) (y : EReal) = ((max x y : ℝ) : EReal) :=
  (EReal.coe_strictMono.monotone.map_max).symm

theorem log_one_add_exp (y : ℝ) :
    Ideal.log (1 + ((Real.exp y : ℝ) : EReal)) = ((Real.log (1 + Real.exp y) : ℝ) : EReal) := by
  rw [← EReal.coe_one, ← EReal.coe_add, Ideal.log_coe, if_neg (not_le.mpr (by positivity))]

theorem softp_coe (x : ℝ) : softp x = ((max x 0 + Real.log (1 + Real.exp (-(max x (-x)))) : ℝ) : EReal) := by
  rw [softp, Ideal.log1p, ← EReal.coe_zero, max_coe, ← EReal.coe_neg, max_coe, ← EReal.coe_neg, Ideal.exp_coe,
    log_one_add_exp, ← EReal.coe_add]

theorem softp_real (x : ℝ) : softp x = ((Real.log (1 + Real.exp x) : ℝ) : EReal) := by
  rw [softp_coe]
  congr 1
  rcases le_total 0 x with h | h
  · rw [max_eq_left h, max_eq_left (by linarith), ← Real.log_exp x, ← Real.log_mul (Real.exp_pos _).ne' (by positivity)]
    congr 1
    rw [Real.log_exp, mul_add, ← Real.exp_add]
    simp [add_comm]
  · rw [max_eq_right h, max_eq_right (by linarith), neg_neg, zero_add]

theorem softp_nonneg (z : EReal) : 0 ≤ softp z := by
  induction z with
  | bot => rw [softp_bot]
  | top => rw [softp_top]; exact le_top
  | coe x =>
    rw [softp_real]
    exact_mod_cast Real.log_nonneg (by linarith [Real.exp_pos x])

/-- The base-two softplus is the softplus in other units. -/
theorem sp2_mul (z : EReal) : sp2 (z * (l2e : EReal)) = softp z * (l2e : EReal) := by
  induction z with
  | bot =>
    rw [EReal.bot_mul_coe_of_pos l2e_pos, softp_bot, sp2]
    simp only [EReal.neg_bot, bot_le, sup_of_le_right, le_top, zero_sub, EReal.neg_top, Ideal.exp2_bot, add_zero]
    rw [← EReal.coe_one, Ideal.log_coe]; simp
  | top =>
    rw [EReal.top_mul_coe_of_pos l2e_pos, softp_top, sp2]
    simp only [EReal.neg_top, bot_le, sup_of_le_left, le_top, zero_sub, Ideal.exp2_bot, add_zero]
    rw [← EReal.coe_one, Ideal.log_coe, EReal.top_mul_coe_of_pos l2e_pos, if_neg (by norm_num)]; simp
  | coe x =>
    have h := l2e_pos
    rw [softp_coe, ← EReal.coe_mul, sp2, ← EReal.coe_zero, max_coe, ← EReal.coe_neg, max_coe, ← EReal.coe_sub]
    have e : (0 : ℝ) - max (x * l2e) (-(x * l2e)) = -(max x (-x)) * l2e := by
      rw [neg_mul, max_mul_of_nonneg _ _ h.le, neg_mul, zero_sub]
    rw [e, exp2_real, log_one_add_exp, ← EReal.coe_mul, ← EReal.coe_add, ← EReal.coe_mul]
    congr 1
    rw [add_mul, max_mul_of_nonneg _ _ h.le, zero_mul]

/-- The reference's weight exponent, with the logarithm of the sigmoid written out. -/
theorem exponent (z D : EReal) (hD : 0 ≤ D) :
    -(softp (-z)) + (-(softp z + D) - -(softp z)) = z + -(softp z + D) := by
  have nb : D ≠ ⊥ := fun h => by rw [h] at hD; exact absurd hD (by simp)
  induction z with
  | bot =>
    rw [EReal.neg_bot, softp_top, softp_bot]; simp
  | top =>
    rw [EReal.neg_top, softp_top, softp_bot, EReal.top_add_of_ne_bot nb]; simp
  | coe x =>
    have e : Real.log (1 + Real.exp (-x)) = Real.log (1 + Real.exp x) - x := by
      have : (1 + Real.exp (-x)) = (1 + Real.exp x) * Real.exp (-x) := by
        rw [add_mul, ← Real.exp_add]; simp [add_comm]
      rw [this, Real.log_mul (by positivity) (by positivity), Real.log_exp]; ring
    rw [← EReal.coe_neg, softp_real, softp_real, e]
    generalize Real.log (1 + Real.exp x) = l
    induction D with
    | bot => exact absurd rfl nb
    | top => simp
    | coe d =>
      norm_cast
      ring

/-! ### Sums over the keys from one on -/

/-- The masked base-two softplus of key `s` in the row that sees the keys before `t`. -/
def spm (t : ℕ) (z : ℕ → EReal) (s : ℕ) : EReal := if s < t then sp2 (z s) else 0

/-- The masked softplus summed over the keys from `a` on. -/
def Rs (t : ℕ) (z : ℕ → EReal) (a : ℕ) : EReal := ∑ s ∈ Ico a 4096, spm t z s

/-- The weight of key `s`. -/
def Wt (t : ℕ) (z : ℕ → EReal) (s : ℕ) : EReal := if s < t then Ideal.exp2 (z s + -(Rs t z s)) else 0

/-- The weighted values of the keys from `a` on. -/
def Ac (t : ℕ) (z : ℕ → EReal) (v : ℕ → EReal) (a : ℕ) : EReal := ∑ s ∈ Ico a 4096, Wt t z s * v s

theorem sp2_nonneg (z : EReal) : 0 ≤ sp2 z := by
  have : z = (z * ((l2e⁻¹ : ℝ) : EReal)) * (l2e : EReal) := by
    rw [mul_assoc, ← EReal.coe_mul, inv_mul_cancel₀ l2e_pos.ne', EReal.coe_one, mul_one]
  rw [this, sp2_mul]
  exact mul_nonneg (softp_nonneg _) (by exact_mod_cast l2e_pos.le)

theorem spm_nonneg (t : ℕ) (z : ℕ → EReal) (s : ℕ) : 0 ≤ spm t z s := by
  unfold spm; split
  · exact sp2_nonneg _
  · exact le_rfl

theorem ne_bot_of_nonneg {x : EReal} (h : 0 ≤ x) : x ≠ ⊥ := fun e => by rw [e] at h; exact absurd h (by simp)

/-- The negative of a sum of nonnegative terms. -/
theorem neg_add_of_nonneg {x y : EReal} (hx : 0 ≤ x) (hy : 0 ≤ y) : -(x + y) = -x + -y := by
  rw [EReal.neg_add (.inl (ne_bot_of_nonneg hx)) (.inr (ne_bot_of_nonneg hy)), sub_eq_add_neg]

theorem neg_sum {ι : Type} (I : Finset ι) (f : ι → EReal) (h : ∀ i, 0 ≤ f i) : ∑ i ∈ I, -(f i) = -∑ i ∈ I, f i := by
  classical
  induction I using Finset.induction_on with
  | empty => simp
  | insert a I ha ih =>
    rw [sum_insert ha, sum_insert ha, ih, neg_add_of_nonneg (h a) (sum_nonneg fun i _ => h i)]

theorem Rs_nonneg (t : ℕ) (z : ℕ → EReal) (a : ℕ) : 0 ≤ Rs t z a := sum_nonneg fun s _ => spm_nonneg t z s

theorem Rs_split (t : ℕ) (z : ℕ → EReal) (a n : ℕ) (h : a + n ≤ 4096) :
    Rs t z a = (∑ j : Fin n, spm t z (a + j.val)) + Rs t z (a + n) := by
  rw [Rs, Rs, ← sum_Ico_consecutive _ (Nat.le_add_right a n) h, sum_Ico_eq_sum_range, Nat.add_sub_cancel_left,
    Fin.sum_univ_eq_sum_range (fun j => spm t z (a + j)) n]

theorem Rs_zero (t : ℕ) (z : ℕ → EReal) (a : ℕ) (h : t ≤ a) : Rs t z a = 0 :=
  sum_eq_zero fun s hs => if_neg (by have := (mem_Ico.mp hs).1; omega)

theorem Wt_zero (t : ℕ) (z : ℕ → EReal) (a : ℕ) (h : t ≤ a) : Wt t z a = 0 := if_neg (by omega)

theorem Ac_zero (t : ℕ) (z v : ℕ → EReal) (a : ℕ) (h : t ≤ a) : Ac t z v a = 0 :=
  sum_eq_zero fun s hs => by rw [Wt_zero t z s (by have := (mem_Ico.mp hs).1; omega), zero_mul]

/-- The running sum takes a block of keys. -/
theorem row_run (t : ℕ) (z : ℕ → EReal) (a n : ℕ) (h : a + n ≤ 4096) :
    -(Rs t z (a + n)) - (∑ j : Fin n, spm t z (a + j.val)) = -(Rs t z a) := by
  rw [Rs_split t z a n h, neg_add_of_nonneg (sum_nonneg fun j _ => spm_nonneg t z _) (Rs_nonneg ..), sub_eq_add_neg,
    add_comm]

/-- The triangular product within a block, with the sum of what lies after the block, is the sum from a key on. -/
theorem row_cum (t : ℕ) (z : ℕ → EReal) (a n : ℕ) (h : a + n ≤ 4096) (j : Fin n) :
    (∑ k : Fin n, spm t z (a + k.val) * (if j ≤ k then (-1 : EReal) else 0)) + -(Rs t z (a + n))
      = -(Rs t z (a + j.val)) := by
  have e : ∀ k : Fin n, spm t z (a + k.val) * (if j ≤ k then (-1 : EReal) else 0)
      = -(if j.val ≤ k.val then spm t z (a + k.val) else 0) := fun k => by
    have hjk : (j ≤ k) ↔ (j.val ≤ k.val) := Iff.rfl
    by_cases hk : j.val ≤ k.val
    · rw [if_pos (hjk.mpr hk), if_pos hk, mul_neg, mul_one]
    · rw [if_neg (fun c => hk (hjk.mp c)), if_neg hk, mul_zero, neg_zero]
  have nn : ∀ k : Fin n, 0 ≤ (if j.val ≤ k.val then spm t z (a + k.val) else 0) := fun k => by
    split
    · exact spm_nonneg ..
    · exact le_rfl
  rw [sum_congr rfl fun k _ => e k, neg_sum _ _ nn, ← neg_add_of_nonneg (sum_nonneg fun k _ => nn k) (Rs_nonneg ..)]
  congr 1
  rw [Rs, Rs, ← sum_Ico_consecutive (fun s => spm t z s) (show a + j.val ≤ a + n by omega) h]
  congr 1
  rw [Fin.sum_univ_eq_sum_range (fun k => if j.val ≤ k then spm t z (a + k) else 0) n, ← sum_filter,
    ← sum_image (s := (range n).filter fun k => j.val ≤ k) (g := fun k => a + k) (f := fun s => spm t z s)
      (fun x _ y _ hxy => Nat.add_left_cancel hxy)]
  refine sum_congr ?_ fun _ _ => rfl
  ext s
  simp only [mem_image, mem_filter, mem_range, mem_Ico]
  constructor
  · rintro ⟨k, ⟨h1, h2⟩, rfl⟩; omega
  · rintro ⟨h1, h2⟩; exact ⟨s - a, ⟨by omega, by omega⟩, by omega⟩

/-- The accumulator takes a block of keys. -/
theorem row_acc (t : ℕ) (z v : ℕ → EReal) (a n : ℕ) (h : a + n ≤ 4096) :
    Ac t z v (a + n) + (∑ j : Fin n, Wt t z (a + j.val) * v (a + j.val)) = Ac t z v a := by
  rw [Ac, Ac, ← sum_Ico_consecutive _ (Nat.le_add_right a n) h, sum_Ico_eq_sum_range (fun s => Wt t z s * v s) a (a + n),
    Nat.add_sub_cancel_left, Fin.sum_univ_eq_sum_range (fun j => Wt t z (a + j) * v (a + j)) n, add_comm]

end Cert.Stick

end
-- ==== Proof.Point.lean ====
/- What the kernel's tile functions read at one row and one column, over the extended reals. -/
module

public import proofs.«01_k».proof.Proof.LoopEnd
public import proofs.«01_k».proof.Proof.Math
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.WordCmp

@[expose] public section

noncomputable section

namespace Cert.KernelIdeal.Visit

open Cert.KernelIdeal Cert.KernelIdeal.Gen
open Idealize.ShloMosaic Idealize.ShloMosaic.TcCoe Idealize.SL.Sem Idealize.ShloMosaic.ValueIdx

theorem l2e_named : (Named.named (F := Ideal) κ "log2e" (φ := .f32) 0x3FB8AA3B#32 : EReal) = (Stick.l2e : EReal) := rfl

theorem zer_apply (s : Shape) (i : s.Idx) : zer (F := Ideal) s i = 0 := Ideal.ofBits_zero_f32

theorem sp_apply (s : Shape) (z : FVec Ideal s .f32) (i : s.Idx) : sp (F := Ideal) s z i = Stick.sp2 (z i) := by
  show max (z i) (Ideal.ofBits .f32 0x00000000#32)
      + Ideal.log (Ideal.ofBits .f32 0x3F800000#32 + Ideal.exp2 (Ideal.ofBits .f32 0x00000000#32 - max (z i) (-(z i))))
        * (Named.named (F := Ideal) κ "log2e" (φ := .f32) 0x3FB8AA3B#32 : EReal) = _
  rw [Ideal.ofBits_zero_f32, Ideal.ofBits_one_f32, l2e_named]
  rfl

theorem lift_row {m n : Nat} (h : (⟨2, ![m, n]⟩ : Shape).Reduces [1] (⟨1, ![m]⟩ : Shape)) (x : Fin m)
    (k : Fin ((⟨2, ![m, n]⟩ : Shape).size 1)) : h.lift (ix1 x) k = ix2 x (⟨k.val, k.isLt⟩ : Fin n) := by
  funext c; apply Fin.ext
  fin_cases c <;> rfl

theorem column_apply {m n : Nat} (y : (⟨1, ![m]⟩ : Shape).Idx → EReal) (h1 : (⟨1, ![m]⟩ : Shape).ShapeCasts ⟨2, ![m, 1]⟩)
    (h2 : (⟨2, ![m, 1]⟩ : Shape).Broadcasts ⟨2, ![m, n]⟩) (x : Fin m) (l : Fin n) :
    broadcastTo ⟨2, ![m, n]⟩ (shapeCast ⟨2, ![m, 1]⟩ y h1) h2 (ix2 x l) = y (ix1 x) := by
  refine (broadcastTo_apply _ _ _ (ix2 x 0) fun a => ?_).trans (shapeCast_a_a1_apply _ _ _ _)
  match a with
  | ⟨0, _⟩ =>
    show x.val = if m = 1 then 0 else x.val
    split
    · have := x.isLt; omega
    · rfl
  | ⟨1, _⟩ => rfl

theorem tot_apply (s : FVec Ideal S512x256 .f32) (x : Fin 512) (l : Fin 128) :
    tot s (ix2 x l) = ∑ j : Fin 256, s (ix2 x j) := by
  refine (column_apply _ _ _ x l).trans ((Ideal.multiReduction_add_single _ _ _ _ _ _).trans ?_)
  exact Finset.sum_congr rfl fun k _ => congrArg s (lift_row _ x k)

theorem tot1_apply (s : FVec Ideal S256x256 .f32) (x : Fin 256) (l : Fin 128) :
    tot1 s (ix2 x l) = ∑ j : Fin 256, s (ix2 x j) := by
  refine (column_apply _ _ _ x l).trans ((Ideal.multiReduction_add_single _ _ _ _ _ _).trans ?_)
  exact Finset.sum_congr rfl fun k _ => congrArg s (lift_row _ x k)

theorem ofBits_neg_one : Ideal.ofBits .f32 0xBF800000#32 = -1 := by
  simp [Ideal.ofBits, Ideal.ieee, ← EReal.coe_one, ← EReal.coe_neg]
  norm_num

/-- A select by a comparison of two small numbers. -/
theorem select_slt (a b : Nat) (ha : a < 2 ^ 31) (hb : b < 2 ^ 31) (x y : EReal) :
    Scalar.select (IntOp.cmpi .slt (BitVec.ofNat 32 a) (BitVec.ofNat 32 b)) x y = if a < b then x else y := by
  show (if IntOp.cmpi .slt (BitVec.ofNat 32 a) (BitVec.ofNat 32 b) = 1#1 then x else y) = _
  by_cases h : a < b
  · rw [if_pos h, if_pos ((WordCmp.cmpi_slt_ofNat_eq_one_iff (w := 32) ha hb).mpr h)]
  · rw [if_neg h, if_neg (fun c => h ((WordCmp.cmpi_slt_ofNat_eq_one_iff (w := 32) ha hb).mp c))]

theorem tri_apply (k j : Fin 256) : k0_pay386 (F := Ideal) (ix2 k j) = if j ≤ k then (-1 : EReal) else 0 := by
  show Scalar.select (IntOp.cmpi .sge (iota .tc S256x256 32 [0] iota_S256x256_d0_w32 (ix2 k j))
    (iota .tc S256x256 32 [1] iota_S256x256_d1_w32 (ix2 k j)))
    (Ideal.ofBits .f32 0xBF800000#32) (Ideal.ofBits .f32 0x00000000#32) = _
  rw [iota_single_apply, iota_single_apply, ofBits_neg_one, Ideal.ofBits_zero_f32]
  show Scalar.select (IntOp.cmpi .sge (BitVec.ofNat 32 k.val) (BitVec.ofNat 32 j.val)) _ _ = _
  have hk := k.isLt
  have hj := j.isLt
  show (if IntOp.cmpi .sge (BitVec.ofNat 32 k.val) (BitVec.ofNat 32 j.val) = 1#1 then (-1 : EReal) else 0) = _
  by_cases h : j ≤ k
  · rw [if_pos h, if_pos ((WordCmp.cmpi_sge_ofNat_eq_one_iff (w := 32) (by omega) (by omega)).mpr h)]
  · rw [if_neg h, if_neg (fun c => h ((WordCmp.cmpi_sge_ofNat_eq_one_iff (w := 32) (by omega) (by omega)).mp c))]

theorem const_zero_apply (s : Shape) (i : s.Idx) : constant (F := Ideal) s .f32 0x00000000#32 i = 0 := Ideal.ofBits_zero_f32

theorem cum_apply (s : FVec Ideal S512x256 .f32) (x : Fin 512) (j : Fin 256) :
    cum (F := Ideal) k0_pay386 s (ix2 x j) = ∑ k : Fin 256, s (ix2 x k) * (if j ≤ k then (-1 : EReal) else 0) := by
  refine (Ideal.matmul_plain_apply (M := 512) (K := 256) (N := 256) none _ _ _ x j).trans ?_
  rw [const_zero_apply, zero_add]
  exact Finset.sum_congr rfl fun k _ => by rw [tri_apply]; rfl

theorem cum1_apply (s : FVec Ideal S256x256 .f32) (x j : Fin 256) :
    matmul (F := Ideal) dot_S256x256_S256x256_S256x256_1_0_0_1_n_n none (truncf .bf16 s bitsLt_bf16_f32) k0_pay386
      (constant S256x256 .f32 0x00000000#32) (ix2 x j) = ∑ k : Fin 256, s (ix2 x k) * (if j ≤ k then (-1 : EReal) else 0) := by
  refine (Ideal.matmul_plain_apply (M := 256) (K := 256) (N := 256) none _ _ _ x j).trans ?_
  rw [const_zero_apply, zero_add]
  exact Finset.sum_congr rfl fun k _ => by rw [tri_apply]; rfl

/-- Two tiles side by side. -/
theorem beside_apply {m a b n : Nat} {α : Type} (u : (⟨2, ![m, a]⟩ : Shape).Idx → α) (v : (⟨2, ![m, b]⟩ : Shape).Idx → α)
    (h : Shape.Concatenates [(⟨2, ![m, a]⟩ : Shape), ⟨2, ![m, b]⟩] ⟨2, ![m, n]⟩ 1) (x : Fin m) (j : Fin n) (hn : n = a + b) :
    concatenate ⟨2, ![m, n]⟩ 1 [⟨⟨2, ![m, a]⟩, u⟩, ⟨⟨2, ![m, b]⟩, v⟩] h (ix2 x j)
      = if c : j.val < a then u (ix2 x ⟨j.val, c⟩) else v (ix2 x ⟨j.val - a, by have := j.isLt; omega⟩) := by
  split
  · rename_i c
    refine concatenate_pair_apply_left (t := ⟨2, ![m, n]⟩) (s₁ := ⟨2, ![m, a]⟩) (s₂ := ⟨2, ![m, b]⟩) 1 u v h (ix2 x j) rfl (ix2 x ⟨j.val, c⟩) fun d => ?_
    match d with
    | ⟨0, _⟩ => rfl
    | ⟨1, _⟩ => rfl
  · rename_i c
    refine concatenate_pair_apply_right (t := ⟨2, ![m, n]⟩) (s₁ := ⟨2, ![m, a]⟩) (s₂ := ⟨2, ![m, b]⟩) 1 u v h (ix2 x j) rfl rfl (ix2 x ⟨j.val - a, by have := j.isLt; omega⟩) (fun d hd => ?_) ?_
    · match d with
      | ⟨0, _⟩ => rfl
      | ⟨1, _⟩ => exact absurd rfl hd
    · show j.val - a + a = j.val
      omega

/-- Two tiles one above the other. -/
theorem above_apply {a b m n : Nat} {α : Type} (u : (⟨2, ![a, n]⟩ : Shape).Idx → α) (v : (⟨2, ![b, n]⟩ : Shape).Idx → α)
    (h : Shape.Concatenates [(⟨2, ![a, n]⟩ : Shape), ⟨2, ![b, n]⟩] ⟨2, ![m, n]⟩ 0) (x : Fin m) (j : Fin n) (hn : m = a + b) :
    concatenate ⟨2, ![m, n]⟩ 0 [⟨⟨2, ![a, n]⟩, u⟩, ⟨⟨2, ![b, n]⟩, v⟩] h (ix2 x j)
      = if c : x.val < a then u (ix2 ⟨x.val, c⟩ j) else v (ix2 ⟨x.val - a, by have := x.isLt; omega⟩ j) := by
  split
  · rename_i c
    refine concatenate_pair_apply_left (t := ⟨2, ![m, n]⟩) (s₁ := ⟨2, ![a, n]⟩) (s₂ := ⟨2, ![b, n]⟩) 0 u v h (ix2 x j) rfl (ix2 ⟨x.val, c⟩ j) fun d => ?_
    match d with
    | ⟨0, _⟩ => rfl
    | ⟨1, _⟩ => rfl
  · rename_i c
    refine concatenate_pair_apply_right (t := ⟨2, ![m, n]⟩) (s₁ := ⟨2, ![a, n]⟩) (s₂ := ⟨2, ![b, n]⟩) 0 u v h (ix2 x j) rfl rfl (ix2 ⟨x.val - a, by have := x.isLt; omega⟩ j) (fun d hd => ?_) ?_
    · match d with
      | ⟨0, _⟩ => exact absurd rfl hd
      | ⟨1, _⟩ => rfl
    · show x.val - a + a = x.val
      omega

theorem twice_apply (r : FVec Ideal S512x128 .f32) (x : Fin 512) (j : Fin 256) (y : EReal) (h : ∀ l, r (ix2 x l) = y) :
    twice r (ix2 x j) = y := by
  refine (beside_apply r r _ x j rfl).trans ?_
  split <;> exact h _

theorem wt_apply (z : FVec Ideal S512x256 .f32) (r : FVec Ideal S512x128 .f32) (x : Fin 512) (j : Fin 256) (y : EReal)
    (h : ∀ l, r (ix2 x l) = y) :
    wt (F := Ideal) k0_pay386 z r (ix2 x j)
      = Ideal.exp2 (z (ix2 x j) + ((∑ k : Fin 256, Stick.sp2 (z (ix2 x k)) * (if j ≤ k then (-1 : EReal) else 0)) + y)) := by
  show Ideal.exp2 (z (ix2 x j) + cum (F := Ideal) k0_pay386 (sp _ z) (ix2 x j) + twice r (ix2 x j)) = _
  rw [cum_apply, twice_apply r x j y h, add_assoc]
  simp only [sp_apply]

theorem runP_apply (z : FVec Ideal S512x256 .f32) (r : FVec Ideal S512x128 .f32) (x : Fin 512) (l : Fin 128) :
    runP z r (ix2 x l) = r (ix2 x l) - ∑ j : Fin 256, Stick.sp2 (z (ix2 x j)) := by
  show r (ix2 x l) - tot (sp _ z) (ix2 x l) = _
  rw [tot_apply]
  simp only [sp_apply]

theorem accG_apply (w0 w1 : FVec Ideal S512x256 .bf16) (v : Vec Ideal S1x512x128 .bf16) (a : FVec Ideal S512x128 .f32)
    (x : Fin 512) (l : Fin 128) :
    accG w0 w1 v a (ix2 x l) = a (ix2 x l) + ∑ m : Fin 512,
      (if c : m.val < 256 then w0 (ix2 x ⟨m.val, c⟩) else w1 (ix2 x ⟨m.val - 256, by have := m.isLt; omega⟩) : EReal)
        * v (ix3 0 m l) := by
  refine congrArg (a (ix2 x l) + ·) ?_
  refine (Ideal.matmul_plain_apply (M := 512) (K := 512) (N := 128) none _ _ _ x l).trans ?_
  rw [const_zero_apply, zero_add]
  refine Finset.sum_congr rfl fun k _ => ?_
  exact congrArg₂ (fun p q : EReal => p * q) (beside_apply w0 w1 _ x k rfl) (shapeCast_1ab_ab_apply v _ k l)

theorem logits_apply (q : FVec Ideal S512x128 .bf16) (kt : Vec Ideal S1x128x256 .bf16) (x : Fin 512) (j : Fin 256) :
    logits q kt (ix2 x j) = ∑ d : Fin 128, (q (ix2 x d) : EReal) * kt (ix3 0 d j) := by
  refine (Ideal.matmul_plain_apply (M := 512) (K := 128) (N := 256) none _ _ _ x j).trans ?_
  rw [const_zero_apply, zero_add]
  exact Finset.sum_congr rfl fun k _ => congrArg (fun t : EReal => q (ix2 x k) * t) (shapeCast_1ab_ab_apply kt _ k j)

theorem logits1_apply (q : FVec Ideal S512x128 .bf16) (kt : Vec Ideal S1x128x256 .bf16) (x j : Fin 256) (y : Fin 512)
    (hy : y.val = 256 + x.val) :
    logits1 q kt (ix2 x j) = ∑ d : Fin 128, (q (ix2 y d) : EReal) * kt (ix3 0 d j) := by
  refine (Ideal.matmul_plain_apply (M := 256) (K := 128) (N := 256) none _ _ _ x j).trans ?_
  rw [const_zero_apply, zero_add]
  exact Finset.sum_congr rfl fun k _ => congrArg₂ (fun p t : EReal => p * t) (slice2_axis0_apply 256 q _ x k y hy)
    (shapeCast_1ab_ab_apply kt _ k j)

theorem low_apply (r : FVec Ideal S512x128 .f32) (x : Fin 256) (l : Fin 128) (y : Fin 512) (hy : y.val = 256 + x.val) :
    low r (ix2 x l) = r (ix2 y l) := slice2_axis0_apply 256 r _ x l y hy

theorem mask0_apply (x : Fin 512) (j : Fin 256) (p q : EReal) :
    Scalar.select (mask0 rowI colI (ix2 x j)) p q = if j.val < x.val then p else q := by
  show Scalar.select (IntOp.cmpi .slt (iota .tc S512x256 32 [1] iota_S512x256_d1_w32 (ix2 x j) + 0#32)
    (iota .tc S512x256 32 [0] iota_S512x256_d0_w32 (ix2 x j))) p q = _
  rw [iota_single_apply, iota_single_apply, BitVec.add_zero]
  exact select_slt j.val x.val (by have := j.isLt; omega) (by have := x.isLt; omega) _ _

theorem mask1_apply (x j : Fin 256) (p q : EReal) :
    Scalar.select (mask1 rowI colI (ix2 x j)) p q = if j.val < x.val then p else q := by
  have e : mask1 rowI colI (ix2 x j) = cmpi .slt (addi colI (broadcast S512x256 256#32)) rowI (ix2 ⟨256 + x.val, by have := x.isLt; omega⟩ j) :=
    slice2_axis0_apply 256 _ _ x j _ rfl
  rw [e]
  show Scalar.select (IntOp.cmpi .slt (iota .tc S512x256 32 [1] iota_S512x256_d1_w32 (ix2 _ j) + 256#32)
    (iota .tc S512x256 32 [0] iota_S512x256_d0_w32 (ix2 _ j))) p q = _
  rw [iota_single_apply, iota_single_apply, ← BitVec.ofNat_add]
  refine (select_slt _ _ ?_ ?_ _ _).trans ?_
  · show j.val + 256 < _
    have := j.isLt; omega
  · show 256 + x.val < _
    have := x.isLt; omega
  · show (if j.val + 256 < 256 + x.val then p else q) = _
    congr 1
    exact propext (by omega)

end Cert.KernelIdeal.Visit

end
-- ==== Proof.Inv.lean ====
/- What the two tiles of a head hold while the keys are visited from the last to the first: the negated sum of the
   softplus of the keys seen so far, and the weighted values of those keys. The diagonal group starts this from nothing,
   and every further group carries it on by 512 keys. -/
module

public import proofs.«01_k».proof.Proof.Point

@[expose] public section

noncomputable section

namespace Cert.KernelIdeal.Visit

open Cert.KernelIdeal Cert.KernelIdeal.Gen
open Idealize.ShloMosaic Idealize.ShloMosaic.TcCoe Idealize.SL.Sem Idealize.ShloMosaic.ValueIdx
open Stick

/-- The running tile holds, on every lane, the negated softplus sum of the keys from `a` on. -/
def InvR (T : ℕ) (Z : Fin 512 → ℕ → EReal) (a : ℕ) (r : FVec Ideal S512x128 .f32) : Prop :=
  ∀ (x : Fin 512) (l : Fin 128), r (ix2 x l) = -(Rs (T + x.val) (Z x) a)

/-- The accumulator holds the weighted values of the keys from `a` on. -/
def InvA (T : ℕ) (Z : Fin 512 → ℕ → EReal) (V : Fin 128 → ℕ → EReal) (a : ℕ) (acc : FVec Ideal S512x128 .f32) : Prop :=
  ∀ (x : Fin 512) (l : Fin 128), acc (ix2 x l) = Ac (T + x.val) (Z x) (V l) a

/-- A tile of logits, of the keys from `a` on. -/
def IsZ (Z : Fin 512 → ℕ → EReal) (a : ℕ) (z : FVec Ideal S512x256 .f32) : Prop :=
  ∀ (x : Fin 512) (j : Fin 256), z (ix2 x j) = Z x (a + j.val)

/-- A tile of logits of the lower 256 rows. -/
def IsZ1 (Z : Fin 512 → ℕ → EReal) (a : ℕ) (z : FVec Ideal S256x256 .f32) : Prop :=
  ∀ (x j : Fin 256), z (ix2 x j) = Z ⟨256 + x.val, by have := x.isLt; omega⟩ (a + j.val)

/-- A block of values, of the keys from `a` on. -/
def IsV (V : Fin 128 → ℕ → EReal) (a : ℕ) (v : Vec Ideal S1x512x128 .bf16) : Prop :=
  ∀ (m : Fin 512) (l : Fin 128), v (ix3 0 m l) = V l (a + m.val)

variable {T : ℕ} {Z : Fin 512 → ℕ → EReal} {V : Fin 128 → ℕ → EReal} {a : ℕ}

/-- A pair of key blocks before every row of the tile is wholly unmasked. -/
theorem sp2_eq_spm {z : FVec Ideal S512x256 .f32} (hz : IsZ Z a z) (h : a + 256 ≤ T) (x : Fin 512) (j : Fin 256) :
    sp2 (z (ix2 x j)) = spm (T + x.val) (Z x) (a + j.val) := by
  rw [spm, if_pos (by have := j.isLt; omega), hz x j]

theorem runP_inv {z : FVec Ideal S512x256 .f32} {r : FVec Ideal S512x128 .f32} (hz : IsZ Z a z) (h : a + 256 ≤ T)
    (hT : T ≤ 4096) (hr : InvR T Z (a + 256) r) : InvR T Z a (runP z r) := fun x l => by
  rw [runP_apply, hr x l, Finset.sum_congr rfl fun j _ => sp2_eq_spm hz h x j, row_run _ _ _ 256 (by omega)]

theorem wt_inv {z : FVec Ideal S512x256 .f32} {r : FVec Ideal S512x128 .f32} (hz : IsZ Z a z) (h : a + 256 ≤ T)
    (hT : T ≤ 4096) (hr : InvR T Z (a + 256) r) (x : Fin 512) (j : Fin 256) :
    wt (F := Ideal) k0_pay386 z r (ix2 x j) = Wt (T + x.val) (Z x) (a + j.val) := by
  rw [wt_apply z r x j _ (hr x), Finset.sum_congr rfl fun k _ => congrArg (· * (if j ≤ k then (-1 : EReal) else 0)) (sp2_eq_spm hz h x k),
    row_cum _ _ _ 256 (by omega), Wt, if_pos (by have := j.isLt; omega), hz x j]

/-- A group's product, once its weights are known. -/
theorem accG_inv {w0 w1 : FVec Ideal S512x256 .bf16} {v : Vec Ideal S1x512x128 .bf16} {acc : FVec Ideal S512x128 .f32}
    (h : a + 512 ≤ 4096)
    (h0 : ∀ (x : Fin 512) (j : Fin 256), (w0 (ix2 x j) : EReal) = Wt (T + x.val) (Z x) (a + j.val))
    (h1 : ∀ (x : Fin 512) (j : Fin 256), (w1 (ix2 x j) : EReal) = Wt (T + x.val) (Z x) (a + 256 + j.val))
    (hv : IsV V a v) (ha : InvA T Z V (a + 512) acc) : InvA T Z V a (accG w0 w1 v acc) := fun x l => by
  rw [accG_apply, ha x l, ← row_acc _ _ _ a 512 h]
  refine congrArg (Ac (T + x.val) (Z x) (V l) (a + 512) + ·) (Finset.sum_congr rfl fun m _ => ?_)
  rw [hv m l]
  split
  · rename_i c
    rw [h0]
  · rename_i c
    rw [h1]
    have e : a + 256 + (m.val - 256) = a + m.val := by omega
    exact congrArg (fun n => Wt (T + x.val) (Z x) n * V l (a + m.val)) e

/-- A whole group before the tile's rows. -/
theorem off_inv {z0 z1 : FVec Ideal S512x256 .f32} {v : Vec Ideal S1x512x128 .bf16} {r acc : FVec Ideal S512x128 .f32}
    (h : a + 512 ≤ T) (hT : T ≤ 4096) (h0 : IsZ Z a z0) (h1 : IsZ Z (a + 256) z1) (hv : IsV V a v)
    (hr : InvR T Z (a + 512) r) (ha : InvA T Z V (a + 512) acc) :
    InvR T Z a (offR z0 z1 r) ∧ InvA T Z V a (offA (k0_pay386 (F := Ideal)) z0 z1 v r acc) := by
  have hm : InvR T Z (a + 256) (runP z1 r) := runP_inv h1 (by omega) hT hr
  exact ⟨runP_inv h0 (by omega) hT hm,
    accG_inv (by omega) (wt_inv h0 (by omega) hT hm) (wt_inv h1 (by omega) hT hr) hv ha⟩

/-! ### The diagonal group -/

theorem spD0_apply {z : FVec Ideal S512x256 .f32} (hz : IsZ Z T z) (x : Fin 512) (j : Fin 256) :
    spD0 (mask0 rowI colI) z (ix2 x j) = spm (T + x.val) (Z x) (T + j.val) := by
  show Scalar.select (mask0 rowI colI (ix2 x j)) (sp _ z (ix2 x j)) (zer _ (ix2 x j)) = _
  rw [mask0_apply, sp_apply, zer_apply, hz x j, spm]
  congr 1
  exact propext (by omega)

theorem spD1_apply {z : FVec Ideal S256x256 .f32} (hz : IsZ1 Z (T + 256) z) (x j : Fin 256) (y : Fin 512)
    (hy : y.val = 256 + x.val) :
    spD1 (mask1 rowI colI) z (ix2 x j) = spm (T + y.val) (Z y) (T + 256 + j.val) := by
  have e : y = ⟨256 + x.val, by have := x.isLt; omega⟩ := Fin.ext hy
  show Scalar.select (mask1 rowI colI (ix2 x j)) (sp _ z (ix2 x j)) (zer _ (ix2 x j)) = _
  rw [mask1_apply, sp_apply, zer_apply, hz x j, spm, ← e]
  congr 1
  exact propext (by omega)

theorem upper_apply (r : FVec Ideal S512x128 .f32) (x : Fin 256) (l : Fin 128) (y : Fin 512) (hy : y.val = x.val) :
    extractStridedSlice S256x128 ![0, 0] r slices_S512x128_o0_0_S256x128 (ix2 x l) = r (ix2 y l) :=
  slice2_axis0_apply 0 r _ x l y (by omega)

theorem runD1_inv {z : FVec Ideal S256x256 .f32} (hz : IsZ1 Z (T + 256) z) (hT : T + 512 ≤ 4096) :
    InvR T Z (T + 256) (runD1 (mask1 rowI colI) z (zer _)) := fun x l => by
  refine (above_apply _ _ _ x l rfl).trans ?_
  split
  · rename_i c
    rw [upper_apply _ _ _ x rfl, zer_apply, Rs_zero _ _ _ (by omega), neg_zero]
  · rename_i c
    have hx : x.val = 256 + (x.val - 256) := by omega
    show low (zer _) (ix2 _ l) - tot1 (spD1 (mask1 rowI colI) z) (ix2 _ l) = _
    rw [low_apply _ _ _ x hx, zer_apply, tot1_apply, Finset.sum_congr rfl fun j _ => spD1_apply hz _ j x hx,
      ← row_run _ _ (T + 256) 256 (by omega), Rs_zero _ _ (T + 256 + 256) (by have := x.isLt; omega), neg_zero]

theorem wtD1_inv {z : FVec Ideal S256x256 .f32} (hz : IsZ1 Z (T + 256) z) (hT : T + 512 ≤ 4096) (x : Fin 512) (j : Fin 256) :
    (wtD1 (F := Ideal) k0_pay386 (mask1 rowI colI) z (zer _) (ix2 x j) : EReal) = Wt (T + x.val) (Z x) (T + 256 + j.val) := by
  refine (above_apply _ _ _ x j rfl).trans ?_
  split
  · rename_i c
    rw [Wt_zero _ _ _ (by omega)]
    exact Ideal.ofBits_zero_bf16
  · rename_i c
    have hx : x.val = 256 + (x.val - 256) := by omega
    have hl : x.val - 256 < 256 := by have := x.isLt; omega
    have e : x = ⟨256 + (x.val - 256), by omega⟩ := Fin.ext hx
    have d : concatenate S256x256 1 [⟨S256x128, low (zer (F := Ideal) _)⟩, ⟨S256x128, low (zer (F := Ideal) _)⟩]
        concatenates_S256x128_S256x128_S256x256_d1 (ix2 (⟨x.val - 256, hl⟩ : Fin 256) j) = (0 : EReal) := by
      refine (beside_apply (low (zer (F := Ideal) _)) (low (zer (F := Ideal) _)) _ _ j rfl).trans ?_
      split <;> exact (low_apply _ _ _ x hx).trans (zer_apply _ _)
    show Scalar.select (mask1 rowI colI (ix2 ⟨x.val - 256, hl⟩ j))
      (Ideal.exp2 (z (ix2 ⟨x.val - 256, hl⟩ j)
        + matmul (F := Ideal) dot_S256x256_S256x256_S256x256_1_0_0_1_n_n none
            (truncf .bf16 (spD1 (mask1 rowI colI) z) bitsLt_bf16_f32) k0_pay386
            (constant S256x256 .f32 0x00000000#32) (ix2 ⟨x.val - 256, hl⟩ j)
        + concatenate S256x256 1 [⟨S256x128, low (zer (F := Ideal) _)⟩, ⟨S256x128, low (zer (F := Ideal) _)⟩]
            concatenates_S256x128_S256x128_S256x256_d1 (ix2 ⟨x.val - 256, hl⟩ j)))
      (zer (F := Ideal) _ (ix2 _ j)) = _
    rw [mask1_apply, d, zer_apply, cum1_apply, Wt]
    have c1 : (j.val < x.val - 256) = (T + 256 + j.val < T + x.val) := propext (by omega)
    refine if_congr (iff_of_eq c1) (congrArg Ideal.exp2 ?_) rfl
    rw [Finset.sum_congr rfl fun k _ => congrArg (· * (if j ≤ k then (-1 : EReal) else 0)) (spD1_apply hz ⟨x.val - 256, hl⟩ k x hx),
      hz, ← row_cum _ _ (T + 256) 256 (by omega) j, Rs_zero _ _ (T + 256 + 256) (by have := x.isLt; omega), neg_zero, add_assoc]
    exact congrArg (fun y => Z y (T + 256 + j.val) + _) e.symm

theorem wtD0_inv {z : FVec Ideal S512x256 .f32} {r : FVec Ideal S512x128 .f32} (hz : IsZ Z T z) (hT : T + 512 ≤ 4096)
    (hr : InvR T Z (T + 256) r) (x : Fin 512) (j : Fin 256) :
    (wtD0 (F := Ideal) k0_pay386 (mask0 rowI colI) z r (ix2 x j) : EReal) = Wt (T + x.val) (Z x) (T + j.val) := by
  show Scalar.select (mask0 rowI colI (ix2 x j))
    (Ideal.exp2 (z (ix2 x j) + cum (F := Ideal) k0_pay386 (spD0 (mask0 rowI colI) z) (ix2 x j) + twice r (ix2 x j)))
    (zer (F := Ideal) _ (ix2 x j)) = _
  rw [mask0_apply, zer_apply, cum_apply, twice_apply r x j _ (hr x), Wt]
  have c1 : (j.val < x.val) = (T + j.val < T + x.val) := propext (by omega)
  refine if_congr (iff_of_eq c1) (congrArg Ideal.exp2 ?_) rfl
  rw [Finset.sum_congr rfl fun k _ => congrArg (· * (if j ≤ k then (-1 : EReal) else 0)) (spD0_apply hz x k),
    hz x j, add_assoc, row_cum _ _ T 256 (by omega) j]

/-- The diagonal group, from nothing. -/
theorem diag_inv {z0 : FVec Ideal S512x256 .f32} {z1 : FVec Ideal S256x256 .f32} {v : Vec Ideal S1x512x128 .bf16}
    (hT : T + 512 ≤ 4096) (h0 : IsZ Z T z0) (h1 : IsZ1 Z (T + 256) z1) (hv : IsV V T v) :
    InvR T Z T (diagR rowI colI z0 z1) ∧ InvA T Z V T (diagA (k0_pay386 (F := Ideal)) rowI colI z0 z1 v) := by
  have hm := runD1_inv h1 hT
  refine ⟨fun x l => ?_, accG_inv hT (wtD0_inv h0 hT hm) (wtD1_inv h1 hT) hv fun x l => ?_⟩
  · show runD1 (mask1 rowI colI) z1 (zer _) (ix2 x l) - tot (spD0 (mask0 rowI colI) z0) (ix2 x l) = _
    rw [hm x l, tot_apply, Finset.sum_congr rfl fun j _ => spD0_apply h0 x j, row_run _ _ T 256 (by omega)]
  · rw [zer_apply, Ac_zero _ _ _ _ (by have := x.isLt; omega)]

end Cert.KernelIdeal.Visit

end
-- ==== Proof.Off.lean ====
/- Where the loads of a grid point lie: the keys and values of group `g` before the diagonal start 512 · g keys before
   the block's own rows, in the first visit and in every trip of the loop after it. -/
module

public import proofs.«01_k».proof.Proof.Gen.KernelIdeal

@[expose] public section

set_option maxRecDepth 65536

namespace Cert.KernelIdeal.Visit

open Cert.KernelIdeal Cert.KernelIdeal.Gen
open Idealize.ShloMosaic Idealize.ShloMosaic.TcCoe

/-- How many groups the first visit covers. -/
def first (q : ℕ) : ℕ := if q = 0 then 1 else if q = 1 then 2 else if q % 2 = 0 then 3 else 4

theorem cond1_first : ∀ i : grid0.Coords, k0_cond1 i = 1#1 → (i 2).val = 0 := by decide +kernel
theorem cond2_first : ∀ i : grid0.Coords, k0_cond2 i = 1#1 → (i 2).val = 1 := by decide +kernel
theorem cond3_first : ∀ i : grid0.Coords, k0_cond3 i = 1#1 → first (i 2).val = 3 ∧ 2 ≤ (i 2).val := by decide +kernel
theorem cond4_first : ∀ i : grid0.Coords, k0_cond4 i = 1#1 → first (i 2).val = 4 ∧ 3 ≤ (i 2).val := by decide +kernel

theorem trips_first : ∀ i : grid0.Coords, first (i 2).val + 2 * (k0_t1_loop i).trips = (i 2).val + 1 := by decide +kernel

theorem off1_eq : ∀ i : grid0.Coords, k0_cond1 i = 1#1 → ∀ (p : Fin 2) a, k0_off1 i (BitVec.ofNat 32 (2 * p.val)) a
    = (![0, 0, 512 * (i 2).val + 256 * p.val] : Fin 3 → ℕ) a := by decide +kernel
theorem off2_eq : ∀ i : grid0.Coords, k0_cond1 i = 1#1 → ∀ a, k0_off2 i a
    = (![0, 512 * (i 2).val, 0] : Fin 3 → ℕ) a := by decide +kernel

theorem off3_eq : ∀ i : grid0.Coords, k0_cond2 i = 1#1 → ∀ (p : Fin 2) a, k0_off3 i (BitVec.ofNat 32 (2 * p.val)) a
    = (![0, 0, 512 * (i 2).val + 256 * p.val] : Fin 3 → ℕ) a := by decide +kernel
theorem off4_eq : ∀ i : grid0.Coords, k0_cond2 i = 1#1 → ∀ (p : Fin 2) a, k0_off4 i (BitVec.ofNat 32 (2 * p.val)) a
    = (![0, 0, 512 * ((i 2).val - 1) + 256 * p.val] : Fin 3 → ℕ) a := by decide +kernel
theorem off5_eq : ∀ i : grid0.Coords, k0_cond2 i = 1#1 → ∀ a, k0_off5 i a
    = (![0, 512 * (i 2).val, 0] : Fin 3 → ℕ) a := by decide +kernel
theorem off6_eq : ∀ i : grid0.Coords, k0_cond2 i = 1#1 → ∀ a, k0_off6 i a
    = (![0, 512 * ((i 2).val - 1), 0] : Fin 3 → ℕ) a := by decide +kernel

theorem off7_eq : ∀ i : grid0.Coords, k0_cond3 i = 1#1 → ∀ (p : Fin 2) a, k0_off7 i (BitVec.ofNat 32 (2 * p.val)) a
    = (![0, 0, 512 * (i 2).val + 256 * p.val] : Fin 3 → ℕ) a := by decide +kernel
theorem off8_eq : ∀ i : grid0.Coords, k0_cond3 i = 1#1 → ∀ (g p : Fin 2) a,
    k0_off8 i (BitVec.ofNat 32 (1 + g.val)) (BitVec.ofNat 32 (2 * p.val)) a
    = (![0, 0, 512 * ((i 2).val - (1 + g.val)) + 256 * p.val] : Fin 3 → ℕ) a := by decide +kernel
theorem off9_eq : ∀ i : grid0.Coords, k0_cond3 i = 1#1 → ∀ a, k0_off9 i a
    = (![0, 512 * (i 2).val, 0] : Fin 3 → ℕ) a := by decide +kernel
theorem off10_eq : ∀ i : grid0.Coords, k0_cond3 i = 1#1 → ∀ (g : Fin 2) a, k0_off10 i (BitVec.ofNat 32 (1 + g.val)) a
    = (![0, 512 * ((i 2).val - (1 + g.val)), 0] : Fin 3 → ℕ) a := by decide +kernel

theorem off11_eq : ∀ i : grid0.Coords, k0_cond4 i = 1#1 → ∀ (p : Fin 2) a, k0_off11 i (BitVec.ofNat 32 (2 * p.val)) a
    = (![0, 0, 512 * (i 2).val + 256 * p.val] : Fin 3 → ℕ) a := by decide +kernel
theorem off12_eq : ∀ i : grid0.Coords, k0_cond4 i = 1#1 → ∀ (g : Fin 3) (p : Fin 2) a,
    k0_off12 i (BitVec.ofNat 32 (1 + g.val)) (BitVec.ofNat 32 (2 * p.val)) a
    = (![0, 0, 512 * ((i 2).val - (1 + g.val)) + 256 * p.val] : Fin 3 → ℕ) a := by decide +kernel
theorem off13_eq : ∀ i : grid0.Coords, k0_cond4 i = 1#1 → ∀ a, k0_off13 i a
    = (![0, 512 * (i 2).val, 0] : Fin 3 → ℕ) a := by decide +kernel
theorem off14_eq : ∀ i : grid0.Coords, k0_cond4 i = 1#1 → ∀ (g : Fin 3) a, k0_off14 i (BitVec.ofNat 32 (1 + g.val)) a
    = (![0, 512 * ((i 2).val - (1 + g.val)), 0] : Fin 3 → ℕ) a := by decide +kernel

theorem off15_eq : ∀ (i : grid0.Coords) (k : Fin (k0_t1_loop i).trips), ∀ (p : Fin 2) a,
    k0_off15 i k (BitVec.ofNat 32 (2 * p.val)) a
    = (![0, 0, 512 * ((i 2).val - first (i 2).val - 2 * k.val) + 256 * p.val] : Fin 3 → ℕ) a := by decide +kernel
theorem off16_eq : ∀ (i : grid0.Coords) (k : Fin (k0_t1_loop i).trips), ∀ (p : Fin 2) a,
    k0_off16 i k (BitVec.ofNat 32 (2 * p.val)) a
    = (![0, 0, 512 * ((i 2).val - first (i 2).val - 2 * k.val - 1) + 256 * p.val] : Fin 3 → ℕ) a := by decide +kernel
theorem off17_eq : ∀ (i : grid0.Coords) (k : Fin (k0_t1_loop i).trips), ∀ a, k0_off17 i k a
    = (![0, 512 * ((i 2).val - first (i 2).val - 2 * k.val), 0] : Fin 3 → ℕ) a := by decide +kernel
theorem off18_eq : ∀ (i : grid0.Coords) (k : Fin (k0_t1_loop i).trips), ∀ a, k0_off18 i k a
    = (![0, 512 * ((i 2).val - first (i 2).val - 2 * k.val - 1), 0] : Fin 3 → ℕ) a := by decide +kernel

end Cert.KernelIdeal.Visit
-- ==== Proof.Block.lean ====
/- A grid point's block of the result, in each of the four cases of the first visit: the epilogue applied to two
   accumulators, which hold the weighted values of all keys, each for its own head. -/
module

public import proofs.«01_k».proof.Proof.CaseA
public import proofs.«01_k».proof.Proof.CaseB
public import proofs.«01_k».proof.Proof.CaseC
public import proofs.«01_k».proof.Proof.CaseD
public import proofs.«01_k».proof.Proof.Inv
public import proofs.«01_k».proof.Proof.Off
public import Idealize.ShloMosaic.Lib.Pipeline.ValueKit

@[expose] public section

set_option maxRecDepth 65536

noncomputable section

namespace Cert.KernelIdeal.Visit

open Cert.KernelIdeal Cert.KernelIdeal.Gen
open Idealize.ShloMosaic hiding ix1 ix2 ix3 ix4
open Idealize.ShloMosaic.TcCoe Idealize.SL.Sem Idealize.ShloMosaic.ValueIdx Idealize.ShloMosaic.ValueKit
open Stick

/-- The logits of a query tile with every key. -/
def Zof (q : FVec Ideal S512x128 .bf16) (x1 : Vec Ideal S1x128x4096 .bf16) (x : Fin 512) (s : ℕ) : EReal :=
  if h : s < 4096 then ∑ d : Fin 128, (q (ix2 x d) : EReal) * x1 (ix3 0 d ⟨s, h⟩) else 0

/-- The value column of a lane. -/
def Vof (x2 : Vec Ideal S1x4096x128 .bf16) (l : Fin 128) (s : ℕ) : EReal :=
  if h : s < 4096 then x2 (ix3 0 ⟨s, h⟩ l) else 0

theorem ldK_apply {arg4 : Memref sig .tc .vmem S1x128x4096 .bf16} (harg4 : arg4.IsWhole) (x1 : Vec Ideal S1x128x4096 .bf16)
    {o : Fin 3 → ℕ} (h : ∀ a, o a + S1x128x256.size a ≤ S1x128x4096.size a) {s : ℕ} (e : ∀ a, o a = (![0, 0, s] : Fin 3 → ℕ) a)
    (d : Fin 128) (j : Fin 256) (hj : s + j.val < 4096) :
    ldK (F := Ideal) arg4.view (harg4.unread x1) o h (ix3 0 d j) = x1 (ix3 0 d ⟨s + j.val, hj⟩) := by
  show View.ld (arg4.view.read (Elt Ideal) (harg4.unread x1)) (Rect.unit (s := S1x128x4096) o S1x128x256.size h) (ix3 0 d j) = _
  rw [harg4.read_unread]
  refine View.ld_unit_apply_of x1 _ _ _ _ _ fun a => ?_
  rw [e a]
  match a with
  | ⟨0, _⟩ => rfl
  | ⟨1, _⟩ => exact (Nat.zero_add _).symm
  | ⟨2, _⟩ => rfl

theorem ldV_apply {arg5 : Memref sig .tc .vmem S1x4096x128 .bf16} (harg5 : arg5.IsWhole) (x2 : Vec Ideal S1x4096x128 .bf16)
    {o : Fin 3 → ℕ} (h : ∀ a, o a + S1x512x128.size a ≤ S1x4096x128.size a) {s : ℕ} (e : ∀ a, o a = (![0, s, 0] : Fin 3 → ℕ) a)
    (m : Fin 512) (l : Fin 128) (hj : s + m.val < 4096) :
    ldV (F := Ideal) arg5.view (harg5.unread x2) o h (ix3 0 m l) = x2 (ix3 0 ⟨s + m.val, hj⟩ l) := by
  show View.ld (arg5.view.read (Elt Ideal) (harg5.unread x2)) (Rect.unit (s := S1x4096x128) o S1x512x128.size h) (ix3 0 m l) = _
  rw [harg5.read_unread]
  refine View.ld_unit_apply_of x2 _ _ _ _ _ fun a => ?_
  rw [e a]
  match a with
  | ⟨0, _⟩ => rfl
  | ⟨1, _⟩ => rfl
  | ⟨2, _⟩ => exact (Nat.zero_add _).symm

section

variable {arg4 : Memref sig .tc .vmem S1x128x4096 .bf16} (harg4 : arg4.IsWhole) (x1 : Vec Ideal S1x128x4096 .bf16)
  {arg5 : Memref sig .tc .vmem S1x4096x128 .bf16} (harg5 : arg5.IsWhole) (x2 : Vec Ideal S1x4096x128 .bf16)
  (q : FVec Ideal S512x128 .bf16)

theorem ldK_isZ {o : Fin 3 → ℕ} (h : ∀ a, o a + S1x128x256.size a ≤ S1x128x4096.size a) {s : ℕ}
    (e : ∀ a, o a = (![0, 0, s] : Fin 3 → ℕ) a) (hs : s + 256 ≤ 4096) :
    IsZ (Zof q x1) s (logits q (ldK arg4.view (harg4.unread x1) o h)) := fun x j => by
  have hj : s + j.val < 4096 := by have := j.isLt; omega
  rw [logits_apply, Zof, dif_pos hj]
  exact Finset.sum_congr rfl fun d _ => congrArg (fun t : EReal => q (ix2 x d) * t) (ldK_apply harg4 x1 h e d j hj)

theorem ldK_isZ1 {o : Fin 3 → ℕ} (h : ∀ a, o a + S1x128x256.size a ≤ S1x128x4096.size a) {s : ℕ}
    (e : ∀ a, o a = (![0, 0, s] : Fin 3 → ℕ) a) (hs : s + 256 ≤ 4096) :
    IsZ1 (Zof q x1) s (logits1 q (ldK arg4.view (harg4.unread x1) o h)) := fun x j => by
  have hj : s + j.val < 4096 := by have := j.isLt; omega
  rw [logits1_apply _ _ _ _ ⟨256 + x.val, by have := x.isLt; omega⟩ rfl, Zof, dif_pos hj]
  exact Finset.sum_congr rfl fun d _ => congrArg (fun t : EReal => q (ix2 _ d) * t) (ldK_apply harg4 x1 h e d j hj)

theorem ldV_isV {o : Fin 3 → ℕ} (h : ∀ a, o a + S1x512x128.size a ≤ S1x4096x128.size a) {s : ℕ}
    (e : ∀ a, o a = (![0, s, 0] : Fin 3 → ℕ) a) (hs : s + 512 ≤ 4096) :
    IsV (Vof x2) s (ldV (F := Ideal) arg5.view (harg5.unread x2) o h) := fun m l => by
  have hj : s + m.val < 4096 := by have := m.isLt; omega
  rw [Vof, dif_pos hj]
  exact ldV_apply harg5 x2 h e m l hj

/-- The diagonal group, from its loads. -/
theorem diag_ld {o0 o1 o2 : Fin 3 → ℕ} (b0 : ∀ a, o0 a + S1x128x256.size a ≤ S1x128x4096.size a)
    (b1 : ∀ a, o1 a + S1x128x256.size a ≤ S1x128x4096.size a) (b2 : ∀ a, o2 a + S1x512x128.size a ≤ S1x4096x128.size a) {T : ℕ}
    (hT : T + 512 ≤ 4096) (e0 : ∀ a, o0 a = (![0, 0, T + 256 * (0 : Fin 2).val] : Fin 3 → ℕ) a)
    (e1 : ∀ a, o1 a = (![0, 0, T + 256 * (1 : Fin 2).val] : Fin 3 → ℕ) a) (e2 : ∀ a, o2 a = (![0, T, 0] : Fin 3 → ℕ) a) :
    InvR T (Zof q x1) T (diagR rowI colI (logits q (ldK arg4.view (harg4.unread x1) o0 b0)) (logits1 q (ldK arg4.view (harg4.unread x1) o1 b1)))
    ∧ InvA T (Zof q x1) (Vof x2) T (diagA (k0_pay386 (F := Ideal)) rowI colI (logits q (ldK arg4.view (harg4.unread x1) o0 b0))
        (logits1 q (ldK arg4.view (harg4.unread x1) o1 b1)) (ldV arg5.view (harg5.unread x2) o2 b2)) :=
  diag_inv hT (ldK_isZ harg4 x1 q b0 e0 (by omega)) (ldK_isZ1 harg4 x1 q b1 e1 (by omega)) (ldV_isV harg5 x2 b2 e2 hT)

/-- A further group, from its loads. -/
theorem off_ld {o0 o1 o2 : Fin 3 → ℕ} (b0 : ∀ a, o0 a + S1x128x256.size a ≤ S1x128x4096.size a)
    (b1 : ∀ a, o1 a + S1x128x256.size a ≤ S1x128x4096.size a) (b2 : ∀ a, o2 a + S1x512x128.size a ≤ S1x4096x128.size a) {T s s' : ℕ}
    (hT : T ≤ 4096) (hs : s + 512 ≤ T) (h' : s' = s + 512) (e0 : ∀ a, o0 a = (![0, 0, s + 256 * (0 : Fin 2).val] : Fin 3 → ℕ) a)
    (e1 : ∀ a, o1 a = (![0, 0, s + 256 * (1 : Fin 2).val] : Fin 3 → ℕ) a) (e2 : ∀ a, o2 a = (![0, s, 0] : Fin 3 → ℕ) a)
    {r acc : FVec Ideal S512x128 .f32} (hr : InvR T (Zof q x1) s' r ∧ InvA T (Zof q x1) (Vof x2) s' acc) :
    InvR T (Zof q x1) s (offR (logits q (ldK arg4.view (harg4.unread x1) o0 b0)) (logits q (ldK arg4.view (harg4.unread x1) o1 b1)) r)
    ∧ InvA T (Zof q x1) (Vof x2) s (offA (k0_pay386 (F := Ideal)) (logits q (ldK arg4.view (harg4.unread x1) o0 b0))
        (logits q (ldK arg4.view (harg4.unread x1) o1 b1)) (ldV arg5.view (harg5.unread x2) o2 b2) r acc) := by
  subst h'
  exact off_inv hs hT (ldK_isZ harg4 x1 q b0 e0 (by omega)) (ldK_isZ harg4 x1 q b1 e1 (by omega)) (ldV_isV harg5 x2 b2 e2 (by omega)) hr.1 hr.2

end

/-- What the two heads' tiles hold before trip `k` of the loop. -/
def Both (n f : ℕ) (q0 q1 : FVec Ideal S512x128 .bf16) (x1 : Vec Ideal S1x128x4096 .bf16) (x2 : Vec Ideal S1x4096x128 .bf16)
    (k : ℕ) (r0 r1 a0 a1 : FVec Ideal S512x128 .f32) : Prop :=
  (InvR (512 * n) (Zof q0 x1) (512 * (n + 1 - f - 2 * k)) r0 ∧ InvA (512 * n) (Zof q0 x1) (Vof x2) (512 * (n + 1 - f - 2 * k)) a0)
  ∧ (InvR (512 * n) (Zof q1 x1) (512 * (n + 1 - f - 2 * k)) r1 ∧ InvA (512 * n) (Zof q1 x1) (Vof x2) (512 * (n + 1 - f - 2 * k)) a1)

/-- The block a grid point leaves, of the blocks it reads. -/
def BlockIs (n : ℕ) (x0 : Vec Ideal S1x512x128 .f32) (x1 : Vec Ideal S1x128x4096 .bf16) (x2 : Vec Ideal S1x4096x128 .bf16)
    (x3 : Vec Ideal S1x512x128 .bf16) (x4 : Vec Ideal S1x128 .f32) (out : Vec Ideal S1x512x128 .bf16) : Prop :=
  ∃ o0 o1 : Vec Ideal S1x512x128 .f32,
    InvA (512 * n) (Zof (k0_pay384 x0) x1) (Vof x2) 0 (shapeCast S512x128 o0 shapeCasts_S1x512x128_S512x128)
    ∧ InvA (512 * n) (Zof (k0_pay385 x0) x1) (Vof x2) 0 (shapeCast S512x128 o1 shapeCasts_S1x512x128_S512x128)
    ∧ out = k0_pay404 k0_pay381 o0 o1 x4 x3

theorem ldQ_eq {e : EltTy} {arg : Memref sig .tc .vmem S1x512x128 e} (harg : arg.IsWhole) (x : Vec Ideal S1x512x128 e) :
    ldQ (F := Ideal) arg.view (harg.unread x) = x := by
  show View.ld (arg.view.read (Elt Ideal) (harg.unread x)) (Rect.unit (s := S1x512x128) ![0, 0, 0] S1x512x128.size inb_S1x512x128_S1x512x128_0_0_0) = _
  rw [harg.read_unread]
  exact View.ld_unit_lit _ x (by decide)

theorem ldG_eq {arg : Memref sig .tc .vmem S1x128 .f32} (harg : arg.IsWhole) (x : Vec Ideal S1x128 .f32) :
    View.readAt (Elt Ideal) arg.view (Rect.unit (s := S1x128) ![0, 0] S1x128.size inb_S1x128_S1x128_0_0).toLoadRect (harg.unread x) = x := by
  show View.ld (arg.view.read (Elt Ideal) (harg.unread x)) (Rect.unit (s := S1x128) ![0, 0] S1x128.size inb_S1x128_S1x128_0_0) = _
  rw [harg.read_unread]
  exact View.ld_unit_lit _ x (by decide)

theorem blockA (c : Dev nD) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (hc0 : cond0_0 i) (hc1 : ¬cond0_1 i) (hc2 : ¬cond0_2 i) (hc3 : ¬cond0_3 i)
    (x0 : Vec Ideal S1x512x128 .f32) (x1 : Vec Ideal S1x128x4096 .bf16) (x2 : Vec Ideal S1x4096x128 .bf16) (x3 : Vec Ideal S1x512x128 .bf16) (x4 : Vec Ideal S1x128 .f32) :
    BlockIs (i 2).val x0 x1 x2 x3 x4 (out0_A_5 c i arg3 harg3 arg4 harg4 arg5 harg5 arg6 harg6 arg7 harg7 arg8 harg8 arg9 harg9 arg10 harg10 hc0 hc1 hc2 hc3 x0 x1 x2 x3 x4) := by
  have f1 := cond1_first i hc0
  have f0 : first (i 2).val = 1 := by rw [f1]; rfl
  have hn : (i 2).val < 8 := (i 2).isLt
  have ht := trips_first i
  obtain ⟨r0, r1, o0, o1, ⟨⟨_, g0⟩, ⟨_, g1⟩⟩, e⟩ := caseA (F := Ideal) c i arg3 harg3 arg4 harg4 arg5 harg5 arg6 harg6 arg7 harg7 arg8 harg8 arg9 harg9 arg10 harg10 hc0 hc1 hc2 hc3 x0 x1 x2 x3 x4
    (Both (i 2).val (first (i 2).val) (k0_pay384 (ldQ arg3.view (harg3.unread x0))) (k0_pay385 (ldQ arg3.view (harg3.unread x0))) x1 x2) (by
      have es : 512 * ((i 2).val + 1 - first (i 2).val - 2 * 0) = 512 * ((i 2).val - 0) := by omega
      rw [Both, es]
      exact ⟨diag_ld harg4 x1 harg5 x2 _ _ _ _ (by omega) (off1_eq i hc0 0) (off1_eq i hc0 1) (off2_eq i hc0),
        diag_ld harg4 x1 harg5 x2 _ _ _ _ (by omega) (off1_eq i hc0 0) (off1_eq i hc0 1) (off2_eq i hc0)⟩)
    (fun k r0 r1 a0 a1 ⟨h0, h1⟩ => by
      have hk : k.val < (k0_t1_loop i).trips := k.isLt
      have es : 512 * ((i 2).val + 1 - first (i 2).val - 2 * (k.val + 1)) = 512 * ((i 2).val - first (i 2).val - 2 * k.val - 1) := by omega
      rw [Both, es]
      exact ⟨off_ld harg4 x1 harg5 x2 _ _ _ _ (by omega) (by omega) (by omega) (off16_eq i k 0) (off16_eq i k 1) (off18_eq i k)
        (off_ld harg4 x1 harg5 x2 _ _ _ _ (by omega) (by omega) (by omega) (off15_eq i k 0) (off15_eq i k 1) (off17_eq i k) h0),
        off_ld harg4 x1 harg5 x2 _ _ _ _ (by omega) (by omega) (by omega) (off16_eq i k 0) (off16_eq i k 1) (off18_eq i k)
        (off_ld harg4 x1 harg5 x2 _ _ _ _ (by omega) (by omega) (by omega) (off15_eq i k 0) (off15_eq i k 1) (off17_eq i k) h1)⟩)
  have ez : 512 * ((i 2).val + 1 - first (i 2).val - 2 * (k0_t1_loop i).trips) = 0 := by omega
  rw [ez, ldQ_eq harg3] at g0 g1
  exact ⟨o0, o1, g0, g1, e.trans (by rw [ldG_eq harg7, ldQ_eq harg6])⟩

theorem blockB (c : Dev nD) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (hc0 : ¬cond0_0 i) (hc1 : cond0_1 i) (hc2 : ¬cond0_2 i) (hc3 : ¬cond0_3 i)
    (x0 : Vec Ideal S1x512x128 .f32) (x1 : Vec Ideal S1x128x4096 .bf16) (x2 : Vec Ideal S1x4096x128 .bf16) (x3 : Vec Ideal S1x512x128 .bf16) (x4 : Vec Ideal S1x128 .f32) :
    BlockIs (i 2).val x0 x1 x2 x3 x4 (out0_B_5 c i arg3 harg3 arg4 harg4 arg5 harg5 arg6 harg6 arg7 harg7 arg8 harg8 arg9 harg9 arg10 harg10 hc0 hc1 hc2 hc3 x0 x1 x2 x3 x4) := by
  have f1 := cond2_first i hc1
  have f0 : first (i 2).val = 2 := by rw [f1]; rfl
  have hn : (i 2).val < 8 := (i 2).isLt
  have ht := trips_first i
  obtain ⟨r0, r1, o0, o1, ⟨⟨_, g0⟩, ⟨_, g1⟩⟩, e⟩ := caseB (F := Ideal) c i arg3 harg3 arg4 harg4 arg5 harg5 arg6 harg6 arg7 harg7 arg8 harg8 arg9 harg9 arg10 harg10 hc0 hc1 hc2 hc3 x0 x1 x2 x3 x4
    (Both (i 2).val (first (i 2).val) (k0_pay384 (ldQ arg3.view (harg3.unread x0))) (k0_pay385 (ldQ arg3.view (harg3.unread x0))) x1 x2) (by
      have es : 512 * ((i 2).val + 1 - first (i 2).val - 2 * 0) = 512 * ((i 2).val - 1) := by omega
      rw [Both, es]
      exact ⟨off_ld harg4 x1 harg5 x2 _ _ _ _ (by omega) (by omega) (by omega) (off4_eq i hc1 0) (off4_eq i hc1 1) (off6_eq i hc1)
        (diag_ld harg4 x1 harg5 x2 _ _ _ _ (by omega) (off3_eq i hc1 0) (off3_eq i hc1 1) (off5_eq i hc1)),
        off_ld harg4 x1 harg5 x2 _ _ _ _ (by omega) (by omega) (by omega) (off4_eq i hc1 0) (off4_eq i hc1 1) (off6_eq i hc1)
        (diag_ld harg4 x1 harg5 x2 _ _ _ _ (by omega) (off3_eq i hc1 0) (off3_eq i hc1 1) (off5_eq i hc1))⟩)
    (fun k r0 r1 a0 a1 ⟨h0, h1⟩ => by
      have hk : k.val < (k0_t1_loop i).trips := k.isLt
      have es : 512 * ((i 2).val + 1 - first (i 2).val - 2 * (k.val + 1)) = 512 * ((i 2).val - first (i 2).val - 2 * k.val - 1) := by omega
      rw [Both, es]
      exact ⟨off_ld harg4 x1 harg5 x2 _ _ _ _ (by omega) (by omega) (by omega) (off16_eq i k 0) (off16_eq i k 1) (off18_eq i k)
        (off_ld harg4 x1 harg5 x2 _ _ _ _ (by omega) (by omega) (by omega) (off15_eq i k 0) (off15_eq i k 1) (off17_eq i k) h0),
        off_ld harg4 x1 harg5 x2 _ _ _ _ (by omega) (by omega) (by omega) (off16_eq i k 0) (off16_eq i k 1) (off18_eq i k)
        (off_ld harg4 x1 harg5 x2 _ _ _ _ (by omega) (by omega) (by omega) (off15_eq i k 0) (off15_eq i k 1) (off17_eq i k) h1)⟩)
  have ez : 512 * ((i 2).val + 1 - first (i 2).val - 2 * (k0_t1_loop i).trips) = 0 := by omega
  rw [ez, ldQ_eq harg3] at g0 g1
  exact ⟨o0, o1, g0, g1, e.trans (by rw [ldG_eq harg7, ldQ_eq harg6])⟩

theorem blockC (c : Dev nD) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (hc0 : ¬cond0_0 i) (hc1 : ¬cond0_1 i) (hc2 : cond0_2 i) (hc3 : ¬cond0_3 i)
    (x0 : Vec Ideal S1x512x128 .f32) (x1 : Vec Ideal S1x128x4096 .bf16) (x2 : Vec Ideal S1x4096x128 .bf16) (x3 : Vec Ideal S1x512x128 .bf16) (x4 : Vec Ideal S1x128 .f32) :
    BlockIs (i 2).val x0 x1 x2 x3 x4 (out0_C_5 c i arg3 harg3 arg4 harg4 arg5 harg5 arg6 harg6 arg7 harg7 arg8 harg8 arg9 harg9 arg10 harg10 hc0 hc1 hc2 hc3 x0 x1 x2 x3 x4) := by
  obtain ⟨f0, f1⟩ := cond3_first i hc2
  have hn : (i 2).val < 8 := (i 2).isLt
  have ht := trips_first i
  obtain ⟨r0, r1, o0, o1, ⟨⟨_, g0⟩, ⟨_, g1⟩⟩, e⟩ := caseC (F := Ideal) c i arg3 harg3 arg4 harg4 arg5 harg5 arg6 harg6 arg7 harg7 arg8 harg8 arg9 harg9 arg10 harg10 hc0 hc1 hc2 hc3 x0 x1 x2 x3 x4
    (Both (i 2).val (first (i 2).val) (k0_pay384 (ldQ arg3.view (harg3.unread x0))) (k0_pay385 (ldQ arg3.view (harg3.unread x0))) x1 x2) (by
      have es : 512 * ((i 2).val + 1 - first (i 2).val - 2 * 0) = 512 * ((i 2).val - 2) := by omega
      rw [Both, es]
      exact ⟨off_ld harg4 x1 harg5 x2 _ _ _ _ (by omega) (by omega) (by omega) (off8_eq i hc2 1 0) (off8_eq i hc2 1 1) (off10_eq i hc2 1)
        (off_ld harg4 x1 harg5 x2 _ _ _ _ (by omega) (by omega) (by omega) (off8_eq i hc2 0 0) (off8_eq i hc2 0 1) (off10_eq i hc2 0)
        (diag_ld harg4 x1 harg5 x2 _ _ _ _ (by omega) (off7_eq i hc2 0) (off7_eq i hc2 1) (off9_eq i hc2))),
        off_ld harg4 x1 harg5 x2 _ _ _ _ (by omega) (by omega) (by omega) (off8_eq i hc2 1 0) (off8_eq i hc2 1 1) (off10_eq i hc2 1)
        (off_ld harg4 x1 harg5 x2 _ _ _ _ (by omega) (by omega) (by omega) (off8_eq i hc2 0 0) (off8_eq i hc2 0 1) (off10_eq i hc2 0)
        (diag_ld harg4 x1 harg5 x2 _ _ _ _ (by omega) (off7_eq i hc2 0) (off7_eq i hc2 1) (off9_eq i hc2)))⟩)
    (fun k r0 r1 a0 a1 ⟨h0, h1⟩ => by
      have hk : k.val < (k0_t1_loop i).trips := k.isLt
      have es : 512 * ((i 2).val + 1 - first (i 2).val - 2 * (k.val + 1)) = 512 * ((i 2).val - first (i 2).val - 2 * k.val - 1) := by omega
      rw [Both, es]
      exact ⟨off_ld harg4 x1 harg5 x2 _ _ _ _ (by omega) (by omega) (by omega) (off16_eq i k 0) (off16_eq i k 1) (off18_eq i k)
        (off_ld harg4 x1 harg5 x2 _ _ _ _ (by omega) (by omega) (by omega) (off15_eq i k 0) (off15_eq i k 1) (off17_eq i k) h0),
        off_ld harg4 x1 harg5 x2 _ _ _ _ (by omega) (by omega) (by omega) (off16_eq i k 0) (off16_eq i k 1) (off18_eq i k)
        (off_ld harg4 x1 harg5 x2 _ _ _ _ (by omega) (by omega) (by omega) (off15_eq i k 0) (off15_eq i k 1) (off17_eq i k) h1)⟩)
  have ez : 512 * ((i 2).val + 1 - first (i 2).val - 2 * (k0_t1_loop i).trips) = 0 := by omega
  rw [ez, ldQ_eq harg3] at g0 g1
  exact ⟨o0, o1, g0, g1, e.trans (by rw [ldG_eq harg7, ldQ_eq harg6])⟩

theorem blockD (c : Dev nD) (i : grid0.Coords) (arg3 : Memref sig .tc .vmem S1x512x128 .f32) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2x512x128 .f32) (harg9 : arg9.IsWhole) (arg10 : Memref sig .tc .vmem S2x512x128 .f32) (harg10 : arg10.IsWhole) (hc0 : ¬cond0_0 i) (hc1 : ¬cond0_1 i) (hc2 : ¬cond0_2 i) (hc3 : cond0_3 i)
    (x0 : Vec Ideal S1x512x128 .f32) (x1 : Vec Ideal S1x128x4096 .bf16) (x2 : Vec Ideal S1x4096x128 .bf16) (x3 : Vec Ideal S1x512x128 .bf16) (x4 : Vec Ideal S1x128 .f32) :
    BlockIs (i 2).val x0 x1 x2 x3 x4 (out0_D_5 c i arg3 harg3 arg4 harg4 arg5 harg5 arg6 harg6 arg7 harg7 arg8 harg8 arg9 harg9 arg10 harg10 hc0 hc1 hc2 hc3 x0 x1 x2 x3 x4) := by
  obtain ⟨f0, f1⟩ := cond4_first i hc3
  have hn : (i 2).val < 8 := (i 2).isLt
  have ht := trips_first i
  obtain ⟨r0, r1, o0, o1, ⟨⟨_, g0⟩, ⟨_, g1⟩⟩, e⟩ := caseD (F := Ideal) c i arg3 harg3 arg4 harg4 arg5 harg5 arg6 harg6 arg7 harg7 arg8 harg8 arg9 harg9 arg10 harg10 hc0 hc1 hc2 hc3 x0 x1 x2 x3 x4
    (Both (i 2).val (first (i 2).val) (k0_pay384 (ldQ arg3.view (harg3.unread x0))) (k0_pay385 (ldQ arg3.view (harg3.unread x0))) x1 x2) (by
      have es : 512 * ((i 2).val + 1 - first (i 2).val - 2 * 0) = 512 * ((i 2).val - 3) := by omega
      rw [Both, es]
      exact ⟨off_ld harg4 x1 harg5 x2 _ _ _ _ (by omega) (by omega) (by omega) (off12_eq i hc3 2 0) (off12_eq i hc3 2 1) (off14_eq i hc3 2)
        (off_ld harg4 x1 harg5 x2 _ _ _ _ (by omega) (by omega) (by omega) (off12_eq i hc3 1 0) (off12_eq i hc3 1 1) (off14_eq i hc3 1)
        (off_ld harg4 x1 harg5 x2 _ _ _ _ (by omega) (by omega) (by omega) (off12_eq i hc3 0 0) (off12_eq i hc3 0 1) (off14_eq i hc3 0)
        (diag_ld harg4 x1 harg5 x2 _ _ _ _ (by omega) (off11_eq i hc3 0) (off11_eq i hc3 1) (off13_eq i hc3)))),
        off_ld harg4 x1 harg5 x2 _ _ _ _ (by omega) (by omega) (by omega) (off12_eq i hc3 2 0) (off12_eq i hc3 2 1) (off14_eq i hc3 2)
        (off_ld harg4 x1 harg5 x2 _ _ _ _ (by omega) (by omega) (by omega) (off12_eq i hc3 1 0) (off12_eq i hc3 1 1) (off14_eq i hc3 1)
        (off_ld harg4 x1 harg5 x2 _ _ _ _ (by omega) (by omega) (by omega) (off12_eq i hc3 0 0) (off12_eq i hc3 0 1) (off14_eq i hc3 0)
        (diag_ld harg4 x1 harg5 x2 _ _ _ _ (by omega) (off11_eq i hc3 0) (off11_eq i hc3 1) (off13_eq i hc3))))⟩)
    (fun k r0 r1 a0 a1 ⟨h0, h1⟩ => by
      have hk : k.val < (k0_t1_loop i).trips := k.isLt
      have es : 512 * ((i 2).val + 1 - first (i 2).val - 2 * (k.val + 1)) = 512 * ((i 2).val - first (i 2).val - 2 * k.val - 1) := by omega
      rw [Both, es]
      exact ⟨off_ld harg4 x1 harg5 x2 _ _ _ _ (by omega) (by omega) (by omega) (off16_eq i k 0) (off16_eq i k 1) (off18_eq i k)
        (off_ld harg4 x1 harg5 x2 _ _ _ _ (by omega) (by omega) (by omega) (off15_eq i k 0) (off15_eq i k 1) (off17_eq i k) h0),
        off_ld harg4 x1 harg5 x2 _ _ _ _ (by omega) (by omega) (by omega) (off16_eq i k 0) (off16_eq i k 1) (off18_eq i k)
        (off_ld harg4 x1 harg5 x2 _ _ _ _ (by omega) (by omega) (by omega) (off15_eq i k 0) (off15_eq i k 1) (off17_eq i k) h1)⟩)
  have ez : 512 * ((i 2).val + 1 - first (i 2).val - 2 * (k0_t1_loop i).trips) = 0 := by omega
  rw [ez, ldQ_eq harg3] at g0 g1
  exact ⟨o0, o1, g0, g1, e.trans (by rw [ldG_eq harg7, ldQ_eq harg6])⟩

end Cert.KernelIdeal.Visit

end
-- ==== Proof.Att.lean ====
/- Stick-breaking attention of one row, in natural units: the weights are exponentials of the logit less the softplus
   sum of the keys from it up to the row, and the base-two form with logits scaled by 1 / log 2 has the same value. -/
module

public import proofs.«01_k».proof.Proof.Math

@[expose] public section

noncomputable section

namespace Cert.Stick

open Idealize.ShloMosaic

/-- The softplus sum of the keys in front of row `t`, from key `a` on. -/
def Cs (t : ℕ) (z : ℕ → EReal) (a : ℕ) : EReal := ∑ s ∈ Finset.Ico a 4096, if s < t then softp (z s) else 0

/-- The attention of row `t` over the keys in front of it. -/
def att (t : ℕ) (z v : ℕ → EReal) : EReal :=
  ∑ s ∈ Finset.Ico 0 4096, (if s < t then Ideal.exp (z s + -(Cs t z s)) else 0) * v s

/-- A root mean square norm over a head's 64 entries, of one entry. -/
def normed (o : Fin 64 → EReal) (d : Fin 64) : EReal :=
  o d * Ideal.rsqrt ((∑ e : Fin 64, o e * o e) * ((1 / 64 : ℝ) : EReal) + Ideal.ofBits .f32 0x358637BD#32)

theorem sum_mul_pos {ι : Type} (I : Finset ι) (f : ι → EReal) (c : ℝ) (hc : 0 ≤ c) : (∑ i ∈ I, f i) * (c : EReal) = ∑ i ∈ I, f i * (c : EReal) := by
  classical
  induction I using Finset.induction_on with
  | empty => simp
  | insert i I hi ih =>
    rw [Finset.sum_insert hi, Finset.sum_insert hi, ← ih]
    exact EReal.right_distrib_of_nonneg_of_ne_top (EReal.coe_nonneg.mpr hc) (EReal.coe_ne_top c) _ _

theorem Rs_scaled (t : ℕ) (z : ℕ → EReal) (a : ℕ) : Rs t (fun s => z s * l2e) a = Cs t z a * l2e := by
  rw [Cs, sum_mul_pos _ _ _ l2e_pos.le, Rs]
  refine Finset.sum_congr rfl fun s _ => ?_
  rw [spm]
  split
  · exact sp2_mul (z s)
  · exact (zero_mul _).symm

theorem Wt_scaled (t : ℕ) (z : ℕ → EReal) (s : ℕ) :
    Wt t (fun s => z s * l2e) s = if s < t then Ideal.exp (z s + -(Cs t z s)) else 0 := by
  rw [Wt, Rs_scaled]
  refine if_congr Iff.rfl ?_ rfl
  rw [← EReal.neg_mul, ← EReal.right_distrib_of_nonneg_of_ne_top (EReal.coe_nonneg.mpr l2e_pos.le) (EReal.coe_ne_top _), exp2_mul]

theorem Ac_scaled (t : ℕ) (z v : ℕ → EReal) : Ac t (fun s => z s * l2e) v 0 = att t z v := by
  rw [Ac, att]
  exact Finset.sum_congr rfl fun s _ => congrArg (· * v s) (Wt_scaled t z s)

theorem softp_pos_sum (t : ℕ) (z : ℕ → EReal) (I : Finset ℕ) : 0 ≤ ∑ s ∈ I, (if s < t then softp (z s) else (0 : EReal)) :=
  Finset.sum_nonneg fun s _ => by
    split
    · exact softp_nonneg _
    · exact le_rfl

/-- The plain form: the log of the sigmoid of a key, and the negated softplus of the keys after it. -/
theorem weight (t : ℕ) (z : ℕ → EReal) (s : ℕ) (hs : s < 4096) (ht : s < t) :
    -(softp (-(z s))) + ((∑ r ∈ Finset.Ico s 4096, if r < t then -(softp (z r)) else 0) - -(softp (z s))) = z s + -(Cs t z s) := by
  have e : (∑ r ∈ Finset.Ico s 4096, if r < t then -(softp (z r)) else (0 : EReal)) = -(Cs t z s) := by
    rw [Cs, ← neg_sum _ (fun r => if r < t then softp (z r) else (0 : EReal)) fun r => by
      show 0 ≤ if r < t then softp (z r) else (0 : EReal)
      split
      · exact softp_nonneg _
      · exact le_rfl]
    refine Finset.sum_congr rfl fun r _ => ?_
    split
    · rfl
    · exact neg_zero.symm
  rw [e]
  have d : Cs t z s = softp (z s) + ∑ r ∈ Finset.Ico (s + 1) 4096, if r < t then softp (z r) else 0 := by
    rw [Cs, Finset.sum_eq_sum_Ico_succ_bot hs, if_pos ht]
  rw [d]
  exact exponent _ _ (softp_pos_sum t z _)

end Cert.Stick

end
-- ==== Proof.Epi.lean ====
/- The kernel's epilogue at one row and lane: the two heads' halves of the lanes are selected, each half is normed by its
   own 64 entries, weighted and gated. -/
module

public import proofs.«01_k».proof.Proof.Point
public import proofs.«01_k».proof.Proof.Att

@[expose] public section

noncomputable section

namespace Cert.KernelIdeal.Visit

open Cert.KernelIdeal Cert.KernelIdeal.Gen
open Idealize.ShloMosaic Idealize.ShloMosaic.TcCoe Idealize.SL.Sem Idealize.ShloMosaic.ValueIdx

/-- Entry `d` of head `h` of a pair of heads. -/
def lane (h : Fin 2) (d : Fin 64) : Fin 128 := ⟨64 * h.val + d.val, by have := h.isLt; have := d.isLt; omega⟩

theorem lane_lt (h : Fin 2) (d : Fin 64) : ((lane h d).val < 64) ↔ h = 0 := by
  have hd := d.isLt
  match h with
  | ⟨0, _⟩ => exact ⟨fun _ => rfl, fun _ => by show 64 * 0 + d.val < 64; omega⟩
  | ⟨1, _⟩ => exact ⟨fun c => absurd c (by show ¬ (64 * 1 + d.val < 64); omega), fun c => absurd (congrArg Fin.val c) Nat.one_ne_zero⟩

theorem half_apply (x : Fin 512) (l : Fin 128) (p q : EReal) :
    Scalar.select (k0_pay381 (ix2 x l)) p q = if l.val < 64 then p else q := by
  show Scalar.select (IntOp.cmpi .slt (iota .tc S512x128 32 [1] iota_S512x128_d1_w32 (ix2 x l)) (BitVec.ofNat 32 64)) p q = _
  rw [iota_single_apply]
  exact select_slt l.val 64 (by have := l.isLt; omega) (by omega) p q

/-- A sum over a pair's lanes, by heads. -/
theorem sum_lanes (f : Fin 128 → EReal) : ∑ l : Fin 128, f l = (∑ d : Fin 64, f (lane 0 d)) + ∑ d : Fin 64, f (lane 1 d) := by
  refine (Fin.sum_univ_add (a := 64) (b := 64) f).trans ?_
  refine congrArg₂ (· + ·) (Finset.sum_congr rfl fun d _ => congrArg f (Fin.ext ?_)) rfl
  show d.val = 64 * 0 + d.val
  omega

theorem sum_half0 (f : Fin 128 → EReal) : (∑ l : Fin 128, if l.val < 64 then f l else 0) = ∑ d : Fin 64, f (lane 0 d) := by
  rw [sum_lanes, Finset.sum_congr rfl fun d _ => if_pos ((lane_lt 0 d).mpr rfl),
    Finset.sum_eq_zero (s := Finset.univ) (f := fun d : Fin 64 => if (lane 1 d).val < 64 then f (lane 1 d) else 0)
      (fun d _ => if_neg fun c => absurd ((lane_lt 1 d).mp c) (by decide)), add_zero]

theorem sum_half1 (f : Fin 128 → EReal) : (∑ l : Fin 128, if l.val < 64 then 0 else f l) = ∑ d : Fin 64, f (lane 1 d) := by
  rw [sum_lanes, Finset.sum_congr (s₁ := Finset.univ) (f := fun d : Fin 64 => if (lane 1 d).val < 64 then 0 else f (lane 1 d)) rfl
      (fun d _ => if_neg fun c => absurd ((lane_lt 1 d).mp c) (by decide)),
    Finset.sum_eq_zero (s := Finset.univ) (f := fun d : Fin 64 => if (lane 0 d).val < 64 then 0 else f (lane 0 d))
      (fun d _ => if_pos ((lane_lt 0 d).mpr rfl)), zero_add]

theorem ofBits_recip64 : Ideal.ofBits .f32 0x3C800000#32 = ((1 / 64 : ℝ) : EReal) := by
  simp [Ideal.ofBits, Ideal.ieee, ← EReal.coe_one, ← EReal.coe_neg]
  rw [← EReal.coe_mul]
  norm_num

/-- Row sums, on every lane, through two casts of the column. -/
theorem rowsum_apply (s : FVec Ideal S512x128 .f32) (x : Fin 512) (l : Fin 128) :
    broadcastTo S512x128 (shapeCast S512x1 (shapeCast S512x1 (multiReduction .add [1] S512 s 0x00000000#32 reduces_S512x128_S512 (.inl rfl) rfl)
      shapeCasts_S512_S512x1) shapeCasts_S512x1_S512x1) broadcasts_S512x1_S512x128 (ix2 x l) = ∑ j : Fin 128, s (ix2 x j) := by
  rw [shapeCast_self]
  refine (column_apply _ _ _ x l).trans ((Ideal.multiReduction_add_single _ _ _ _ _ _).trans ?_)
  exact Finset.sum_congr rfl fun k _ => congrArg s (lift_row _ x k)

theorem pay404_apply (o0 o1 : Vec Ideal S1x512x128 .f32) (g : Vec Ideal S1x128 .f32) (gate : Vec Ideal S1x512x128 .bf16)
    (x : Fin 512) (h : Fin 2) (d : Fin 64) (o : Fin 64 → EReal)
    (ho : ∀ e, (if h = 0 then shapeCast S512x128 o0 shapeCasts_S1x512x128_S512x128 (ix2 x (lane h e))
      else shapeCast S512x128 o1 shapeCasts_S1x512x128_S512x128 (ix2 x (lane h e))) = o e) :
    (k0_pay404 (F := Ideal) k0_pay381 o0 o1 g gate (ix3 0 x (lane h d)) : EReal)
      = Stick.normed o d * g (ix2 0 (lane h d)) * gate (ix3 0 x (lane h d)) := by
  set u0 := shapeCast S512x128 o0 shapeCasts_S1x512x128_S512x128 with hu0
  set u1 := shapeCast S512x128 o1 shapeCasts_S1x512x128_S512x128 with hu1
  have hs : ∀ l : Fin 128, select (k0_pay381) u0 u1 (ix2 x l) = if l.val < 64 then u0 (ix2 x l) else u1 (ix2 x l) :=
    fun l => half_apply x l _ _
  have hsel : ∀ e, select (k0_pay381) u0 u1 (ix2 x (lane h e)) = o e := fun e => by
    rw [hs, ← ho e]
    exact if_congr (lane_lt h e) rfl rfl
  have hsum : select k0_pay381
      (broadcastTo S512x128 (shapeCast S512x1 (shapeCast S512x1 (multiReduction (F := Ideal) .add [1] S512
        (select k0_pay381 (mulf (select k0_pay381 u0 u1) (select k0_pay381 u0 u1)) (broadcast S512x128 (Ideal.ofBits .f32 0x00000000#32)))
        0x00000000#32 reduces_S512x128_S512 (.inl rfl) rfl) shapeCasts_S512_S512x1) shapeCasts_S512x1_S512x1) broadcasts_S512x1_S512x128)
      (broadcastTo S512x128 (shapeCast S512x1 (shapeCast S512x1 (multiReduction (F := Ideal) .add [1] S512
        (select k0_pay381 (broadcast S512x128 (Ideal.ofBits .f32 0x00000000#32)) (mulf (select k0_pay381 u0 u1) (select k0_pay381 u0 u1)))
        0x00000000#32 reduces_S512x128_S512 (.inl rfl) rfl) shapeCasts_S512_S512x1) shapeCasts_S512x1_S512x1) broadcasts_S512x1_S512x128)
      (ix2 x (lane h d)) = ∑ e : Fin 64, o e * o e := by
    refine (half_apply x _ _ _).trans ?_
    rw [rowsum_apply, rowsum_apply]
    have e0 : ∀ l : Fin 128, select k0_pay381 (mulf (F := Ideal) (select k0_pay381 u0 u1) (select k0_pay381 u0 u1))
        (broadcast S512x128 (Ideal.ofBits .f32 0x00000000#32)) (ix2 x l)
        = if l.val < 64 then select k0_pay381 u0 u1 (ix2 x l) * select k0_pay381 u0 u1 (ix2 x l) else 0 := fun l => by
      refine (half_apply x l _ _).trans ?_
      refine if_congr Iff.rfl rfl Ideal.ofBits_zero_f32
    have e1 : ∀ l : Fin 128, select k0_pay381 (broadcast S512x128 (Ideal.ofBits .f32 0x00000000#32))
        (mulf (F := Ideal) (select k0_pay381 u0 u1) (select k0_pay381 u0 u1)) (ix2 x l)
        = if l.val < 64 then 0 else select k0_pay381 u0 u1 (ix2 x l) * select k0_pay381 u0 u1 (ix2 x l) := fun l => by
      refine (half_apply x l _ _).trans ?_
      refine if_congr Iff.rfl Ideal.ofBits_zero_f32 rfl
    rw [Finset.sum_congr rfl fun l _ => e0 l, Finset.sum_congr rfl fun l _ => e1 l,
      sum_half0 (fun l => select k0_pay381 u0 u1 (ix2 x l) * select k0_pay381 u0 u1 (ix2 x l)),
      sum_half1 (fun l => select k0_pay381 u0 u1 (ix2 x l) * select k0_pay381 u0 u1 (ix2 x l))]
    by_cases hh : h = 0
    · subst hh
      rw [if_pos ((lane_lt 0 d).mpr rfl)]
      exact Finset.sum_congr rfl fun e _ => by rw [hsel e]
    · have h1 : h = 1 := by
        match h with
        | ⟨0, _⟩ => exact absurd rfl hh
        | ⟨1, _⟩ => rfl
      subst h1
      rw [if_neg fun c => hh ((lane_lt 1 d).mp c)]
      exact Finset.sum_congr rfl fun e _ => by rw [hsel e]
  unfold k0_pay404
  dsimp only
  refine (shapeCast_ab_1ab_apply _ shapeCasts_S512x128_S1x512x128 0 x (lane h d)).trans ?_
  refine congrArg₂ (fun a b : EReal => a * b) (congrArg₂ (fun a b : EReal => a * b) (congrArg₂ (fun a b : EReal => a * b) (hsel d)
    (congrArg (fun a : EReal => Ideal.rsqrt (a + Ideal.ofBits .f32 0x358637BD#32)) (congrArg₂ (fun a b : EReal => a * b) hsum ofBits_recip64))) ?_) ?_
  · refine (broadcastTo_1b_ab_apply _ _ x (lane h d)).trans ?_
    rw [shapeCast_self]
  · exact shapeCast_1ab_ab_apply gate _ x (lane h d)

end Cert.KernelIdeal.Visit

end
-- ==== Proof.Spec.lean ====
/- What both programs compute, entry by entry: head `H` attends with its own 64 columns, its output row is normed,
   weighted and gated. -/
module

public import proofs.«01_k».proof.Proof.Att
public import Idealize.ShloMosaic.Lib.ValueIdx

@[expose] public section

noncomputable section

namespace Cert.Stick

open Idealize.ShloMosaic Idealize.ShloMosaic.ValueIdx

/-- Column `d` of head `H`. -/
def col (H : Fin 8) (d : Fin 64) : Fin 512 := ⟨64 * H.val + d.val, by have := H.isLt; have := d.isLt; omega⟩

/-- The head of a column, and its place there. -/
def headOf (n : Fin 512) : Fin 8 := ⟨n.val / 64, by have := n.isLt; omega⟩
def partOf (n : Fin 512) : Fin 64 := ⟨n.val % 64, by omega⟩

theorem col_head (n : Fin 512) : col (headOf n) (partOf n) = n := Fin.ext (by show 64 * (n.val / 64) + n.val % 64 = n.val; omega)

/-- The logit of row `t` with key `s`. -/
def logit (q k : (⟨3, ![8, 4096, 512]⟩ : Shape).Idx → EReal) (b H : Fin 8) (t : Fin 4096) (s : ℕ) : EReal :=
  if h : s < 4096 then (∑ d : Fin 64, q (ix3 b t (col H d)) * k (ix3 b ⟨s, h⟩ (col H d))) * ((1 / 8 : ℝ) : EReal) else 0

/-- The value of key `s`. -/
def value (v : (⟨3, ![8, 4096, 512]⟩ : Shape).Idx → EReal) (b H : Fin 8) (e : Fin 64) (s : ℕ) : EReal :=
  if h : s < 4096 then v (ix3 b ⟨s, h⟩ (col H e)) else 0

def silu (x : EReal) : EReal := x * Ideal.div 1 (1 + Ideal.exp (-x))

/-- An entry of the result. -/
def out (q k v g : (⟨3, ![8, 4096, 512]⟩ : Shape).Idx → EReal) (w : (⟨1, ![512]⟩ : Shape).Idx → EReal)
    (b H : Fin 8) (t : Fin 4096) (d : Fin 64) : EReal :=
  normed (fun e => att t.val (logit q k b H t) (value v b H e)) d * w (ix1 (col H d)) * silu (g (ix3 b t (col H d)))

end Cert.Stick

end
-- ==== Proof.Entry.lean ====
/- An entry of a grid point's block: the kernel's tiles, read at their rows and lanes, give the common description. -/
module

public import proofs.«01_k».proof.Proof.Block
public import proofs.«01_k».proof.Proof.Epi
public import proofs.«01_k».proof.Proof.Spec

@[expose] public section

noncomputable section

namespace Cert.KernelIdeal.Visit

open Cert.KernelIdeal Cert.KernelIdeal.Gen
open Idealize.ShloMosaic hiding ix1 ix2 ix3 ix4
open Idealize.ShloMosaic.TcCoe Idealize.SL.Sem Idealize.ShloMosaic.ValueIdx

/-- The scale of the queries, as one number. -/
def qs : ℝ := 1 / 8 * Stick.l2e

theorem qs_nonneg : 0 ≤ qs := mul_nonneg (by norm_num) Stick.l2e_pos.le

theorem pay382_apply (x0 : Vec Ideal S1x512x128 .f32) (x : Fin 512) (l : Fin 128) :
    (k0_pay382 (F := Ideal) x0 (ix2 x l) : EReal) = (x0 (ix3 0 x l) : EReal) * (qs : EReal) :=
  congrArg (fun a : EReal => a * (qs : EReal)) (shapeCast_1ab_ab_apply x0 _ x l)

theorem pay384_apply (x0 : Vec Ideal S1x512x128 .f32) (x : Fin 512) (l : Fin 128) :
    (k0_pay384 (F := Ideal) x0 (ix2 x l) : EReal) = if l.val < 64 then (x0 (ix3 0 x l) : EReal) * (qs : EReal) else 0 := by
  refine (half_apply x l _ _).trans ?_
  exact if_congr Iff.rfl (pay382_apply x0 x l) Ideal.ofBits_zero_bf16

theorem pay385_apply (x0 : Vec Ideal S1x512x128 .f32) (x : Fin 512) (l : Fin 128) :
    (k0_pay385 (F := Ideal) x0 (ix2 x l) : EReal) = if l.val < 64 then 0 else (x0 (ix3 0 x l) : EReal) * (qs : EReal) := by
  refine (half_apply x l _ _).trans ?_
  exact if_congr Iff.rfl Ideal.ofBits_zero_bf16 (pay382_apply x0 x l)

theorem scale_out (a b : Fin 64 → EReal) :
    ∑ d, (a d * (qs : EReal)) * b d = (∑ d, a d * b d) * ((1 / 8 : ℝ) : EReal) * (Stick.l2e : EReal) := by
  rw [mul_assoc, ← EReal.coe_mul, show (1 / 8 : ℝ) * Stick.l2e = qs from rfl, Stick.sum_mul_pos _ _ _ qs_nonneg]
  exact Finset.sum_congr rfl fun d _ => by rw [mul_assoc, mul_comm (qs : EReal), ← mul_assoc]

theorem Zof0 (x0 : Vec Ideal S1x512x128 .f32) (x1 : Vec Ideal S1x128x4096 .bf16) (x : Fin 512) (s : ℕ) (hs : s < 4096) :
    Zof (k0_pay384 x0) x1 x s
      = (∑ d : Fin 64, (x0 (ix3 0 x (lane 0 d)) : EReal) * x1 (ix3 0 (lane 0 d) ⟨s, hs⟩)) * ((1 / 8 : ℝ) : EReal) * (Stick.l2e : EReal) := by
  rw [Zof, dif_pos hs, ← scale_out,
    ← sum_half0 (fun l => ((x0 (ix3 0 x l) : EReal) * (qs : EReal)) * x1 (ix3 0 l ⟨s, hs⟩))]
  refine Finset.sum_congr rfl fun l _ => ?_
  rw [pay384_apply]
  split
  · rfl
  · exact zero_mul _

theorem Zof1 (x0 : Vec Ideal S1x512x128 .f32) (x1 : Vec Ideal S1x128x4096 .bf16) (x : Fin 512) (s : ℕ) (hs : s < 4096) :
    Zof (k0_pay385 x0) x1 x s
      = (∑ d : Fin 64, (x0 (ix3 0 x (lane 1 d)) : EReal) * x1 (ix3 0 (lane 1 d) ⟨s, hs⟩)) * ((1 / 8 : ℝ) : EReal) * (Stick.l2e : EReal) := by
  rw [Zof, dif_pos hs, ← scale_out,
    ← sum_half1 (fun l => ((x0 (ix3 0 x l) : EReal) * (qs : EReal)) * x1 (ix3 0 l ⟨s, hs⟩))]
  refine Finset.sum_congr rfl fun l _ => ?_
  rw [pay385_apply]
  split
  · exact zero_mul _
  · rfl

/-- Head `h` of pair `p`. -/
def headIx (p : Fin 4) (h : Fin 2) : Fin 8 := ⟨2 * p.val + h.val, by have := p.isLt; have := h.isLt; omega⟩

/-- Row `x` of row block `n`. -/
def rowIx (n : Fin 8) (x : Fin 512) : Fin 4096 := ⟨512 * n.val + x.val, by have := n.isLt; have := x.isLt; omega⟩

theorem block_entry {n b : Fin 8} {p : Fin 4} {x0 : Vec Ideal S1x512x128 .f32} {x1 : Vec Ideal S1x128x4096 .bf16}
    {x2 : Vec Ideal S1x4096x128 .bf16} {x3 : Vec Ideal S1x512x128 .bf16} {x4 : Vec Ideal S1x128 .f32} {o : Vec Ideal S1x512x128 .bf16}
    (hb : BlockIs n.val x0 x1 x2 x3 x4 o)
    (q k v g : (⟨3, ![8, 4096, 512]⟩ : Shape).Idx → EReal) (w : (⟨1, ![512]⟩ : Shape).Idx → EReal)
    (e0 : ∀ x h d, (x0 (ix3 0 x (lane h d)) : EReal) = q (ix3 b (rowIx n x) (Stick.col (headIx p h) d)))
    (e1 : ∀ h d s, (x1 (ix3 0 (lane h d) s) : EReal) = k (ix3 b s (Stick.col (headIx p h) d)))
    (e2 : ∀ s h d, (x2 (ix3 0 s (lane h d)) : EReal) = v (ix3 b s (Stick.col (headIx p h) d)))
    (e3 : ∀ x h d, (x3 (ix3 0 x (lane h d)) : EReal) = Stick.silu (g (ix3 b (rowIx n x) (Stick.col (headIx p h) d))))
    (e4 : ∀ h d, (x4 (ix2 0 (lane h d)) : EReal) = w (ix1 (Stick.col (headIx p h) d)))
    (x : Fin 512) (h : Fin 2) (d : Fin 64) :
    (o (ix3 0 x (lane h d)) : EReal) = Stick.out q k v g w b (headIx p h) (rowIx n x) d := by
  obtain ⟨o0, o1, a0, a1, rfl⟩ := hb
  rw [pay404_apply o0 o1 x4 x3 x h d
    (fun e => Stick.att (rowIx n x).val (Stick.logit q k b (headIx p h) (rowIx n x)) (Stick.value v b (headIx p h) e)) ?_, e3, e4]
  · rfl
  · intro e
    have hv : Vof x2 (lane h e) = Stick.value v b (headIx p h) e := funext fun s => by
      rw [Vof, Stick.value]
      split
      · exact e2 _ h e
      · rfl
    have hz : ∀ (y : FVec Ideal S512x128 .bf16), (∀ s (hs : s < 4096), Zof y x1 x s
          = (∑ d : Fin 64, (x0 (ix3 0 x (lane h d)) : EReal) * x1 (ix3 0 (lane h d) ⟨s, hs⟩)) * ((1 / 8 : ℝ) : EReal) * (Stick.l2e : EReal)) →
        Zof y x1 x = fun s => Stick.logit q k b (headIx p h) (rowIx n x) s * (Stick.l2e : EReal) := fun y hy => funext fun s => by
      by_cases hs : s < 4096
      · rw [hy s hs, Stick.logit, dif_pos hs]
        refine congrArg (· * ((1 / 8 : ℝ) : EReal) * (Stick.l2e : EReal)) (Finset.sum_congr rfl fun d _ => ?_)
        rw [e0, e1]
      · rw [Zof, dif_neg hs, Stick.logit, dif_neg hs, zero_mul]
    rw [← Stick.Ac_scaled, ← hv]
    match h with
    | ⟨0, _⟩ =>
      refine (if_pos rfl).trans ?_
      rw [a0 x (lane _ e), hz _ (fun s hs => Zof0 x0 x1 x s hs)]
      rfl
    | ⟨1, _⟩ =>
      refine (if_neg fun c => Nat.one_ne_zero (congrArg Fin.val c)).trans ?_
      rw [a1 x (lane _ e), hz _ (fun s hs => Zof1 x0 x1 x s hs)]
      rfl

end Cert.KernelIdeal.Visit

end
-- ==== Proof.Prep.lean ====
/- What the host code hands to the call. -/
module

public import proofs.«01_k».proof.Proof.Gen.KernelIdeal.Frame
public import proofs.«01_k».proof.Proof.Spec
public import Idealize.ShloMosaic.Lib.StableHlo.Run
public import Idealize.ShloMosaic.Lib.ValueLayout
public import Idealize.ShloMosaic.Lib.IdealHost

@[expose] public section

noncomputable section

namespace Cert.KernelIdeal.Visit

open Cert.KernelIdeal Cert.KernelIdeal.Gen
open Idealize.ShloMosaic
open Idealize.ShloMosaic.TcCoe Idealize.SL.Sem Idealize.ShloMosaic.ValueIdx

variable (m : (ℓ : Loc nD τ sig) → Buf (Elt Ideal) ℓ)

theorem V_keys (c : Dev nD) (b : Fin 8) (n : Fin 512) (s : Fin 4096) :
    (V m c main_v1 (ix3 b n s) : EReal) = m ((c : Thread nD τ).loc main_arg1) (ix3 b s n) := by
  have e : V m c main_v1 = truncf (F := Ideal) .bf16 (transpose S8x512x4096 [0, 2, 1] (m ((c : Thread nD τ).loc main_arg1)) transposes_S8x4096x512_S8x512x4096_0_2_1) bitsLt_bf16_f32 := by
    unfold_abbrev_sides
    after_results
  rw [e]
  show m ((c : Thread nD τ).loc main_arg1) _ = _
  congr 1
  funext a
  match a with
  | ⟨0, _⟩ => rfl
  | ⟨1, _⟩ => rfl
  | ⟨2, _⟩ => rfl

theorem V_values (c : Dev nD) (i : S8x4096x512.Idx) :
    (V m c main_v2 i : EReal) = m ((c : Thread nD τ).loc main_arg2) i := by
  have e : V m c main_v2 = truncf (F := Ideal) .bf16 (m ((c : Thread nD τ).loc main_arg2)) bitsLt_bf16_f32 := by
    unfold_abbrev_sides
    after_results
  rw [e]
  rfl

theorem gate_apply (x : FVec Ideal S8x4096x512 .f32) (i : S8x4096x512.Idx) :
    (truncf (F := Ideal) .bf16 (mulf x (Host.divf (broadcastInDim S8x4096x512 ![] bcast_S_S8x4096x512 (constant S_ .f32 0x3F800000#32))
        (addf (broadcastInDim S8x4096x512 ![] bcast_S_S8x4096x512 (constant S_ .f32 0x3F800000#32))
          (Host.exp (Host.negf x))))) bitsLt_bf16_f32 i : EReal) = Stick.silu (x i) := by
  show x i * Ideal.div (Ideal.ofBits .f32 0x3F800000#32) (Ideal.ofBits .f32 0x3F800000#32 + Ideal.exp (-(x i))) = _
  rw [Ideal.ofBits_one_f32]
  rfl

theorem V_gate (c : Dev nD) (i : S8x4096x512.Idx) :
    (V m c main_v10 i : EReal) = Stick.silu (m ((c : Thread nD τ).loc main_arg3) i) := by
  have e : V m c main_v10 = truncf (F := Ideal) .bf16 (mulf (m ((c : Thread nD τ).loc main_arg3))
      (Host.divf (broadcastInDim S8x4096x512 ![] bcast_S_S8x4096x512 (constant S_ .f32 0x3F800000#32))
        (addf (broadcastInDim S8x4096x512 ![] bcast_S_S8x4096x512 (constant S_ .f32 0x3F800000#32))
          (Host.exp (Host.negf (m ((c : Thread nD τ).loc main_arg3))))))) bitsLt_bf16_f32 := by
    unfold_abbrev_sides
    after_results
  rw [e]
  exact gate_apply _ i

theorem V_weight (c : Dev nD) (n : Fin 512) :
    (V m c main_v11 (ix2 0 n) : EReal) = m ((c : Thread nD τ).loc main_arg4) (ix1 n) := by
  have e : V m c main_v11 = shapeCast S1x512 (m ((c : Thread nD τ).loc main_arg4)) shapeCasts_S512_S1x512 := by
    unfold_abbrev_sides
    after_results
    try rfl
  rw [e]
  exact shapeCast_a_1a_apply _ _ 0 n

end Cert.KernelIdeal.Visit

end
-- ==== Proof.Result.lean ====
/- The kernel's result array: every grid point writes its own block of the common description, and the blocks cover it. -/
module

public import proofs.«01_k».proof.Proof.Gen.KernelIdeal.Value
public import proofs.«01_k».proof.Proof.Entry
public import proofs.«01_k».proof.Proof.Prep

@[expose] public section

set_option maxRecDepth 65536

noncomputable section

namespace Cert.KernelIdeal.Visit

open Cert.KernelIdeal Cert.KernelIdeal.Gen
open Idealize.ShloMosaic hiding ix1 ix2 ix3 ix4
open Idealize.ShloMosaic.TcCoe Idealize.SL.Sem Idealize.ShloMosaic.ValueIdx

variable (m : (ℓ : Loc nD τ sig) → Buf (Elt Ideal) ℓ)

theorem win0_eq : ∀ (i : grid0.Coords) a, cc0_transform_0 i a = (![(i 0).val, (i 2).val, (i 1).val] : Fin 3 → ℕ) a := by decide +kernel
theorem win1_eq : ∀ (i : grid0.Coords) a, cc0_transform_1 i a = (![(i 0).val, (i 1).val, 0] : Fin 3 → ℕ) a := by decide +kernel
theorem win2_eq : ∀ (i : grid0.Coords) a, cc0_transform_2 i a = (![(i 0).val, 0, (i 1).val] : Fin 3 → ℕ) a := by decide +kernel
theorem win3_eq : ∀ (i : grid0.Coords) a, cc0_transform_3 i a = (![(i 0).val, (i 2).val, (i 1).val] : Fin 3 → ℕ) a := by decide +kernel
theorem win4_eq : ∀ (i : grid0.Coords) a, cc0_transform_4 i a = (![0, (i 1).val] : Fin 2 → ℕ) a := by decide +kernel
theorem win5_eq : ∀ (i : grid0.Coords) a, cc0_transform_5 i a = (![(i 0).val, (i 2).val, (i 1).val] : Fin 3 → ℕ) a := by decide +kernel

/-- The batch entry, the pair of heads and the row block of a grid point. -/
def bat (t : Fin cfg0.N) : Fin 8 := grid0.coords t 0
def pair (t : Fin cfg0.N) : Fin 4 := grid0.coords t 1
def blk (t : Fin cfg0.N) : Fin 8 := grid0.coords t 2

theorem iblk0 (c : Dev nD) (t : Fin cfg0.N) (x : Fin 512) (h : Fin 2) (d : Fin 64) :
    (iblk m c 0 t (ix3 0 x (lane h d)) : EReal) = m ((c : Thread nD τ).loc main_arg0) (ix3 (bat t) (rowIx (blk t) x) (Stick.col (headIx (pair t) h) d)) := by
  unfold iblk
  rw [View.read_apply]
  show V m c main_arg0 _ = _
  rw [V_main_arg0]
  refine congrArg (m ((c : Thread nD τ).loc main_arg0)) (funext fun a => Fin.ext ?_)
  match a with
  | ⟨0, _⟩ =>
    show cc0_transform_0 (grid0.coords t) 0 * 1 + 1 * 0 = (grid0.coords t 0).val
    rw [win0_eq]; exact Nat.mul_one _
  | ⟨1, _⟩ =>
    show cc0_transform_0 (grid0.coords t) 1 * 512 + 1 * x.val = 512 * (grid0.coords t 2).val + x.val
    rw [win0_eq]; show (grid0.coords t 2).val * 512 + 1 * x.val = _; omega
  | ⟨2, _⟩ =>
    show cc0_transform_0 (grid0.coords t) 2 * 128 + 1 * (64 * h.val + d.val) = 64 * (2 * (grid0.coords t 1).val + h.val) + d.val
    rw [win0_eq]; show (grid0.coords t 1).val * 128 + 1 * (64 * h.val + d.val) = _; omega

theorem iblk1 (c : Dev nD) (t : Fin cfg0.N) (h : Fin 2) (d : Fin 64) (s : Fin 4096) :
    (iblk m c 1 t (ix3 0 (lane h d) s) : EReal) = m ((c : Thread nD τ).loc main_arg1) (ix3 (bat t) s (Stick.col (headIx (pair t) h) d)) := by
  unfold iblk
  rw [View.read_apply, ← V_keys m c]
  refine congrArg (V m c main_v1) (funext fun a => Fin.ext ?_)
  match a with
  | ⟨0, _⟩ =>
    show cc0_transform_1 (grid0.coords t) 0 * 1 + 1 * 0 = (grid0.coords t 0).val
    rw [win1_eq]; exact Nat.mul_one _
  | ⟨1, _⟩ =>
    show cc0_transform_1 (grid0.coords t) 1 * 128 + 1 * (64 * h.val + d.val) = 64 * (2 * (grid0.coords t 1).val + h.val) + d.val
    rw [win1_eq]; show (grid0.coords t 1).val * 128 + 1 * (64 * h.val + d.val) = _; omega
  | ⟨2, _⟩ =>
    show cc0_transform_1 (grid0.coords t) 2 * 4096 + 1 * s.val = s.val
    rw [win1_eq]; show 0 * 4096 + 1 * s.val = _; omega

theorem iblk2 (c : Dev nD) (t : Fin cfg0.N) (s : Fin 4096) (h : Fin 2) (d : Fin 64) :
    (iblk m c 2 t (ix3 0 s (lane h d)) : EReal) = m ((c : Thread nD τ).loc main_arg2) (ix3 (bat t) s (Stick.col (headIx (pair t) h) d)) := by
  unfold iblk
  rw [View.read_apply, ← V_values m c]
  refine congrArg (V m c main_v2) (funext fun a => Fin.ext ?_)
  match a with
  | ⟨0, _⟩ =>
    show cc0_transform_2 (grid0.coords t) 0 * 1 + 1 * 0 = (grid0.coords t 0).val
    rw [win2_eq]; exact Nat.mul_one _
  | ⟨1, _⟩ =>
    show cc0_transform_2 (grid0.coords t) 1 * 4096 + 1 * s.val = s.val
    rw [win2_eq]; show 0 * 4096 + 1 * s.val = _; omega
  | ⟨2, _⟩ =>
    show cc0_transform_2 (grid0.coords t) 2 * 128 + 1 * (64 * h.val + d.val) = 64 * (2 * (grid0.coords t 1).val + h.val) + d.val
    rw [win2_eq]; show (grid0.coords t 1).val * 128 + 1 * (64 * h.val + d.val) = _; omega

theorem iblk3 (c : Dev nD) (t : Fin cfg0.N) (x : Fin 512) (h : Fin 2) (d : Fin 64) :
    (iblk m c 3 t (ix3 0 x (lane h d)) : EReal)
      = Stick.silu (m ((c : Thread nD τ).loc main_arg3) (ix3 (bat t) (rowIx (blk t) x) (Stick.col (headIx (pair t) h) d))) := by
  unfold iblk
  rw [View.read_apply, ← V_gate m c]
  refine congrArg (V m c main_v10) (funext fun a => Fin.ext ?_)
  match a with
  | ⟨0, _⟩ =>
    show cc0_transform_3 (grid0.coords t) 0 * 1 + 1 * 0 = (grid0.coords t 0).val
    rw [win3_eq]; exact Nat.mul_one _
  | ⟨1, _⟩ =>
    show cc0_transform_3 (grid0.coords t) 1 * 512 + 1 * x.val = 512 * (grid0.coords t 2).val + x.val
    rw [win3_eq]; show (grid0.coords t 2).val * 512 + 1 * x.val = _; omega
  | ⟨2, _⟩ =>
    show cc0_transform_3 (grid0.coords t) 2 * 128 + 1 * (64 * h.val + d.val) = 64 * (2 * (grid0.coords t 1).val + h.val) + d.val
    rw [win3_eq]; show (grid0.coords t 1).val * 128 + 1 * (64 * h.val + d.val) = _; omega

theorem iblk4 (c : Dev nD) (t : Fin cfg0.N) (h : Fin 2) (d : Fin 64) :
    (iblk m c 4 t (ix2 0 (lane h d)) : EReal) = m ((c : Thread nD τ).loc main_arg4) (ix1 (Stick.col (headIx (pair t) h) d)) := by
  unfold iblk
  rw [View.read_apply, ← V_weight m c]
  refine congrArg (V m c main_v11) (funext fun a => Fin.ext ?_)
  match a with
  | ⟨0, _⟩ =>
    show cc0_transform_4 (grid0.coords t) 0 * 1 + 1 * 0 = 0
    rw [win4_eq]; rfl
  | ⟨1, _⟩ =>
    show cc0_transform_4 (grid0.coords t) 1 * 128 + 1 * (64 * h.val + d.val) = 64 * (2 * (grid0.coords t 1).val + h.val) + d.val
    rw [win4_eq]; show (grid0.coords t 1).val * 128 + 1 * (64 * h.val + d.val) = _; omega

/-- The result array. -/
def result (c : Dev nD) : Buf (Elt Ideal) ((c : Thread nD τ).loc main_v12) := fun i =>
  (Stick.out (m ((c : Thread nD τ).loc main_arg0)) (m ((c : Thread nD τ).loc main_arg1)) (m ((c : Thread nD τ).loc main_arg2))
    (m ((c : Thread nD τ).loc main_arg3)) (m ((c : Thread nD τ).loc main_arg4)) (i 0) (Stick.headOf (i 2)) (i 1) (Stick.partOf (i 2)) : EReal)

theorem blockIs (c : Dev nD) (t : Fin cfg0.N) :
    ∃ o : Vec Ideal S1x512x128 .bf16, (dats m 0 c).flushed 5 t = (cfg0.win 5).cut (grid0.coords t) o
      ∧ BlockIs (blk t).val (iblk m c 0 t) (iblk m c 1 t) (iblk m c 2 t) (iblk m c 3 t) (iblk m c 4 t) o := by
  have hlt : t.val % 8 < 8 := Nat.mod_lt _ (by omega)
  by_cases h0 : t.val % 8 = 0
  · exact ⟨_, Value.flushed5_A m c t h0 (by omega) (by omega) (by omega), blockA ..⟩
  · by_cases h1 : t.val % 8 = 1
    · exact ⟨_, Value.flushed5_B m c t h0 h1 (by omega) (by omega), blockB ..⟩
    · by_cases h2 : t.val % 8 = 2 ∨ t.val % 8 = 4 ∨ t.val % 8 = 6
      · exact ⟨_, Value.flushed5_C m c t h0 h1 h2 (by omega), blockC ..⟩
      · exact ⟨_, Value.flushed5_D m c t h0 h1 h2 (by omega), blockD ..⟩

theorem lane_split (l : Fin 128) : ∃ h d, l = lane h d :=
  ⟨⟨l.val / 64, by have := l.isLt; omega⟩, ⟨l.val % 64, by omega⟩, Fin.ext (by show l.val = 64 * (l.val / 64) + l.val % 64; omega)⟩

theorem head_col (H : Fin 8) (d : Fin 64) : Stick.headOf (Stick.col H d) = H ∧ Stick.partOf (Stick.col H d) = d := by
  have := d.isLt
  exact ⟨Fin.ext (by show (64 * H.val + d.val) / 64 = H.val; omega), Fin.ext (by show (64 * H.val + d.val) % 64 = d.val; omega)⟩

theorem flushed_eq (c : Dev nD) (t : Fin cfg0.N) (_ : (cfg0.win 5).flush t = true) :
    (dats m 0 c).flushed 5 t = ((cfg0.win 5).blk t).view.read (Elt Ideal) (result m c) := by
  obtain ⟨o, e, hb⟩ := blockIs m c t
  rw [e]
  refine funext fun (j : S1x512x128.Idx) => ?_
  obtain ⟨h, d, hl⟩ := lane_split (j 2)
  have hj : j = ix3 0 (j 1) (lane h d) := by
    rw [← hl]
    refine funext fun a => ?_
    match a with
    | ⟨0, _⟩ => exact Subsingleton.elim (α := Fin 1) _ _
    | ⟨1, _⟩ => rfl
    | ⟨2, _⟩ => rfl
  rw [hj]
  refine Eq.trans (b := (o (ix3 0 (j 1) (lane h d)) : EReal)) rfl ?_
  refine (block_entry (b := bat t) (p := pair t) hb _ _ _ _ _ (iblk0 m c t) (iblk1 m c t) (iblk2 m c t) (iblk3 m c t) (iblk4 m c t) (j 1) h d).trans ?_
  have hi : ((cfg0.win 5).blk t).view.emb (ix3 0 (j 1) (lane h d)) = ix3 (bat t) (rowIx (blk t) (j 1)) (Stick.col (headIx (pair t) h) d) := by
    refine funext fun a => Fin.ext ?_
    match a with
    | ⟨0, _⟩ =>
      show cc0_transform_5 (grid0.coords t) 0 * 1 + 1 * 0 = (grid0.coords t 0).val
      rw [win5_eq]; exact Nat.mul_one _
    | ⟨1, _⟩ =>
      show cc0_transform_5 (grid0.coords t) 1 * 512 + 1 * (j 1).val = 512 * (grid0.coords t 2).val + (j 1).val
      rw [win5_eq]; show (grid0.coords t 2).val * 512 + 1 * (j 1).val = _; omega
    | ⟨2, _⟩ =>
      show cc0_transform_5 (grid0.coords t) 2 * 128 + 1 * (64 * h.val + d.val) = 64 * (2 * (grid0.coords t 1).val + h.val) + d.val
      rw [win5_eq]; show (grid0.coords t 1).val * 128 + 1 * (64 * h.val + d.val) = _; omega
  refine Eq.trans ?_ (congrArg (result m c) hi.symm)
  show _ = Stick.out _ _ _ _ _ (bat t) (Stick.headOf (Stick.col (headIx (pair t) h) d)) (rowIx (blk t) (j 1)) (Stick.partOf (Stick.col (headIx (pair t) h) d))
  rw [(head_col _ _).1, (head_col _ _).2]

theorem point_ex : ∀ (b : Fin 8) (n : Fin 8) (p : Fin 4), ∃ t : Fin cfg0.N, bat t = b ∧ blk t = n ∧ pair t = p := by decide +kernel

/-- The kernel's result array is the common description. -/
theorem final (c : Dev nD) : (dats m 0 c).arrAt 5 cfg0.N = result m c :=
  (dats m 0 c).arrAt_eq_of_cover 5 (result m c) (flushed_eq m c) fun i => by
    have h0 : (i 0).val < 8 := (i 0).isLt
    have h1 : (i 1).val < 4096 := (i 1).isLt
    have h2 : (i 2).val < 512 := (i 2).isLt
    obtain ⟨t, tb, tn, tp⟩ := point_ex ⟨(i 0).val, h0⟩ ⟨(i 1).val / 512, by omega⟩ ⟨(i 2).val / 128, by omega⟩
    have tb' : (grid0.coords t 0).val = (i 0).val := congrArg Fin.val tb
    have tn' : (grid0.coords t 2).val = (i 1).val / 512 := congrArg Fin.val tn
    have tp' : (grid0.coords t 1).val = (i 2).val / 128 := congrArg Fin.val tp
    refine ⟨t, flush0_5 t, ?_⟩
    show i ∈ ((View.whole main_v12).slice (win0_5.rect t)).set
    rw [View.set_slice_whole, Rect.mem_set_unit]
    intro a
    match a with
    | ⟨0, _⟩ =>
      show cc0_transform_5 (grid0.coords t) 0 * 1 ≤ (i 0).val ∧ (i 0).val < cc0_transform_5 (grid0.coords t) 0 * 1 + 1
      rw [win5_eq]
      show (grid0.coords t 0).val * 1 ≤ (i 0).val ∧ (i 0).val < (grid0.coords t 0).val * 1 + 1
      omega
    | ⟨1, _⟩ =>
      show cc0_transform_5 (grid0.coords t) 1 * 512 ≤ (i 1).val ∧ (i 1).val < cc0_transform_5 (grid0.coords t) 1 * 512 + 512
      rw [win5_eq]
      show (grid0.coords t 2).val * 512 ≤ (i 1).val ∧ (i 1).val < (grid0.coords t 2).val * 512 + 512
      omega
    | ⟨2, _⟩ =>
      show cc0_transform_5 (grid0.coords t) 2 * 128 ≤ (i 2).val ∧ (i 2).val < cc0_transform_5 (grid0.coords t) 2 * 128 + 128
      rw [win5_eq]
      show (grid0.coords t 1).val * 128 ≤ (i 2).val ∧ (i 2).val < (grid0.coords t 1).val * 128 + 128
      omega

end Cert.KernelIdeal.Visit

end
-- ==== Proof.Window.lean ====
/- A reversed cumulative sum and the batched products of the plain program, read at an entry. -/
module

public import proofs.«01_k».proof.Proof.Gen.ReferenceIdeal.Run
public import proofs.«01_k».proof.Proof.Spec
public import Idealize.ShloMosaic.Lib.ValueLayout
public import Idealize.ShloMosaic.Lib.IdealHost
public import Idealize.ShloMosaic.Lib.Pointwise.Contract

@[expose] public section

noncomputable section

namespace Cert.ReferenceIdeal.Read

open Cert.ReferenceIdeal Cert.ReferenceIdeal.Gen
open Idealize.ShloMosaic hiding ix1 ix2 ix3 ix4
open Idealize.ShloMosaic.ValueIdx

/-- A number of a row, or zero past its end. -/
def rowOf (x : FVec Ideal S8x8x4096x4096 .f32) (b H : Fin 8) (t : Fin 4096) (r : ℕ) : EReal :=
  if h : r < 4096 then x (ix4 b H t ⟨r, h⟩) else 0

theorem rowOf_lt (x : FVec Ideal S8x8x4096x4096 .f32) (b H : Fin 8) (t s : Fin 4096) :
    rowOf x b H t s.val = x (ix4 b H t s) := by rw [rowOf, dif_pos s.isLt]

theorem foldl_sum {ι : Type} (g : ι → EReal) (l : List ι) (r : EReal) :
    l.foldl (fun r n => r + g n) r = r + (l.map g).sum := by
  induction l generalizing r with
  | nil => simp
  | cons a l ih => rw [List.foldl_cons, ih, List.map_cons, List.sum_cons, add_assoc]

/-- A position of the window. -/
def spot (p : Fin 4096) : (⟨4, ![1, 1, 1, 4096]⟩ : Shape).Idx := ix4 (0 : Fin 1) (0 : Fin 1) (0 : Fin 1) p

theorem sum_spot (g : (⟨4, ![1, 1, 1, 4096]⟩ : Shape).Idx → EReal) : ∑ w, g w = ∑ p : Fin 4096, g (spot p) := by
  let e : Fin 4096 ≃ (⟨4, ![1, 1, 1, 4096]⟩ : Shape).Idx :=
    { toFun := spot
      invFun := fun w => w 3
      left_inv := fun p => rfl
      right_inv := fun w => by
        funext a
        match a with
        | ⟨0, _⟩ => exact Fin.ext (by have : (w 0).val < 1 := (w 0).isLt; show 0 = (w 0).val; omega)
        | ⟨1, _⟩ => exact Fin.ext (by have : (w 1).val < 1 := (w 1).isLt; show 0 = (w 1).val; omega)
        | ⟨2, _⟩ => exact Fin.ext (by have : (w 2).val < 1 := (w 2).isLt; show 0 = (w 2).val; omega)
        | ⟨3, _⟩ => rfl }
  exact (Equiv.sum_comp e g).symm

theorem sum_from (f : ℕ → EReal) (hf : ∀ r, 4096 ≤ r → f r = 0) (s : ℕ) :
    ∑ p : Fin 4096, f (s + p.val) = ∑ r ∈ Finset.Ico s 4096, f r := by
  rw [Fin.sum_univ_eq_sum_range (fun p => f (s + p)) 4096, Finset.sum_Ico_eq_sum_range]
  refine (Finset.sum_subset (fun p hp => ?_) fun p _ hp => hf _ ?_).symm
  · rw [Finset.mem_range] at hp ⊢; omega
  · rw [Finset.mem_range] at hp; omega

theorem window_fold {s t u : Shape} (window strides lo hi : Fin s.rank → Nat) (x : FVec Ideal s .f32) (init : FVec Ideal u .f32)
    (h : s.ReduceWindows window strides lo hi t) (hu : 0 < u.numel) (j : t.Idx) :
    Host.reduceWindowAdd (F := Ideal) window strides lo hi x init h hu j
      = init (Shape.Idx.first hu) + ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩)
            else init (Shape.Idx.first hu) := by
  refine (foldl_sum _ _ _).trans (congrArg (fun r : EReal => init (Shape.Idx.first hu) + r) ?_)
  let g : (⟨s.rank, window⟩ : Shape).Idx → EReal := fun w =>
    if hin : ∀ a, lo a ≤ (j (a.cast h.1.symm)).val * strides a + (w a).val
        ∧ (j (a.cast h.1.symm)).val * strides a + (w a).val - lo a < s.size a
      then x (fun a => ⟨(j (a.cast h.1.symm)).val * strides a + (w a).val - lo a, (hin a).2⟩)
      else init (Shape.Idx.first hu)
  refine (Fin.sum_univ_def _).symm.trans (Eq.trans ?_ (Equiv.sum_comp (Shape.rowMajor (⟨s.rank, window⟩ : Shape)).symm g))
  refine Finset.sum_congr rfl fun n _ => ?_
  dsimp only [g]
  congr

/-- The cumulative sum from the end, at an entry: the sum of its row from there on. -/
theorem window_apply (x : FVec Ideal S8x8x4096x4096 .f32) (init : FVec Ideal S_ .f32) (h0 : ∀ i, init i = (0 : EReal))
    (h : S8x8x4096x4096.ReduceWindows ![1, 1, 1, 4096] ![1, 1, 1, 1] ![0, 0, 0, 0] ![0, 0, 0, 4095] S8x8x4096x4096)
    (hu : 0 < S_.numel) (b H : Fin 8) (t s : Fin 4096) :
    Host.reduceWindowAdd (F := Ideal) ![1, 1, 1, 4096] ![1, 1, 1, 1] ![0, 0, 0, 0] ![0, 0, 0, 4095] x init h hu (ix4 b H t s)
      = ∑ r ∈ Finset.Ico s.val 4096, rowOf x b H t r := by
  refine (window_fold _ _ _ _ x init h hu (ix4 b H t s)).trans ?_
  rw [h0, zero_add, ← sum_from (rowOf x b H t) (fun r hr => dif_neg (by omega))]
  refine (sum_spot _).trans ?_
  refine Finset.sum_congr rfl fun p _ => ?_
  unfold rowOf
  by_cases hp : s.val + p.val < 4096
  · rw [dif_pos hp, dif_pos (fun a => by
      match a with
      | ⟨0, _⟩ => exact ⟨Nat.zero_le _, by show b.val * 1 + 0 - 0 < 8; have := b.isLt; omega⟩
      | ⟨1, _⟩ => exact ⟨Nat.zero_le _, by show H.val * 1 + 0 - 0 < 8; have := H.isLt; omega⟩
      | ⟨2, _⟩ => exact ⟨Nat.zero_le _, by show t.val * 1 + 0 - 0 < 4096; have := t.isLt; omega⟩
      | ⟨3, _⟩ => exact ⟨Nat.zero_le _, by show s.val * 1 + p.val - 0 < 4096; omega⟩)]
    refine congrArg x (funext fun a => ?_)
    match a with
    | ⟨0, _⟩ => exact Fin.ext (by show b.val * 1 + 0 - 0 = b.val; omega)
    | ⟨1, _⟩ => exact Fin.ext (by show H.val * 1 + 0 - 0 = H.val; omega)
    | ⟨2, _⟩ => exact Fin.ext (by show t.val * 1 + 0 - 0 = t.val; omega)
    | ⟨3, _⟩ => exact Fin.ext (by show s.val * 1 + p.val - 0 = s.val + p.val; omega)
  · rw [dif_neg hp, dif_neg (fun c => hp (by
      have := (c 3).2
      change s.val * 1 + p.val - 0 < 4096 at this
      omega))]

/-- The logits' product. -/
theorem dot_qk (q k : FVec Ideal S8x8x4096x64 .f32) (b H : Fin 8) (t s : Fin 4096) :
    Host.dotGeneral dot_S8x8x4096x64_S8x8x4096x64_S8x8x4096x4096_3_3_2_2_01_01 none q k (ix4 b H t s)
      = ∑ d : Fin 64, q (ix4 b H t d) * k (ix4 b H s d) := by
  refine (Ideal.dotGeneral_apply _ _ _ _ _ _).trans ?_
  rw [DotDims.sum_contr₁ (dot_S8x8x4096x64_S8x8x4096x64_S8x8x4096x4096_3_3_2_2_01_01) (a := 3) rfl (K := 64) rfl]
  refine Finset.sum_congr rfl fun d _ => congrArg₂ (fun a b : EReal => a * b) (congrArg q ?_) (congrArg k ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

/-- The weights' product with the values. -/
theorem dot_av (p : FVec Ideal S8x8x4096x4096 .f32) (v : FVec Ideal S8x8x4096x64 .f32) (b H : Fin 8) (t : Fin 4096) (d : Fin 64) :
    Host.dotGeneral dot_S8x8x4096x4096_S8x8x4096x64_S8x8x4096x64_3_2_2_3_01_01 none p v (ix4 b H t d)
      = ∑ s : Fin 4096, p (ix4 b H t s) * v (ix4 b H s d) := by
  refine (Ideal.dotGeneral_apply _ _ _ _ _ _).trans ?_
  rw [DotDims.sum_contr₁ (dot_S8x8x4096x4096_S8x8x4096x64_S8x8x4096x64_3_2_2_3_01_01) (a := 3) rfl (K := 4096) rfl]
  refine Finset.sum_congr rfl fun s _ => congrArg₂ (fun a b : EReal => a * b) (congrArg p ?_) (congrArg v ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

/-- The split of the columns into heads, at an entry. -/
theorem heads_apply (x : FVec Ideal S8x4096x512 .f32) (h : S8x4096x512.ShapeCasts S8x4096x8x64)
    (h' : S8x4096x8x64.Transposes [0, 2, 1, 3] S8x8x4096x64) (b H : Fin 8) (t : Fin 4096) (d : Fin 64) :
    transpose S8x8x4096x64 [0, 2, 1, 3] (shapeCast S8x4096x8x64 x h) h' (ix4 b H t d) = x (ix3 b t (Stick.col H d)) := by
  refine (transpose_apply _ _ _ _ (ix4 b t H d) fun a => by
    match a with
    | ⟨0, _⟩ => rfl
    | ⟨1, _⟩ => rfl
    | ⟨2, _⟩ => rfl
    | ⟨3, _⟩ => rfl).trans (shapeCast_apply _ _ _ _ ?_)
  rw [Shape.rowMajor_val_three, Shape.rowMajor_val_four]
  show (b.val * 4096 + t.val) * 512 + (64 * H.val + d.val) = ((b.val * 4096 + t.val) * 8 + H.val) * 64 + d.val
  omega

theorem unheads_apply (x : FVec Ideal S8x8x4096x64 .f32) (h' : S8x8x4096x64.Transposes [0, 2, 1, 3] S8x4096x8x64)
    (b H : Fin 8) (t : Fin 4096) (d : Fin 64) :
    transpose S8x4096x8x64 [0, 2, 1, 3] x h' (ix4 b t H d) = x (ix4 b H t d) :=
  transpose_apply _ _ _ _ (ix4 b H t d) fun a => by
    match a with
    | ⟨0, _⟩ => rfl
    | ⟨1, _⟩ => rfl
    | ⟨2, _⟩ => rfl
    | ⟨3, _⟩ => rfl

theorem flat_apply (x : FVec Ideal S8x4096x8x64 .f32) (h : S8x4096x8x64.ShapeCasts S8x4096x512)
    (b H : Fin 8) (t : Fin 4096) (d : Fin 64) :
    shapeCast S8x4096x512 x h (ix3 b t (Stick.col H d)) = x (ix4 b t H d) := by
  refine shapeCast_apply _ _ _ _ ?_
  rw [Shape.rowMajor_val_three, Shape.rowMajor_val_four]
  show ((b.val * 4096 + t.val) * 8 + H.val) * 64 + d.val = (b.val * 4096 + t.val) * 512 + (64 * H.val + d.val)
  omega

end Cert.ReferenceIdeal.Read

end
-- ==== Proof.Ref.lean ====
/- The plain program's result, entry by entry, is the common description. -/
module

public import proofs.«01_k».proof.Proof.Window
public import Idealize.ShloMosaic.Lib.WordCmp

@[expose] public section

noncomputable section

namespace Cert.ReferenceIdeal.Read

open Cert.ReferenceIdeal Cert.ReferenceIdeal.Gen
open Idealize.ShloMosaic hiding ix1 ix2 ix3 ix4
open Idealize.ShloMosaic.ValueIdx Idealize.ShloMosaic.TcCoe Idealize.SL.Sem

/-! ### The stages of the plain program -/

/-- The zero array. -/
abbrev zeros : FVec Ideal S8x8x4096x4096 .f32 :=
  broadcastInDim S8x8x4096x4096 ![] bcast_S_S8x8x4096x4096 (constant S_ .f32 0x00000000#32)

/-- The columns split into heads. -/
abbrev heads (x : FVec Ideal S8x4096x512 .f32) : FVec Ideal S8x8x4096x64 .f32 :=
  transpose S8x8x4096x64 [0, 2, 1, 3] (shapeCast _ x shapeCasts_S8x4096x512_S8x4096x8x64) transposes_S8x4096x8x64_S8x8x4096x64_0_2_1_3

/-- The logits. -/
abbrev logits (q k : FVec Ideal S8x4096x512 .f32) : FVec Ideal S8x8x4096x4096 .f32 :=
  mulf (Host.dotGeneral dot_S8x8x4096x64_S8x8x4096x64_S8x8x4096x4096_3_3_2_2_01_01 none (heads q) (heads k))
    (broadcastInDim S8x8x4096x4096 ![] bcast_S_S8x8x4096x4096 (constant S_ .f32 0x3E000000#32))

/-- Which keys stand in front of a row. -/
abbrev mask : IVec S8x8x4096x4096 1 :=
  broadcastInDim S8x8x4096x4096 ![2, 3] bcast_S4096x4096_S8x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The softplus. -/
def soft (x : FVec Ideal S8x8x4096x4096 .f32) : FVec Ideal S8x8x4096x4096 .f32 :=
  select (cmpf .une (subf x zeros) (subf x zeros)) (addf x zeros)
    (addf (maximumf x zeros) (Host.log1p (Host.exp (Host.negf (Host.absf (subf x zeros))))))

/-- The logs of the complements, of the keys in front. -/
def minus (z : FVec Ideal S8x8x4096x4096 .f32) : FVec Ideal S8x8x4096x4096 .f32 :=
  select mask (Host.negf (soft z)) (broadcastInDim S8x8x4096x4096 ![] bcast_S_S8x8x4096x4096 (id (constant S_ .f32 0x00000000#32)))

/-- Their cumulative sums from the end. -/
def cums (l : FVec Ideal S8x8x4096x4096 .f32) : FVec Ideal S8x8x4096x4096 .f32 :=
  Host.reduceWindowAdd ![1, 1, 1, 4096] ![1, 1, 1, 1] ![0, 0, 0, 0] ![0, 0, 0, 4095] l
    (broadcastInDim S_ ![] bcast_S_S_ (constant S_ .f32 0x00000000#32))
    reduceWindows_S8x8x4096x4096_S8x8x4096x4096_w1s1p0_0_w1s1p0_0_w1s1p0_0_w4096s1p0_4095 h_S_

/-- The weights. -/
def weights (z : FVec Ideal S8x8x4096x4096 .f32) : FVec Ideal S8x8x4096x4096 .f32 :=
  select mask (Host.exp (addf (Host.negf (soft (Host.negf z))) (subf (cums (minus z)) (minus z))))
    (broadcastInDim S8x8x4096x4096 ![] bcast_S_S8x8x4096x4096 (id (constant S_ .f32 0x00000000#32)))

/-- The attention, the heads behind the rows. -/
def attention (q k v : FVec Ideal S8x4096x512 .f32) : FVec Ideal S8x4096x8x64 .f32 :=
  transpose S8x4096x8x64 [0, 2, 1, 3]
    (Host.dotGeneral dot_S8x8x4096x4096_S8x8x4096x64_S8x8x4096x64_3_2_2_3_01_01 none (weights (logits q k)) (heads v))
    transposes_S8x8x4096x64_S8x4096x8x64_0_2_1_3

/-- The norm of each head's row. -/
def norms (o : FVec Ideal S8x4096x8x64 .f32) : FVec Ideal S8x4096x8x64 .f32 :=
  mulf o (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf o o) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))

/-- The gate. -/
def gates (g : FVec Ideal S8x4096x512 .f32) : FVec Ideal S8x4096x512 .f32 :=
  mulf g (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf g))))

/-- The whole. -/
def whole (q k v g : FVec Ideal S8x4096x512 .f32) (w : FVec Ideal S512 .f32) : FVec Ideal S8x4096x512 .bf16 :=
  truncf .bf16 (mulf (mulf (shapeCast _ (norms (attention q k v)) shapeCasts_S8x4096x8x64_S8x4096x512)
    (broadcastInDim S8x4096x512 ![0, 1, 2] bcast_S1x1x512_S8x4096x512_0_1_2 (broadcastInDim S1x1x512 ![2] bcast_S512_S1x1x512_2 w))) (gates g)) bitsLt_bf16_f32

theorem staged (m : (ℓ : Loc nD τ sig) → Buf (Elt Ideal) ℓ) (c : Dev nD) :
    Cert.ReferenceIdeal.Value.res_main_v43 (F := Ideal) m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-! ### Their entries -/

theorem zeros_apply (i : S8x8x4096x4096.Idx) : zeros i = (0 : EReal) :=
  (broadcastInDim_scalar_apply _ _ _).trans Ideal.ofBits_zero_f32

theorem zeros_apply' (i : S8x8x4096x4096.Idx) :
    broadcastInDim S8x8x4096x4096 ![] bcast_S_S8x8x4096x4096 (id (constant (F := Ideal) S_ .f32 0x00000000#32)) i = (0 : EReal) :=
  (broadcastInDim_scalar_apply _ _ _).trans Ideal.ofBits_zero_f32

theorem ofBits_eighth : Ideal.ofBits .f32 0x3E000000#32 = ((1 / 8 : ℝ) : EReal) := by
  simp [Ideal.ofBits, Ideal.ieee, -EReal.coe_mul]; norm_num

theorem logits_apply (q k : FVec Ideal S8x4096x512 .f32) (b H : Fin 8) (t s : Fin 4096) :
    logits q k (ix4 b H t s) = Stick.logit q k b H t s.val := by
  rw [Stick.logit, dif_pos s.isLt]
  refine congrArg₂ (fun a b : EReal => a * b) ?_ ((broadcastInDim_scalar_apply _ _ _).trans ofBits_eighth)
  refine (dot_qk _ _ b H t s).trans (Finset.sum_congr rfl fun d _ => ?_)
  exact congrArg₂ (fun a b : EReal => a * b) (heads_apply q _ _ b H t d) (heads_apply k _ _ b H s d)

theorem mask_apply (b H : Fin 8) (t s : Fin 4096) :
    mask (ix4 b H t s) = IntOp.cmpi .slt (BitVec.ofNat 32 s.val) (BitVec.ofNat 32 t.val) := by
  refine (broadcastInDim_apply _ _ _ _ (ix2 t s) fun a => by
    match a with
    | ⟨0, _⟩ => rfl
    | ⟨1, _⟩ => rfl).trans ?_
  refine congrArg₂ (IntOp.cmpi .slt) ?_ ?_
  · refine (broadcastInDim_apply _ _ _ _ (ix2 (0 : Fin 1) s) fun a => by
      match a with
      | ⟨0, _⟩ => rfl
      | ⟨1, _⟩ => rfl).trans ?_
    exact broadcastInDim_apply _ _ _ _ (ix1 s) fun a => by
      match a with
      | ⟨0, _⟩ => rfl
  · refine (broadcastInDim_apply _ _ _ _ (ix2 t (0 : Fin 1)) fun a => by
      match a with
      | ⟨0, _⟩ => rfl
      | ⟨1, _⟩ => rfl).trans ?_
    exact broadcastInDim_apply _ _ _ _ (ix1 t) fun a => by
      match a with
      | ⟨0, _⟩ => rfl

theorem masked (x y : FVec Ideal S8x8x4096x4096 .f32) (b H : Fin 8) (t s : Fin 4096) :
    select mask x y (ix4 b H t s) = if s.val < t.val then x (ix4 b H t s) else y (ix4 b H t s) := by
  show (if mask (ix4 b H t s) = 1#1 then _ else _) = _
  rw [mask_apply]
  have hs := s.isLt
  have ht := t.isLt
  refine if_congr ?_ rfl rfl
  exact WordCmp.cmpi_slt_ofNat_eq_one_iff (w := 32) (by omega) (by omega)

theorem soft_apply (x : FVec Ideal S8x8x4096x4096 .f32) (i : S8x8x4096x4096.Idx) : soft x i = Stick.softp (x i) := by
  have hz := zeros_apply i
  show (if BitVec.ofBool (decide ((x i : EReal) - zeros i ≠ (x i : EReal) - zeros i)) = 1#1 then _ else _) = _
  rw [if_neg (by simp)]
  show max (x i : EReal) (zeros i) + Ideal.log1p (Ideal.exp (-(max ((x i : EReal) - zeros i) (-((x i : EReal) - zeros i))))) = _
  rw [hz, sub_zero]
  rfl

theorem minus_apply (z : FVec Ideal S8x8x4096x4096 .f32) (b H : Fin 8) (t s : Fin 4096) :
    minus z (ix4 b H t s) = if s.val < t.val then -(Stick.softp (z (ix4 b H t s))) else (0 : EReal) := by
  refine (masked _ _ b H t s).trans (if_congr Iff.rfl ?_ (zeros_apply' _))
  exact congrArg (fun a : EReal => -a) (soft_apply z _)

theorem cums_apply (q k : FVec Ideal S8x4096x512 .f32) (b H : Fin 8) (t s : Fin 4096) :
    cums (minus (logits q k)) (ix4 b H t s)
      = ∑ r ∈ Finset.Ico s.val 4096, if r < t.val then -(Stick.softp (Stick.logit q k b H t r)) else (0 : EReal) := by
  refine (window_apply _ _ (fun i => (broadcastInDim_scalar_apply _ _ _).trans Ideal.ofBits_zero_f32) _ _ b H t s).trans ?_
  refine Finset.sum_congr rfl fun r hr => ?_
  have h : r < 4096 := (Finset.mem_Ico.mp hr).2
  rw [rowOf, dif_pos h]
  refine (minus_apply _ b H t ⟨r, h⟩).trans ?_
  rw [logits_apply]

theorem weights_apply (q k : FVec Ideal S8x4096x512 .f32) (b H : Fin 8) (t s : Fin 4096) :
    weights (logits q k) (ix4 b H t s)
      = if s.val < t.val then Ideal.exp (Stick.logit q k b H t s + -(Stick.Cs t (Stick.logit q k b H t) s)) else (0 : EReal) := by
  refine (masked _ _ b H t s).trans ?_
  by_cases h : s.val < t.val
  · rw [if_pos h, if_pos h]
    refine congrArg Ideal.exp ?_
    refine Eq.trans ?_ (Stick.weight t.val (Stick.logit q k b H t) s.val s.isLt h)
    have hm := minus_apply (logits q k) b H t s
    rw [if_pos h, logits_apply] at hm
    refine congrArg₂ (fun a b : EReal => a + b) ?_ (congrArg₂ (fun a b : EReal => a - b) (cums_apply q k b H t s) hm)
    refine congrArg (fun a : EReal => -a) ((soft_apply _ _).trans (congrArg Stick.softp ?_))
    exact congrArg (fun a : EReal => -a) (logits_apply q k b H t s)
  · rw [if_neg h, if_neg h]
    exact zeros_apply' _

theorem attention_apply (q k v : FVec Ideal S8x4096x512 .f32) (b H : Fin 8) (t : Fin 4096) (d : Fin 64) :
    attention q k v (ix4 b t H d) = Stick.att t.val (Stick.logit q k b H t) (Stick.value v b H d) := by
  refine (unheads_apply _ _ b H t d).trans ((dot_av _ _ b H t d).trans ?_)
  rw [Stick.att, ← Finset.range_eq_Ico, ← Fin.sum_univ_eq_sum_range (fun s => (if s < t.val then Ideal.exp (Stick.logit q k b H t s + -(Stick.Cs t.val (Stick.logit q k b H t) s)) else 0) * Stick.value v b H d s) 4096]
  refine Finset.sum_congr rfl fun s _ => congrArg₂ (fun a b : EReal => a * b) (weights_apply q k b H t s) ?_
  rw [Stick.value, dif_pos s.isLt]
  exact heads_apply v _ _ b H s d

theorem ofBits_64 : Ideal.ofBits .f32 0x42800000#32 = ((64 : ℝ) : EReal) := by
  simp [Ideal.ofBits, Ideal.ieee, -EReal.coe_mul]; norm_num

theorem div_64 (x : EReal) : Ideal.div x ((64 : ℝ) : EReal) = x * ((1 / 64 : ℝ) : EReal) := by
  rw [Ideal.div, if_neg (by norm_num)]
  rw [← EReal.coe_inv]
  norm_num

theorem squares (x : FVec Ideal S8x4096x8x64 .f32) (init : FVec Ideal S_ .f32) (h0 : ∀ i, init i = (0 : EReal))
    (h : S8x4096x8x64.ReducesTo [3] S8x4096x8) (hu : 0 < S_.numel) (b H : Fin 8) (t : Fin 4096) :
    Host.reduceAdd x init h hu (ix3 b t H) = ∑ e : Fin 64, x (ix4 b t H e) := by
  have h' : S8x4096x8x64.Reduces [3] S8x4096x8 := by decide
  refine (hostReduceAdd_apply x init h hu _).trans ((Ideal.hostReduceAdd_single h h' x _ _).trans ?_)
  rw [h0, zero_add]
  refine Finset.sum_congr rfl fun e _ => congrArg x (funext fun a => ?_)
  match a with
  | ⟨0, _⟩ => rfl
  | ⟨1, _⟩ => rfl
  | ⟨2, _⟩ => rfl
  | ⟨3, _⟩ => rfl

theorem norms_apply (o : FVec Ideal S8x4096x8x64 .f32) (b H : Fin 8) (t : Fin 4096) (d : Fin 64) :
    norms o (ix4 b t H d) = Stick.normed (fun e => o (ix4 b t H e)) d := by
  refine congrArg (fun a : EReal => o (ix4 b t H d) * a) ?_
  refine (broadcastInDim_apply _ _ _ _ (ix4 b t H (0 : Fin 1)) fun a => by
    match a with
    | ⟨0, _⟩ => rfl
    | ⟨1, _⟩ => rfl
    | ⟨2, _⟩ => rfl
    | ⟨3, _⟩ => rfl).trans ?_
  refine congrArg Ideal.rsqrt (congrArg₂ (fun a b : EReal => a + b) ?_ (broadcastInDim_scalar_apply _ _ _))
  refine (congrArg₂ Ideal.div ?_ ((broadcastInDim_scalar_apply _ _ _).trans ofBits_64)).trans (div_64 _)
  refine (broadcastInDim_apply _ _ _ _ (ix3 b t H) fun a => by
    match a with
    | ⟨0, _⟩ => rfl
    | ⟨1, _⟩ => rfl
    | ⟨2, _⟩ => rfl).trans ?_
  exact squares (mulf o o) _ (fun _ => Ideal.ofBits_zero_f32) _ _ b H t

theorem gates_apply (g : FVec Ideal S8x4096x512 .f32) (i : S8x4096x512.Idx) : gates g i = Stick.silu (g i) := by
  have h1 : (broadcastInDim S8x4096x512 ![] bcast_S_S8x4096x512 (constant (F := Ideal) S_ .f32 0x3F800000#32)) i = (1 : EReal) :=
    (broadcastInDim_scalar_apply _ _ _).trans Ideal.ofBits_one_f32
  refine congrArg (fun a : EReal => g i * a) ?_
  exact congrArg₂ Ideal.div h1 (congrArg (fun a : EReal => a + Ideal.exp (-(g i : EReal))) h1)

theorem whole_apply (q k v g : FVec Ideal S8x4096x512 .f32) (w : FVec Ideal S512 .f32) (b H : Fin 8) (t : Fin 4096) (d : Fin 64) :
    whole q k v g w (ix3 b t (Stick.col H d)) = Stick.out q k v g w b H t d := by
  refine congrArg₂ (fun a b : EReal => a * b) (congrArg₂ (fun a b : EReal => a * b) ?_ ?_) (gates_apply g _)
  · refine (flat_apply _ _ b H t d).trans ((norms_apply _ b H t d).trans ?_)
    exact congrArg (fun f => Stick.normed f d) (funext fun e => attention_apply q k v b H t e)
  · refine (broadcastInDim_apply _ _ _ _ (ix3 (0 : Fin 1) (0 : Fin 1) (Stick.col H d)) fun a => by
      match a with
      | ⟨0, _⟩ => rfl
      | ⟨1, _⟩ => rfl
      | ⟨2, _⟩ => rfl).trans ?_
    exact broadcastInDim_apply _ _ _ _ (ix1 (Stick.col H d)) fun a => by
      match a with
      | ⟨0, _⟩ => rfl

/-- Every entry of the plain program's result. -/
theorem whole_eq (q k v g : FVec Ideal S8x4096x512 .f32) (w : FVec Ideal S512 .f32) :
    whole q k v g w = fun i : S8x4096x512.Idx => Stick.out q k v g w (i 0) (Stick.headOf (i 2)) (i 1) (Stick.partOf (i 2)) := by
  funext i
  have e : i = ix3 (i 0 : Fin 8) (i 1 : Fin 4096) (Stick.col (Stick.headOf (i 2)) (Stick.partOf (i 2))) :=
    (ValueIdx.eq_ix3 i).trans (congrArg (fun n : Fin 512 => (ix3 (i 0 : Fin 8) (i 1 : Fin 4096) n : S8x4096x512.Idx)) (Stick.col_head (i 2)).symm)
  exact (congrArg (whole q k v g w) e).trans (whole_apply q k v g w _ _ _ _)

end Cert.ReferenceIdeal.Read

end
-- ==== Proof.Tail.lean ====
/- The layer's end in mathematics: one row of the result from one row of each of the arguments, over the extended reals. -/
module

public import Idealize.ShloMosaic.Lib.IdealHost
public import Idealize.ShloMosaic.Lib.ValueLayout

@[expose] public section

noncomputable section

namespace Cert.Tail

open Idealize.ShloMosaic Idealize.ShloMosaic.ValueIdx

/-- The small constant of the norms, 10⁻⁶ as the program writes it. -/
def eps : EReal := Ideal.ofBits .f32 0x358637BD#32

/-- The width of a row, 1024. -/
def width : EReal := Ideal.ofBits .f32 0x44800000#32

/-- A row divided by its root mean square, each entry times its weight. -/
def rms (x g : Fin 1024 → EReal) (d : Fin 1024) : EReal :=
  x d * Ideal.rsqrt (Ideal.div (∑ e, x e * x e) width + eps) * g d

/-- A row times a matrix. -/
def times {K : Nat} (x : Fin K → EReal) (w : Fin K → Fin 1024 → EReal) (d : Fin 1024) : EReal := ∑ k, x k * w k d

/-- The logistic function. -/
def sigm (x : EReal) : EReal := Ideal.div 1 (1 + Ideal.exp (-x))

/-- The upper and the lower half of the output projection. -/
def upper (w : Fin 1024 → Fin 1024 → EReal) (k : Fin 512) : Fin 1024 → EReal := w ⟨k.val, by have := k.isLt; omega⟩
def lower (w : Fin 1024 → Fin 1024 → EReal) (k : Fin 512) : Fin 1024 → EReal := w ⟨512 + k.val, by have := k.isLt; omega⟩

/-- The residual row with the two halves of the mixer's output projected and added. -/
def mixed (h : Fin 1024 → EReal) (a b : Fin 512 → EReal) (wo : Fin 1024 → Fin 1024 → EReal) (d : Fin 1024) : EReal :=
  h d + times a (upper wo) d + times b (lower wo) d

/-- A residual row with the normed embedding `e` added, gated by the row itself. -/
def gated (u e gn post : Fin 1024 → EReal) (wg : Fin 1024 → Fin 1024 → EReal) (d : Fin 1024) : EReal :=
  u d + sigm (times (rms u gn) wg d) * rms e post d

/-- One row of the result. -/
def row (h : Fin 1024 → EReal) (a b : Fin 512 → EReal) (p : Fin 256 → EReal) (wo : Fin 1024 → Fin 1024 → EReal)
    (gn : Fin 1024 → EReal) (wg : Fin 1024 → Fin 1024 → EReal) (wp : Fin 256 → Fin 1024 → EReal)
    (post fin : Fin 1024 → EReal) : Fin 1024 → EReal :=
  rms (gated (mixed h a b wo) (times p wp) gn post wg) fin

/-- An array of three axes, and of the rest of the arguments' kinds, over the extended reals. -/
abbrev Arr3 (a b c : Nat) : Type := (⟨3, ![a, b, c]⟩ : Shape).Idx → EReal
abbrev Arr4 (a b c d : Nat) : Type := (⟨4, ![a, b, c, d]⟩ : Shape).Idx → EReal
abbrev Arr2 (a b : Nat) : Type := (⟨2, ![a, b]⟩ : Shape).Idx → EReal
abbrev Arr1 (a : Nat) : Type := (⟨1, ![a]⟩ : Shape).Idx → EReal

/-- The result at batch entry `b`, row `t` and column `d`: the last layer's weights, which are those of index 1. -/
def out (h : Arr3 8 4096 1024) (ya yb : Arr3 8 4096 512) (p : Arr4 2 8 4096 256) (wo : Arr3 2 1024 1024) (gn : Arr2 2 1024)
    (wg : Arr3 2 1024 1024) (wp : Arr3 2 256 1024) (post : Arr2 2 1024) (fin : Arr1 1024) (b : Fin 8) (t : Fin 4096) : Fin 1024 → EReal :=
  row (fun n => h (ix3 b t n)) (fun k => ya (ix3 b t k)) (fun k => yb (ix3 b t k)) (fun k => p (ix4 1 b t k)) (fun k n => wo (ix3 1 k n))
    (fun n => gn (ix2 1 n)) (fun k n => wg (ix3 1 k n)) (fun k n => wp (ix3 1 k n)) (fun n => post (ix2 1 n)) (fun n => fin (ix1 n))

end Cert.Tail

end
-- ==== Proof.TailTile.lean ====
/- The output kernel's tile functions: what each reads at one row and one column, and the block one visit writes. -/
module

public import proofs.«01_k».proof.Proof.Gen.Kernel2Ideal.Value
public import proofs.«01_k».proof.Proof.Tail
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pipeline.ValueKit.Tiles

@[expose] public section

noncomputable section

namespace Cert.Kernel2Ideal.Visit

open Cert.Kernel2Ideal Cert.Kernel2Ideal.Gen
open Idealize.ShloMosaic
open Idealize.ShloMosaic.TcCoe Idealize.SL.Sem Idealize.ShloMosaic.ValueIdx

/-- A tile of rows, each divided by its root mean square and weighted. -/
def normT (x : FVec Ideal S256x1024 .f32) (g : FVec Ideal S1x1024 .f32) : FVec Ideal S256x1024 .f32 :=
  mulf (mulf x (broadcastTo S256x1024 (rsqrt (addf (divf
      (shapeCast S256x1 (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
    broadcasts_S256x1_S256x1024)) (broadcastTo S256x1024 (shapeCast S1x1024 g shapeCasts_S1x1024_S1x1024) broadcasts_S1x1024_S256x1024)

/-- A tile through the logistic function. -/
def sigmT (x : FVec Ideal S256x1024 .f32) : FVec Ideal S256x1024 .f32 :=
  divf (broadcast S256x1024 (Scalar.ofBits .f32 0x3F800000#32)) (addf (broadcast S256x1024 (Scalar.ofBits .f32 0x3F800000#32))
    (exp (subf (broadcast S256x1024 (Scalar.ofBits .f32 0x00000000#32)) x)))

/-- The gate's product of a tile with the gate's matrix. -/
def gateT (w : FVec Ideal S1024x1024 .bf16) (u : FVec Ideal S256x1024 .f32) (g : FVec Ideal S1x1024 .f32) : FVec Ideal S256x1024 .f32 :=
  matmul dot_S256x1024_S1024x1024_S256x1024_1_0_0_1_n_n none (truncf .bf16 (normT u g) bitsLt_bf16_f32) w (constant S256x1024 .f32 0x00000000#32)

/-- The tile a visit writes from the residual tile, the embedding's tile and the gate's. -/
def lastT (u e z : FVec Ideal S256x1024 .f32) (post fin : FVec Ideal S1x1024 .f32) : FVec Ideal S256x1024 .f32 :=
  normT (addf u (mulf (sigmT z) (normT e post))) fin

theorem pay10_eq (w : FVec Ideal S1024x1024 .bf16) (u : FVec Ideal S256x1024 .f32) (g : FVec Ideal S1x1024 .f32) :
    k0_pay10 (F := Ideal) w u g = gateT w u g := rfl

theorem pay13_eq (w : FVec Ideal S1024x1024 .bf16) (a b : FVec Ideal S512x1024 .bf16) (x : FVec Ideal S1x256x1024 .f32)
    (y z : FVec Ideal S1x256x512 .bf16) (g : FVec Ideal S1x1024 .f32) :
    k0_pay13 (F := Ideal) w (k0_pay8 a b x y z) (k0_pay11 g) (k0_pay12 a b x y z) (Scalar.ofBits .f32 0x358637BD#32)
      = gateT w (k0_pay8 a b x y z) g := rfl

theorem pay14_eq (u e z : FVec Ideal S256x1024 .f32) (post fin : FVec Ideal S1x1024 .f32) :
    k0_pay14 (F := Ideal) u e z post fin = lastT u e z post fin := rfl

theorem pay16_eq (u e z : FVec Ideal S256x1024 .f32) (post fin : FVec Ideal S1x1024 .f32) :
    k0_pay16 (F := Ideal) u e z post fin = lastT u e z post fin := rfl

theorem zeros_apply (s : Shape) (i : s.Idx) : constant (F := Ideal) s .f32 0x00000000#32 i = 0 := Ideal.ofBits_zero_f32

theorem lift_of_row {m n : Nat} (h : (⟨2, ![m, n]⟩ : Shape).Reduces [1] (⟨1, ![m]⟩ : Shape)) (x : Fin m)
    (k : Fin ((⟨2, ![m, n]⟩ : Shape).size 1)) : h.lift (ix1 x) k = ix2 x (⟨k.val, k.isLt⟩ : Fin n) := by
  funext c; apply Fin.ext
  fin_cases c <;> rfl

theorem normT_apply (x : FVec Ideal S256x1024 .f32) (g : FVec Ideal S1x1024 .f32) (i : Fin 256) (d : Fin 1024) :
    normT x g (ix2 i d) = Tail.rms (fun e => x (ix2 i e)) (fun e => g (ix2 0 e)) d := by
  unfold normT Tail.rms
  refine congrArg₂ (fun a b : EReal => a * b) (congrArg (fun b : EReal => x (ix2 i d) * b) ?_) ?_
  · refine (broadcastTo_apply _ _ _ (ix2 i 0) fun a => ?_).trans ?_
    · match a with
      | ⟨0, _⟩ => rfl
      | ⟨1, _⟩ => rfl
    · refine congrArg (fun s : EReal => Ideal.rsqrt (Ideal.div s Tail.width + Tail.eps)) ?_
      refine (shapeCast_a_a1_apply _ _ _ _).trans ((Ideal.multiReduction_add_single _ _ _ _ _ _).trans ?_)
      exact Finset.sum_congr rfl fun k _ => congrArg (mulf x x) (lift_of_row _ i k)
  · refine (broadcastTo_apply _ _ _ (ix2 0 d) fun a => ?_).trans ?_
    · match a with
      | ⟨0, _⟩ => rfl
      | ⟨1, _⟩ => rfl
    · rw [shapeCast_self]

theorem sigmT_apply (x : FVec Ideal S256x1024 .f32) (i : S256x1024.Idx) : sigmT x i = Tail.sigm (x i) := by
  show Ideal.div (Ideal.ofBits .f32 0x3F800000#32) (Ideal.ofBits .f32 0x3F800000#32 + Ideal.exp (Ideal.ofBits .f32 0x00000000#32 - x i)) = _
  rw [Ideal.ofBits_one_f32, Ideal.ofBits_zero_f32, zero_sub]
  rfl

theorem gateT_apply (w : FVec Ideal S1024x1024 .bf16) (u : FVec Ideal S256x1024 .f32) (g : FVec Ideal S1x1024 .f32) (i : Fin 256) (d : Fin 1024) :
    gateT w u g (ix2 i d) = Tail.times (Tail.rms (fun e => u (ix2 i e)) fun e => g (ix2 0 e)) (fun k e => w (ix2 k e)) d := by
  refine (Ideal.matmul_plain_apply (M := 256) (K := 1024) (N := 1024) none _ _ _ i d).trans ?_
  rw [zeros_apply, zero_add]
  exact Finset.sum_congr rfl fun k _ => congrArg (fun a : EReal => a * w (ix2 k d)) (normT_apply u g i k)

theorem lastT_apply (u e z : FVec Ideal S256x1024 .f32) (post fin : FVec Ideal S1x1024 .f32) (i : Fin 256) (d : Fin 1024) :
    lastT u e z post fin (ix2 i d) = Tail.rms (fun n => u (ix2 i n) + Tail.sigm (z (ix2 i n)) * Tail.rms (fun k => e (ix2 i k)) (fun k => post (ix2 0 k)) n)
      (fun k => fin (ix2 0 k)) d := by
  refine (normT_apply _ fin i d).trans ?_
  refine congrArg (fun f => Tail.rms f (fun k => fin (ix2 0 k)) d) (funext fun n => ?_)
  refine congrArg (fun y : EReal => u (ix2 i n) + y) ?_
  exact congrArg₂ (fun a b : EReal => a * b) (sigmT_apply z _) (normT_apply e post i n)

theorem pay8_apply (a b : FVec Ideal S512x1024 .bf16) (x : FVec Ideal S1x256x1024 .f32) (y z : FVec Ideal S1x256x512 .bf16) (i : Fin 256) (d : Fin 1024) :
    k0_pay8 (F := Ideal) a b x y z (ix2 i d) = x (ix3 0 i d) + Tail.times (fun k => y (ix3 0 i k)) (fun k e => a (ix2 k e)) d
      + Tail.times (fun k => z (ix3 0 i k)) (fun k e => b (ix2 k e)) d := by
  unfold k0_pay8
  refine congrArg₂ (fun p q : EReal => p + q) (congrArg₂ (fun p q : EReal => p + q) (shapeCast_1ab_ab_apply x _ i d) ?_) ?_
  · refine (Ideal.matmul_plain_apply (M := 256) (K := 512) (N := 1024) none _ _ _ i d).trans ?_
    rw [zeros_apply, zero_add]
    exact Finset.sum_congr rfl fun k _ => congrArg (fun t : EReal => t * a (ix2 k d)) (shapeCast_1ab_ab_apply y _ i k)
  · refine (Ideal.matmul_plain_apply (M := 256) (K := 512) (N := 1024) none _ _ _ i d).trans ?_
    rw [zeros_apply, zero_add]
    exact Finset.sum_congr rfl fun k _ => congrArg (fun t : EReal => t * b (ix2 k d)) (shapeCast_1ab_ab_apply z _ i k)

theorem pay6_eq (v w : FVec Ideal S1x512x1024 .f32) (x : FVec Ideal S1x256x1024 .f32) (y z : FVec Ideal S1x256x512 .bf16) :
    k0_pay6 (F := Ideal) v w x y z = k0_pay8 (k0_pay2 v) (k0_pay3 w) x y z := rfl

theorem pay7_eq (v : FVec Ideal S1x256x1024 .f32) (x : FVec Ideal S1x1x256x256 .f32) :
    k0_pay7 (F := Ideal) v x = k0_pay9 (k0_pay4 v) x := rfl

theorem pay2_apply (v : FVec Ideal S1x512x1024 .f32) (k : Fin 512) (d : Fin 1024) : (k0_pay2 (F := Ideal) v (ix2 k d) : EReal) = v (ix3 0 k d) :=
  shapeCast_1ab_ab_apply v _ k d
theorem pay3_apply (v : FVec Ideal S1x512x1024 .f32) (k : Fin 512) (d : Fin 1024) : (k0_pay3 (F := Ideal) v (ix2 k d) : EReal) = v (ix3 0 k d) :=
  shapeCast_1ab_ab_apply v _ k d
theorem pay4_apply (v : FVec Ideal S1x256x1024 .f32) (k : Fin 256) (d : Fin 1024) : (k0_pay4 (F := Ideal) v (ix2 k d) : EReal) = v (ix3 0 k d) :=
  shapeCast_1ab_ab_apply v _ k d
theorem pay5_apply (v : FVec Ideal S1x1024x1024 .f32) (k d : Fin 1024) : (k0_pay5 (F := Ideal) v (ix2 k d) : EReal) = v (ix3 0 k d) :=
  shapeCast_1ab_ab_apply v _ k d

theorem flat4_apply (x : FVec Ideal S1x1x256x256 .f32) (h : S1x1x256x256.ShapeCasts S256x256) (i k : Fin 256) :
    shapeCast S256x256 x h (ix2 i k) = x (ix4 0 0 i k) := by
  refine shapeCast_apply _ h _ _ ?_
  rw [Shape.rowMajor_val_four, Shape.rowMajor_val_two]
  show ((0 * 1 + 0) * 256 + i.val) * 256 + k.val = i.val * 256 + k.val
  omega

theorem pay9_apply (w : FVec Ideal S256x1024 .bf16) (x : FVec Ideal S1x1x256x256 .f32) (i : Fin 256) (d : Fin 1024) :
    k0_pay9 (F := Ideal) w x (ix2 i d) = Tail.times (fun k => x (ix4 0 0 i k)) (fun k e => w (ix2 k e)) d := by
  unfold k0_pay9
  refine (Ideal.matmul_plain_apply (M := 256) (K := 256) (N := 1024) none _ _ _ i d).trans ?_
  rw [zeros_apply, zero_add]
  exact Finset.sum_congr rfl fun k _ => congrArg (fun t : EReal => t * w (ix2 k d)) (flat4_apply x _ i k)

/-- A visit's tile, row by row, from the tiles it is computed from. -/
theorem tile_row (wa wb : FVec Ideal S1x512x1024 .f32) (wg : FVec Ideal S1x1024x1024 .f32) (wp : FVec Ideal S1x256x1024 .f32)
    (gn post fin : FVec Ideal S1x1024 .f32) (x : FVec Ideal S1x256x1024 .f32) (y z : FVec Ideal S1x256x512 .bf16)
    (p : FVec Ideal S1x1x256x256 .f32) (wo : Fin 1024 → Fin 1024 → EReal)
    (ha : ∀ k d, (wa (ix3 0 k d) : EReal) = Tail.upper wo k d) (hb : ∀ k d, (wb (ix3 0 k d) : EReal) = Tail.lower wo k d)
    (i : Fin 256) (d : Fin 1024) :
    lastT (k0_pay8 (k0_pay2 wa) (k0_pay3 wb) x y z) (k0_pay9 (k0_pay4 wp) p)
        (gateT (k0_pay5 wg) (k0_pay8 (k0_pay2 wa) (k0_pay3 wb) x y z) gn) post fin (ix2 i d)
      = Tail.row (fun n => x (ix3 0 i n)) (fun k => y (ix3 0 i k)) (fun k => z (ix3 0 i k)) (fun k => p (ix4 0 0 i k)) wo
          (fun n => gn (ix2 0 n)) (fun k n => wg (ix3 0 k n)) (fun k n => wp (ix3 0 k n)) (fun n => post (ix2 0 n)) (fun n => fin (ix2 0 n)) d := by
  have hu : ∀ n, k0_pay8 (F := Ideal) (k0_pay2 wa) (k0_pay3 wb) x y z (ix2 i n)
      = Tail.mixed (fun n => x (ix3 0 i n)) (fun k => y (ix3 0 i k)) (fun k => z (ix3 0 i k)) wo n := fun n => by
    rw [pay8_apply]
    unfold Tail.mixed Tail.times
    refine congrArg₂ (fun p q : EReal => p + q) (congrArg (fun q : EReal => x (ix3 0 i n) + q) ?_) ?_
    · exact Finset.sum_congr rfl fun k _ => congrArg (fun t : EReal => y (ix3 0 i k) * t) ((pay2_apply wa k n).trans (ha k n))
    · exact Finset.sum_congr rfl fun k _ => congrArg (fun t : EReal => z (ix3 0 i k) * t) ((pay3_apply wb k n).trans (hb k n))
  refine (lastT_apply _ _ _ post fin i d).trans ?_
  unfold Tail.row
  refine congrArg (fun f => Tail.rms f (fun k => fin (ix2 0 k)) d) (funext fun n => ?_)
  unfold Tail.gated
  refine congrArg₂ (fun p q : EReal => p + q) (hu n) (congrArg₂ (fun p q : EReal => p * q) (congrArg Tail.sigm ?_) ?_)
  · refine (gateT_apply _ _ gn i n).trans ?_
    exact congrArg₂ (fun (f : Fin 1024 → EReal) (w : Fin 1024 → Fin 1024 → EReal) => Tail.times (Tail.rms f fun e => gn (ix2 0 e)) w n)
      (funext hu) (funext fun k => funext fun e => pay5_apply wg k e)
  · refine congrArg (fun f => Tail.rms f (fun k => post (ix2 0 k)) n) (funext fun k => ?_)
    refine (pay9_apply _ p i k).trans ?_
    exact congrArg (fun w : Fin 256 → Fin 1024 → EReal => Tail.times (fun k => p (ix4 0 0 i k)) w k) (funext fun a => funext fun e => pay4_apply wp a e)

end Cert.Kernel2Ideal.Visit

end
-- ==== Proof.TailResult.lean ====
/- The output kernel's result array: every visit writes its own rows of the common description, and the visits cover it. -/
module

public import proofs.«01_k».proof.Proof.TailTile
public import Idealize.ShloMosaic.Lib.StableHlo.Run

@[expose] public section

set_option maxRecDepth 65536

noncomputable section

namespace Cert.Kernel2Ideal.Visit

open Cert.Kernel2Ideal Cert.Kernel2Ideal.Gen
open Idealize.ShloMosaic
open Idealize.ShloMosaic.TcCoe Idealize.SL.Sem Idealize.ShloMosaic.ValueIdx

/-- One block of the result from the blocks a visit reads. -/
def blockRow (x0 : Vec Ideal S1x512x1024 .f32) (x1 x2 : Vec Ideal S1x512x512 .bf16) (x3 : Vec Ideal S1x1024x1024 .f32)
    (x4 : Vec Ideal S1x1x512x256 .f32) (x5 : Vec Ideal S1x256x1024 .f32) (x6 x7 : Vec Ideal S1x1024 .f32)
    (x8 : Vec Ideal S1x1024x1024 .f32) (x9 : Vec Ideal S1x1024 .f32) (i : Fin 512) : Fin 1024 → EReal :=
  Tail.row (fun n => x0 (ix3 0 i n)) (fun k => x1 (ix3 0 i k)) (fun k => x2 (ix3 0 i k)) (fun k => x4 (ix4 0 0 i k))
    (fun k n => x3 (ix3 0 k n)) (fun n => x7 (ix2 0 n)) (fun k n => x8 (ix3 0 k n)) (fun k n => x5 (ix3 0 k n))
    (fun n => x6 (ix2 0 n)) (fun n => x9 (ix2 0 n))

theorem pay1_apply (v : FVec Ideal S256x1024 .f32) (i : Fin 256) (d : Fin 1024) : k0_pay1 (F := Ideal) v (ix3 0 i d) = v (ix2 i d) :=
  shapeCast_ab_1ab_apply v _ 0 i d
theorem pay15_apply (v : FVec Ideal S256x1024 .f32) (i : Fin 256) (d : Fin 1024) : k0_pay15 (F := Ideal) v (ix3 0 i d) = v (ix2 i d) :=
  shapeCast_ab_1ab_apply v _ 0 i d

section Block

variable (x0 : Vec Ideal S1x512x1024 .f32) (x1 x2 : Vec Ideal S1x512x512 .bf16) (x3 : Vec Ideal S1x1024x1024 .f32)
  (x4 : Vec Ideal S1x1x512x256 .f32) (x5 : Vec Ideal S1x256x1024 .f32) (x6 x7 : Vec Ideal S1x1024 .f32)
  (x8 : Vec Ideal S1x1024x1024 .f32) (x9 : Vec Ideal S1x1024 .f32)

/-- The tile of the half of a block whose rows begin at `o`. -/
theorem half_row (o : Nat) (x : FVec Ideal S1x256x1024 .f32) (y z : FVec Ideal S1x256x512 .bf16) (p : FVec Ideal S1x1x256x256 .f32)
    (hx : ∀ (i : Fin 256) (j : Fin 512) n, j.val = o + i.val → x (ix3 0 i n) = x0 (ix3 0 j n))
    (hy : ∀ (i : Fin 256) (j : Fin 512) n, j.val = o + i.val → y (ix3 0 i n) = x1 (ix3 0 j n))
    (hz : ∀ (i : Fin 256) (j : Fin 512) n, j.val = o + i.val → z (ix3 0 i n) = x2 (ix3 0 j n))
    (hp : ∀ (i : Fin 256) (j : Fin 512) n, j.val = o + i.val → p (ix4 0 0 i n) = x4 (ix4 0 0 j n))
    (i : Fin 256) (j : Fin 512) (h : j.val = o + i.val) (d : Fin 1024) :
    lastT (k0_pay8 (k0_pay2 (View.ld x3 r0_0)) (k0_pay3 (View.ld x3 r0_1)) x y z) (k0_pay9 (k0_pay4 (View.ld x5 r0_2)) p)
        (gateT (k0_pay5 (View.ld x8 r0_3)) (k0_pay8 (k0_pay2 (View.ld x3 r0_0)) (k0_pay3 (View.ld x3 r0_1)) x y z) (View.ld x7 r0_10))
        (View.ld x6 r0_10) (View.ld x9 r0_10) (ix2 i d)
      = blockRow x0 x1 x2 x3 x4 x5 x6 x7 x8 x9 j d := by
  refine (tile_row (View.ld x3 r0_0) (View.ld x3 r0_1) (View.ld x8 r0_3) (View.ld x5 r0_2) (View.ld x7 r0_10) (View.ld x6 r0_10) (View.ld x9 r0_10)
    x y z p (fun k n => x3 (ix3 0 k n)) (fun k d => ?_) (fun k d => ?_) i d).trans ?_
  · refine View.ld_unit_apply_of _ _ _ _ _ _ fun a => ?_
    match a with
    | ⟨0, _⟩ => rfl
    | ⟨1, _⟩ => exact (Nat.zero_add _).symm
    | ⟨2, _⟩ => exact (Nat.zero_add _).symm
  · refine View.ld_unit_apply_of _ _ _ _ _ _ fun a => ?_
    match a with
    | ⟨0, _⟩ => rfl
    | ⟨1, _⟩ => rfl
    | ⟨2, _⟩ => exact (Nat.zero_add _).symm
  · have e8 : View.ld x8 r0_3 = x8 := View.ld_unit_lit _ _ (by decide)
    have e5 : View.ld x5 r0_2 = x5 := View.ld_unit_lit _ _ (by decide)
    have e7 : View.ld x7 r0_10 = x7 := View.ld_unit_lit _ _ (by decide)
    have e6 : View.ld x6 r0_10 = x6 := View.ld_unit_lit _ _ (by decide)
    have e9 : View.ld x9 r0_10 = x9 := View.ld_unit_lit _ _ (by decide)
    rw [e8, e5, e7, e6, e9]
    unfold blockRow
    rw [funext fun n => hx i j n h, funext fun n => hy i j n h, funext fun n => hz i j n h, funext fun n => hp i j n h]

theorem block_apply (i : Fin 512) (d : Fin 1024) :
    out0_10 x0 x1 x2 x3 x4 x5 x6 x7 x8 x9 (ix3 0 i d) = blockRow x0 x1 x2 x3 x4 x5 x6 x7 x8 x9 i d := by
  unfold out0_10
  refine (View.canon_apply_of_pieces (Val := Elt Ideal) (fun y : S1x512x1024.Idx => blockRow x0 x1 x2 x3 x4 x5 x6 x7 x8 x9 (y 1) (y 2)) _ ?_ _ ?_).trans rfl
  · intro q hq
    rcases List.mem_cons.1 hq with rfl | hq
    · intro (x : S1x256x1024.Idx)
      have hi : x = ix3 0 (x 1) (x 2) := by
        refine funext fun a => ?_
        match a with
        | ⟨0, _⟩ => exact Subsingleton.elim (α := Fin 1) _ _
        | ⟨1, _⟩ => rfl
        | ⟨2, _⟩ => rfl
      have h2 : (r0_7.emb x) 2 = x 2 := Fin.ext (by show 0 + 1 * (x 2).val = (x 2).val; omega)
      refine Eq.trans ?_ (congrArg (blockRow x0 x1 x2 x3 x4 x5 x6 x7 x8 x9 (r0_7.emb x 1)) h2.symm)
      refine Eq.trans ?_ (half_row x0 x1 x2 x3 x4 x5 x6 x7 x8 x9 256 (View.ld x0 r0_7) (View.ld x1 r0_8) (View.ld x2 r0_8) (View.ld x4 r0_9) ?_ ?_ ?_ ?_
        (x 1) (r0_7.emb x 1) (by show 256 + 1 * (x 1).val = 256 + (x 1).val; omega) (x 2))
      · refine (congrArg _ hi).trans ?_
        dsimp only
        refine (pay1_apply _ (x 1) (x 2)).trans ?_
        unfold k0_pay21 k0_pay19 k0_pay18 k0_pay17
        rw [pay16_eq]
        exact congrArg (fun z => lastT _ _ z _ _ (ix2 (x 1) (x 2))) (pay13_eq _ _ _ _ _ _ _)
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => rfl
        | ⟨2, _⟩ => exact h
        | ⟨3, _⟩ => exact (Nat.zero_add _).symm
    · obtain rfl := List.mem_singleton.1 hq
      intro (x : S1x256x1024.Idx)
      have hi : x = ix3 0 (x 1) (x 2) := by
        refine funext fun a => ?_
        match a with
        | ⟨0, _⟩ => exact Subsingleton.elim (α := Fin 1) _ _
        | ⟨1, _⟩ => rfl
        | ⟨2, _⟩ => rfl
      have h2 : (r0_4.emb x) 2 = x 2 := Fin.ext (by show 0 + 1 * (x 2).val = (x 2).val; omega)
      refine Eq.trans ?_ (congrArg (blockRow x0 x1 x2 x3 x4 x5 x6 x7 x8 x9 (r0_4.emb x 1)) h2.symm)
      refine Eq.trans ?_ (half_row x0 x1 x2 x3 x4 x5 x6 x7 x8 x9 0 (View.ld x0 r0_4) (View.ld x1 r0_5) (View.ld x2 r0_5) (View.ld x4 r0_6) ?_ ?_ ?_ ?_
        (x 1) (r0_4.emb x 1) (by show 0 + 1 * (x 1).val = 0 + (x 1).val; omega) (x 2))
      · refine (congrArg _ hi).trans ?_
        dsimp only
        refine (pay15_apply _ (x 1) (x 2)).trans ?_
        unfold k0_pay20 k0_pay19
        rw [pay14_eq, pay6_eq, pay7_eq, pay10_eq]
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => rfl
        | ⟨2, _⟩ => exact h
        | ⟨3, _⟩ => exact (Nat.zero_add _).symm
  · have hd := d.isLt
    have hi := i.isLt
    by_cases h : 256 ≤ i.val
    · refine ⟨_, List.mem_cons_self .., (Rect.mem_set_unit (inb := inb_S1x512x1024_S1x256x1024_0_256_0)).2 fun a => ?_⟩
      match a with
      | ⟨0, _⟩ => exact ⟨Nat.le_refl 0, Nat.zero_lt_one⟩
      | ⟨1, _⟩ => exact ⟨h, by show i.val < 256 + 256; omega⟩
      | ⟨2, _⟩ => exact ⟨Nat.zero_le _, by show d.val < 0 + 1024; omega⟩
    · refine ⟨_, List.mem_cons_of_mem _ (List.mem_cons_self ..), (Rect.mem_set_unit (inb := inb_S1x512x1024_S1x256x1024_0_0_0)).2 fun a => ?_⟩
      match a with
      | ⟨0, _⟩ => exact ⟨Nat.le_refl 0, Nat.zero_lt_one⟩
      | ⟨1, _⟩ => exact ⟨Nat.zero_le _, by show i.val < 0 + 256; omega⟩
      | ⟨2, _⟩ => exact ⟨Nat.zero_le _, by show d.val < 0 + 1024; omega⟩

end Block

variable (m : (ℓ : Loc nD τ sig) → Buf (Elt Ideal) ℓ)

/-! ### What the host code hands to the call -/

theorem slab_apply (x : FVec Ideal S2x1024 .f32) (h h' : _) (h'' : _) (n : Fin 1024) :
    shapeCast S1x1024 (shapeCast S1024 (extractStridedSlice S1x1024 ![1, 0] x h) h') h'' (ix2 0 n) = x (ix2 1 n) := by
  refine (shapeCast_a_1a_apply _ _ 0 n).trans ((shapeCast_1a_a_apply _ _ n).trans (congrArg x (funext fun a => Fin.ext ?_)))
  match a with
  | ⟨0, _⟩ => rfl
  | ⟨1, _⟩ => exact Nat.zero_add _

theorem V_post (c : Dev nD) (n : Fin 1024) : V m c main_v4 (ix2 0 n) = m ((c : Thread nD τ).loc main_arg8) (ix2 1 n) := by
  have e : V m c main_v4 = shapeCast S1x1024 (shapeCast S1024 (extractStridedSlice S1x1024 ![1, 0] (m ((c : Thread nD τ).loc main_arg8)) slices_S2x1024_S1x1024_1_0) shapeCasts_S1x1024_S1024) shapeCasts_S1024_S1x1024 := by
    unfold_abbrev_sides
    after_results
    try rfl
  rw [e]
  exact slab_apply _ _ _ _ n

theorem V_gain (c : Dev nD) (n : Fin 1024) : V m c main_v5 (ix2 0 n) = m ((c : Thread nD τ).loc main_arg5) (ix2 1 n) := by
  have e : V m c main_v5 = shapeCast S1x1024 (shapeCast S1024 (extractStridedSlice S1x1024 ![1, 0] (m ((c : Thread nD τ).loc main_arg5)) slices_S2x1024_S1x1024_1_0) shapeCasts_S1x1024_S1024) shapeCasts_S1024_S1x1024 := by
    unfold_abbrev_sides
    after_results
    try rfl
  rw [e]
  exact slab_apply _ _ _ _ n

theorem V_fin (c : Dev nD) (n : Fin 1024) : V m c main_v6 (ix2 0 n) = m ((c : Thread nD τ).loc main_arg9) (ix1 n) := by
  have e : V m c main_v6 = shapeCast S1x1024 (m ((c : Thread nD τ).loc main_arg9)) shapeCasts_S1024_S1x1024 := by
    unfold_abbrev_sides
    after_results
    try rfl
  rw [e]
  exact shapeCast_a_1a_apply _ _ 0 n

/-! ### The blocks of a visit -/

theorem win0_eq : ∀ (i : grid0.Coords) a, cc0_transform_0 i a = (![(i 0).val, (i 1).val, 0] : Fin 3 → ℕ) a := by decide +kernel
theorem win1_eq : ∀ (i : grid0.Coords) a, cc0_transform_1 i a = (![(i 0).val, (i 1).val, 0] : Fin 3 → ℕ) a := by decide +kernel
theorem win2_eq : ∀ (i : grid0.Coords) a, cc0_transform_2 i a = (![(i 0).val, (i 1).val, 0] : Fin 3 → ℕ) a := by decide +kernel
theorem win3_eq : ∀ (i : grid0.Coords) a, cc0_transform_3 i a = (![1, 0, 0] : Fin 3 → ℕ) a := by decide +kernel
theorem win4_eq : ∀ (i : grid0.Coords) a, cc0_transform_4 i a = (![1, (i 0).val, (i 1).val, 0] : Fin 4 → ℕ) a := by decide +kernel
theorem win5_eq : ∀ (i : grid0.Coords) a, cc0_transform_5 i a = (![1, 0, 0] : Fin 3 → ℕ) a := by decide +kernel
theorem win6_eq : ∀ (i : grid0.Coords) a, cc0_transform_6 i a = (![0, 0] : Fin 2 → ℕ) a := by decide +kernel
theorem win7_eq : ∀ (i : grid0.Coords) a, cc0_transform_7 i a = (![0, 0] : Fin 2 → ℕ) a := by decide +kernel
theorem win8_eq : ∀ (i : grid0.Coords) a, cc0_transform_8 i a = (![1, 0, 0] : Fin 3 → ℕ) a := by decide +kernel
theorem win9_eq : ∀ (i : grid0.Coords) a, cc0_transform_9 i a = (![0, 0] : Fin 2 → ℕ) a := by decide +kernel
theorem win10_eq : ∀ (i : grid0.Coords) a, cc0_transform_10 i a = (![(i 0).val, (i 1).val, 0] : Fin 3 → ℕ) a := by decide +kernel

/-- The batch entry and the row block of a visit, and the row of an array a row of a block is. -/
def bat (t : Fin cfg0.N) : Fin 8 := grid0.coords t 0
def blk (t : Fin cfg0.N) : Fin 8 := grid0.coords t 1
def rowIx (n : Fin 8) (i : Fin 512) : Fin 4096 := ⟨512 * n.val + i.val, by have := n.isLt; have := i.isLt; omega⟩

theorem iblk0 (c : Dev nD) (t : Fin cfg0.N) (i : Fin 512) (n : Fin 1024) :
    (iblk m c 0 t (ix3 0 i n) : EReal) = m ((c : Thread nD τ).loc main_arg0) (ix3 (bat t) (rowIx (blk t) i) n) := by
  unfold iblk
  rw [View.read_apply]
  show V m c main_arg0 _ = _
  rw [V_main_arg0]
  refine congrArg (m ((c : Thread nD τ).loc main_arg0)) (funext fun a => Fin.ext ?_)
  match a with
  | ⟨0, _⟩ =>
    show cc0_transform_0 (grid0.coords t) 0 * 1 + 1 * 0 = (grid0.coords t 0).val
    rw [win0_eq]; exact Nat.mul_one _
  | ⟨1, _⟩ =>
    show cc0_transform_0 (grid0.coords t) 1 * 512 + 1 * i.val = 512 * (grid0.coords t 1).val + i.val
    rw [win0_eq]; show (grid0.coords t 1).val * 512 + 1 * i.val = _; omega
  | ⟨2, _⟩ =>
    show cc0_transform_0 (grid0.coords t) 2 * 1024 + 1 * n.val = n.val
    rw [win0_eq]; show 0 * 1024 + 1 * n.val = _; omega

theorem iblk1 (c : Dev nD) (t : Fin cfg0.N) (i : Fin 512) (n : Fin 512) :
    (iblk m c 1 t (ix3 0 i n) : EReal) = m ((c : Thread nD τ).loc main_arg1) (ix3 (bat t) (rowIx (blk t) i) n) := by
  unfold iblk
  rw [View.read_apply]
  show V m c main_arg1 _ = _
  rw [V_main_arg1]
  refine congrArg (m ((c : Thread nD τ).loc main_arg1)) (funext fun a => Fin.ext ?_)
  match a with
  | ⟨0, _⟩ =>
    show cc0_transform_1 (grid0.coords t) 0 * 1 + 1 * 0 = (grid0.coords t 0).val
    rw [win1_eq]; exact Nat.mul_one _
  | ⟨1, _⟩ =>
    show cc0_transform_1 (grid0.coords t) 1 * 512 + 1 * i.val = 512 * (grid0.coords t 1).val + i.val
    rw [win1_eq]; show (grid0.coords t 1).val * 512 + 1 * i.val = _; omega
  | ⟨2, _⟩ =>
    show cc0_transform_1 (grid0.coords t) 2 * 512 + 1 * n.val = n.val
    rw [win1_eq]; show 0 * 512 + 1 * n.val = _; omega

theorem iblk2 (c : Dev nD) (t : Fin cfg0.N) (i : Fin 512) (n : Fin 512) :
    (iblk m c 2 t (ix3 0 i n) : EReal) = m ((c : Thread nD τ).loc main_arg2) (ix3 (bat t) (rowIx (blk t) i) n) := by
  unfold iblk
  rw [View.read_apply]
  show V m c main_arg2 _ = _
  rw [V_main_arg2]
  refine congrArg (m ((c : Thread nD τ).loc main_arg2)) (funext fun a => Fin.ext ?_)
  match a with
  | ⟨0, _⟩ =>
    show cc0_transform_2 (grid0.coords t) 0 * 1 + 1 * 0 = (grid0.coords t 0).val
    rw [win2_eq]; exact Nat.mul_one _
  | ⟨1, _⟩ =>
    show cc0_transform_2 (grid0.coords t) 1 * 512 + 1 * i.val = 512 * (grid0.coords t 1).val + i.val
    rw [win2_eq]; show (grid0.coords t 1).val * 512 + 1 * i.val = _; omega
  | ⟨2, _⟩ =>
    show cc0_transform_2 (grid0.coords t) 2 * 512 + 1 * n.val = n.val
    rw [win2_eq]; show 0 * 512 + 1 * n.val = _; omega

theorem iblk3 (c : Dev nD) (t : Fin cfg0.N) (k : Fin 1024) (n : Fin 1024) :
    (iblk m c 3 t (ix3 0 k n) : EReal) = m ((c : Thread nD τ).loc main_arg4) (ix3 1 k n) := by
  unfold iblk
  rw [View.read_apply]
  show V m c main_arg4 _ = _
  rw [V_main_arg4]
  refine congrArg (m ((c : Thread nD τ).loc main_arg4)) (funext fun a => Fin.ext ?_)
  match a with
  | ⟨0, _⟩ =>
    show cc0_transform_3 (grid0.coords t) 0 * 1 + 1 * 0 = 1
    rw [win3_eq]; rfl
  | ⟨1, _⟩ =>
    show cc0_transform_3 (grid0.coords t) 1 * 1024 + 1 * k.val = k.val
    rw [win3_eq]; show 0 * 1024 + 1 * k.val = _; omega
  | ⟨2, _⟩ =>
    show cc0_transform_3 (grid0.coords t) 2 * 1024 + 1 * n.val = n.val
    rw [win3_eq]; show 0 * 1024 + 1 * n.val = _; omega

theorem iblk5 (c : Dev nD) (t : Fin cfg0.N) (k : Fin 256) (n : Fin 1024) :
    (iblk m c 5 t (ix3 0 k n) : EReal) = m ((c : Thread nD τ).loc main_arg7) (ix3 1 k n) := by
  unfold iblk
  rw [View.read_apply]
  show V m c main_arg7 _ = _
  rw [V_main_arg7]
  refine congrArg (m ((c : Thread nD τ).loc main_arg7)) (funext fun a => Fin.ext ?_)
  match a with
  | ⟨0, _⟩ =>
    show cc0_transform_5 (grid0.coords t) 0 * 1 + 1 * 0 = 1
    rw [win5_eq]; rfl
  | ⟨1, _⟩ =>
    show cc0_transform_5 (grid0.coords t) 1 * 256 + 1 * k.val = k.val
    rw [win5_eq]; show 0 * 256 + 1 * k.val = _; omega
  | ⟨2, _⟩ =>
    show cc0_transform_5 (grid0.coords t) 2 * 1024 + 1 * n.val = n.val
    rw [win5_eq]; show 0 * 1024 + 1 * n.val = _; omega

theorem iblk8 (c : Dev nD) (t : Fin cfg0.N) (k : Fin 1024) (n : Fin 1024) :
    (iblk m c 8 t (ix3 0 k n) : EReal) = m ((c : Thread nD τ).loc main_arg6) (ix3 1 k n) := by
  unfold iblk
  rw [View.read_apply]
  show V m c main_arg6 _ = _
  rw [V_main_arg6]
  refine congrArg (m ((c : Thread nD τ).loc main_arg6)) (funext fun a => Fin.ext ?_)
  match a with
  | ⟨0, _⟩ =>
    show cc0_transform_8 (grid0.coords t) 0 * 1 + 1 * 0 = 1
    rw [win8_eq]; rfl
  | ⟨1, _⟩ =>
    show cc0_transform_8 (grid0.coords t) 1 * 1024 + 1 * k.val = k.val
    rw [win8_eq]; show 0 * 1024 + 1 * k.val = _; omega
  | ⟨2, _⟩ =>
    show cc0_transform_8 (grid0.coords t) 2 * 1024 + 1 * n.val = n.val
    rw [win8_eq]; show 0 * 1024 + 1 * n.val = _; omega

theorem iblk4 (c : Dev nD) (t : Fin cfg0.N) (i : Fin 512) (n : Fin 256) :
    (iblk m c 4 t (ix4 0 0 i n) : EReal) = m ((c : Thread nD τ).loc main_arg3) (ix4 1 (bat t) (rowIx (blk t) i) n) := by
  unfold iblk
  rw [View.read_apply]
  show V m c main_arg3 _ = _
  rw [V_main_arg3]
  refine congrArg (m ((c : Thread nD τ).loc main_arg3)) (funext fun a => Fin.ext ?_)
  match a with
  | ⟨0, _⟩ =>
    show cc0_transform_4 (grid0.coords t) 0 * 1 + 1 * 0 = 1
    rw [win4_eq]; rfl
  | ⟨1, _⟩ =>
    show cc0_transform_4 (grid0.coords t) 1 * 1 + 1 * 0 = (grid0.coords t 0).val
    rw [win4_eq]; exact Nat.mul_one _
  | ⟨2, _⟩ =>
    show cc0_transform_4 (grid0.coords t) 2 * 512 + 1 * i.val = 512 * (grid0.coords t 1).val + i.val
    rw [win4_eq]; show (grid0.coords t 1).val * 512 + 1 * i.val = _; omega
  | ⟨3, _⟩ =>
    show cc0_transform_4 (grid0.coords t) 3 * 256 + 1 * n.val = n.val
    rw [win4_eq]; show 0 * 256 + 1 * n.val = _; omega

theorem iblk6 (c : Dev nD) (t : Fin cfg0.N) (n : Fin 1024) :
    (iblk m c 6 t (ix2 0 n) : EReal) = m ((c : Thread nD τ).loc main_arg8) (ix2 1 n) := by
  unfold iblk
  rw [View.read_apply, ← V_post m c]
  refine congrArg (V m c main_v4) (funext fun a => Fin.ext ?_)
  match a with
  | ⟨0, _⟩ =>
    show cc0_transform_6 (grid0.coords t) 0 * 1 + 1 * 0 = 0
    rw [win6_eq]; rfl
  | ⟨1, _⟩ =>
    show cc0_transform_6 (grid0.coords t) 1 * 1024 + 1 * n.val = n.val
    rw [win6_eq]; show 0 * 1024 + 1 * n.val = _; omega

theorem iblk7 (c : Dev nD) (t : Fin cfg0.N) (n : Fin 1024) :
    (iblk m c 7 t (ix2 0 n) : EReal) = m ((c : Thread nD τ).loc main_arg5) (ix2 1 n) := by
  unfold iblk
  rw [View.read_apply, ← V_gain m c]
  refine congrArg (V m c main_v5) (funext fun a => Fin.ext ?_)
  match a with
  | ⟨0, _⟩ =>
    show cc0_transform_7 (grid0.coords t) 0 * 1 + 1 * 0 = 0
    rw [win7_eq]; rfl
  | ⟨1, _⟩ =>
    show cc0_transform_7 (grid0.coords t) 1 * 1024 + 1 * n.val = n.val
    rw [win7_eq]; show 0 * 1024 + 1 * n.val = _; omega

theorem iblk9 (c : Dev nD) (t : Fin cfg0.N) (n : Fin 1024) :
    (iblk m c 9 t (ix2 0 n) : EReal) = m ((c : Thread nD τ).loc main_arg9) (ix1 n) := by
  unfold iblk
  rw [View.read_apply, ← V_fin m c]
  refine congrArg (V m c main_v6) (funext fun a => Fin.ext ?_)
  match a with
  | ⟨0, _⟩ =>
    show cc0_transform_9 (grid0.coords t) 0 * 1 + 1 * 0 = 0
    rw [win9_eq]; rfl
  | ⟨1, _⟩ =>
    show cc0_transform_9 (grid0.coords t) 1 * 1024 + 1 * n.val = n.val
    rw [win9_eq]; show 0 * 1024 + 1 * n.val = _; omega

/-- The result array. -/
def result (c : Dev nD) : Buf (Elt Ideal) ((c : Thread nD τ).loc main_v7) := fun i =>
  (Tail.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (i 1) (i 2) : EReal)

theorem flushed_eq (c : Dev nD) (t : Fin cfg0.N) (_ : (cfg0.win 10).flush t = true) :
    (dats m 0 c).flushed 10 t = ((cfg0.win 10).blk t).view.read (Elt Ideal) (result m c) := by
  rw [Value.flushed10]
  refine funext fun (j : S1x512x1024.Idx) => ?_
  have hj : j = ix3 0 (j 1) (j 2) := by
    refine funext fun a => ?_
    match a with
    | ⟨0, _⟩ => exact Subsingleton.elim (α := Fin 1) _ _
    | ⟨1, _⟩ => rfl
    | ⟨2, _⟩ => rfl
  rw [hj]
  refine Eq.trans (b := (out0_10 (iblk m c 0 t) (iblk m c 1 t) (iblk m c 2 t) (iblk m c 3 t) (iblk m c 4 t) (iblk m c 5 t) (iblk m c 6 t)
    (iblk m c 7 t) (iblk m c 8 t) (iblk m c 9 t) (ix3 0 (j 1) (j 2)) : EReal)) rfl ?_
  refine (block_apply _ _ _ _ _ _ _ _ _ _ (j 1) (j 2)).trans ?_
  have hi : ((cfg0.win 10).blk t).view.emb (ix3 0 (j 1) (j 2)) = ix3 (bat t) (rowIx (blk t) (j 1)) (j 2) := by
    refine funext fun a => Fin.ext ?_
    match a with
    | ⟨0, _⟩ =>
      show cc0_transform_10 (grid0.coords t) 0 * 1 + 1 * 0 = (grid0.coords t 0).val
      rw [win10_eq]; exact Nat.mul_one _
    | ⟨1, _⟩ =>
      show cc0_transform_10 (grid0.coords t) 1 * 512 + 1 * (j 1).val = 512 * (grid0.coords t 1).val + (j 1).val
      rw [win10_eq]; show (grid0.coords t 1).val * 512 + 1 * (j 1).val = _; omega
    | ⟨2, _⟩ =>
      show cc0_transform_10 (grid0.coords t) 2 * 1024 + 1 * (j 2).val = (j 2).val
      rw [win10_eq]; show 0 * 1024 + 1 * (j 2).val = _; omega
  refine Eq.trans ?_ (congrArg (result m c) hi.symm)
  show _ = Tail.out _ _ _ _ _ _ _ _ _ _ (bat t) (rowIx (blk t) (j 1)) (j 2)
  unfold blockRow Tail.out
  rw [funext fun n => iblk0 m c t (j 1) n, funext fun n => iblk1 m c t (j 1) n, funext fun n => iblk2 m c t (j 1) n,
    funext fun n => iblk4 m c t (j 1) n, funext fun k => funext fun n => iblk3 m c t k n, funext fun n => iblk7 m c t n,
    funext fun k => funext fun n => iblk8 m c t k n, funext fun k => funext fun n => iblk5 m c t k n,
    funext fun n => iblk6 m c t n, funext fun n => iblk9 m c t n]

theorem point_ex : ∀ (b n : Fin 8), ∃ t : Fin cfg0.N, bat t = b ∧ blk t = n := by decide +kernel

/-- The output kernel's result array is the common description. -/
theorem final (c : Dev nD) : (dats m 0 c).arrAt 10 cfg0.N = result m c :=
  (dats m 0 c).arrAt_eq_of_cover 10 (result m c) (flushed_eq m c) fun i => by
    have h0 : (i 0).val < 8 := (i 0).isLt
    have h1 : (i 1).val < 4096 := (i 1).isLt
    have h2 : (i 2).val < 1024 := (i 2).isLt
    obtain ⟨t, tb, tn⟩ := point_ex ⟨(i 0).val, h0⟩ ⟨(i 1).val / 512, by omega⟩
    have tb' : (grid0.coords t 0).val = (i 0).val := congrArg Fin.val tb
    have tn' : (grid0.coords t 1).val = (i 1).val / 512 := congrArg Fin.val tn
    refine ⟨t, flush0_10 t, ?_⟩
    show i ∈ ((View.whole main_v7).slice (win0_10.rect t)).set
    rw [View.set_slice_whole, Rect.mem_set_unit]
    intro a
    match a with
    | ⟨0, _⟩ =>
      show cc0_transform_10 (grid0.coords t) 0 * 1 ≤ (i 0).val ∧ (i 0).val < cc0_transform_10 (grid0.coords t) 0 * 1 + 1
      rw [win10_eq]
      show (grid0.coords t 0).val * 1 ≤ (i 0).val ∧ (i 0).val < (grid0.coords t 0).val * 1 + 1
      omega
    | ⟨1, _⟩ =>
      show cc0_transform_10 (grid0.coords t) 1 * 512 ≤ (i 1).val ∧ (i 1).val < cc0_transform_10 (grid0.coords t) 1 * 512 + 512
      rw [win10_eq]
      show (grid0.coords t 1).val * 512 ≤ (i 1).val ∧ (i 1).val < (grid0.coords t 1).val * 512 + 512
      omega
    | ⟨2, _⟩ =>
      show cc0_transform_10 (grid0.coords t) 2 * 1024 ≤ (i 2).val ∧ (i 2).val < cc0_transform_10 (grid0.coords t) 2 * 1024 + 1024
      rw [win10_eq]
      show 0 * 1024 ≤ (i 2).val ∧ (i 2).val < 0 * 1024 + 1024
      omega

end Cert.Kernel2Ideal.Visit

end
-- ==== Proof.TailRef.lean ====
/- The plain program of the layer's end: its result, entry by entry, is the common description. -/
module

public import proofs.«01_k».proof.Proof.Gen.Reference2Ideal.Run
public import proofs.«01_k».proof.Proof.Tail
public import Idealize.ShloMosaic.Lib.ValueLayout
public import Idealize.ShloMosaic.Lib.ValueLayoutCasts
public import Idealize.ShloMosaic.Lib.IdealHost
public import Idealize.ShloMosaic.Lib.Pointwise.Contract

@[expose] public section

noncomputable section

namespace Cert.Reference2Ideal.Read

open Cert.Reference2Ideal Cert.Reference2Ideal.Gen
open Idealize.ShloMosaic hiding ix1 ix2 ix3 ix4
open Idealize.ShloMosaic.ValueIdx Idealize.ShloMosaic.TcCoe Idealize.SL.Sem

/-! ### The stages -/

/-- The last layer's matrix, and its vector, of the arrays that hold both layers'. -/
def square (w : FVec Ideal S2x1024x1024 .f32) : FVec Ideal S1024x1024 .f32 :=
  shapeCast _ (extractStridedSlice S1x1024x1024 ![1, 0, 0] w slices_S2x1024x1024_S1x1024x1024_1_0_0) shapeCasts_S1x1024x1024_S1024x1024
def vector (g : FVec Ideal S2x1024 .f32) : FVec Ideal S1024 .f32 :=
  shapeCast _ (extractStridedSlice S1x1024 ![1, 0] g slices_S2x1024_S1x1024_1_0) shapeCasts_S1x1024_S1024

/-- The norm. -/
def norms (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- Every row times a matrix. -/
def mult (x : FVec Ideal S8x4096x1024 .f32) (w : FVec Ideal S2x1024x1024 .f32) : FVec Ideal S8x4096x1024 .f32 :=
  Host.dotGeneral dot_S8x4096x1024_S1024x1024_S8x4096x1024_2_0_01_1_n_n none x (square w)

/-- The residual stream with the mixer's two outputs, side by side, projected and added. -/
def stream (h : FVec Ideal S8x4096x1024 .f32) (ya yb : FVec Ideal S8x4096x512 .bf16) (w : FVec Ideal S2x1024x1024 .f32) : FVec Ideal S8x4096x1024 .f32 :=
  addf h (mult (extf .f32 (concatenate S8x4096x1024 2 [⟨S8x4096x512, ya⟩, ⟨S8x4096x512, yb⟩] concatenates_S8x4096x512_S8x4096x512_S8x4096x1024_d2) bitsLt_bf16_f32) w)

/-- The embedding, projected. -/
def embed (p : FVec Ideal S2x8x4096x256 .f32) (w : FVec Ideal S2x256x1024 .f32) : FVec Ideal S8x4096x1024 .f32 :=
  Host.dotGeneral dot_S8x4096x256_S256x1024_S8x4096x1024_2_0_01_1_n_n none
    (shapeCast _ (extractStridedSlice S1x8x4096x256 ![1, 0, 0, 0] p slices_S2x8x4096x256_S1x8x4096x256_1_0_0_0) shapeCasts_S1x8x4096x256_S8x4096x256)
    (shapeCast _ (extractStridedSlice S1x256x1024 ![1, 0, 0] w slices_S2x256x1024_S1x256x1024_1_0_0) shapeCasts_S1x256x1024_S256x1024)

/-- The logistic function of every entry. -/
def sigms (x : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf x)))

/-- The stream with the gated embedding added, normed. -/
def ending (u e : FVec Ideal S8x4096x1024 .f32) (gn : FVec Ideal S2x1024 .f32) (wg : FVec Ideal S2x1024x1024 .f32) (post : FVec Ideal S2x1024 .f32)
    (fin : FVec Ideal S1024 .f32) : FVec Ideal S8x4096x1024 .f32 :=
  norms (addf u (mulf (sigms (mult (norms u (vector gn)) wg)) (norms e (vector post)))) fin

theorem staged (m : (ℓ : Loc nD τ sig) → Buf (Elt Ideal) ℓ) (c : Dev nD) :
    Cert.Reference2Ideal.Value.res_main_v64 (F := Ideal) m c
      = ending (stream (m ((c.tc : Thread nD τ).loc main_arg0)) (m ((c.tc : Thread nD τ).loc main_arg1)) (m ((c.tc : Thread nD τ).loc main_arg2)) (m ((c.tc : Thread nD τ).loc main_arg4)))
          (embed (m ((c.tc : Thread nD τ).loc main_arg3)) (m ((c.tc : Thread nD τ).loc main_arg7))) (m ((c.tc : Thread nD τ).loc main_arg5))
          (m ((c.tc : Thread nD τ).loc main_arg6)) (m ((c.tc : Thread nD τ).loc main_arg8)) (m ((c.tc : Thread nD τ).loc main_arg9)) := rfl

/-! ### Their entries -/

theorem square_apply (w : FVec Ideal S2x1024x1024 .f32) (k n : Fin 1024) : square w (ix2 k n) = w (ix3 1 k n) := by
  refine (shapeCast_1ab_ab_apply _ _ k n).trans (congrArg w (funext fun a => Fin.ext ?_))
  match a with
  | ⟨0, _⟩ => rfl
  | ⟨1, _⟩ => exact Nat.zero_add _
  | ⟨2, _⟩ => exact Nat.zero_add _

theorem vector_apply (g : FVec Ideal S2x1024 .f32) (n : Fin 1024) : vector g (ix1 n) = g (ix2 1 n) := by
  refine (shapeCast_1a_a_apply _ _ n).trans (congrArg g (funext fun a => Fin.ext ?_))
  match a with
  | ⟨0, _⟩ => rfl
  | ⟨1, _⟩ => exact Nat.zero_add _

theorem squares (x : FVec Ideal S8x4096x1024 .f32) (init : FVec Ideal S_ .f32) (h0 : ∀ i, init i = (0 : EReal))
    (h : S8x4096x1024.ReducesTo [2] S8x4096) (hu : 0 < S_.numel) (b : Fin 8) (t : Fin 4096) :
    Host.reduceAdd x init h hu (ix2 b t) = ∑ e : Fin 1024, x (ix3 b t e) := by
  have h' : S8x4096x1024.Reduces [2] S8x4096 := by decide
  refine (hostReduceAdd_apply x init h hu _).trans ((Ideal.hostReduceAdd_single h h' x _ _).trans ?_)
  rw [h0, zero_add]
  refine Finset.sum_congr rfl fun e _ => congrArg x (funext fun a => ?_)
  match a with
  | ⟨0, _⟩ => rfl
  | ⟨1, _⟩ => rfl
  | ⟨2, _⟩ => rfl

theorem norms_apply (x : FVec Ideal S8x4096x1024 .f32) (g : FVec Ideal S1024 .f32) (b : Fin 8) (t : Fin 4096) (d : Fin 1024) :
    norms x g (ix3 b t d) = Tail.rms (fun e => x (ix3 b t e)) (fun e => g (ix1 e)) d := by
  refine congrArg₂ (fun a b : EReal => a * b) (congrArg (fun a : EReal => x (ix3 b t d) * a) ?_) ?_
  · refine (broadcastInDim_apply _ _ _ _ (ix3 b t (0 : Fin 1)) fun a => by
      match a with
      | ⟨0, _⟩ => rfl
      | ⟨1, _⟩ => rfl
      | ⟨2, _⟩ => rfl).trans ?_
    refine congrArg Ideal.rsqrt (congrArg₂ (fun a b : EReal => a + b) ?_ (broadcastInDim_scalar_apply _ _ _))
    refine congrArg₂ Ideal.div ?_ (broadcastInDim_scalar_apply _ _ _)
    refine (broadcastInDim_apply _ _ _ _ (ix2 b t) fun a => by
      match a with
      | ⟨0, _⟩ => rfl
      | ⟨1, _⟩ => rfl).trans ?_
    exact squares (mulf x x) _ (fun _ => Ideal.ofBits_zero_f32) _ _ b t
  · refine (broadcastInDim_apply _ _ _ _ (ix3 (0 : Fin 1) (0 : Fin 1) d) fun a => by
      match a with
      | ⟨0, _⟩ => rfl
      | ⟨1, _⟩ => rfl
      | ⟨2, _⟩ => rfl).trans ?_
    exact broadcastInDim_apply _ _ _ _ (ix1 d) fun a => by
      match a with
      | ⟨0, _⟩ => rfl

theorem dot_wide (x : FVec Ideal S8x4096x1024 .f32) (w : FVec Ideal S1024x1024 .f32) (b : Fin 8) (t : Fin 4096) (n : Fin 1024) :
    Host.dotGeneral dot_S8x4096x1024_S1024x1024_S8x4096x1024_2_0_01_1_n_n none x w (ix3 b t n) = ∑ k : Fin 1024, (x (ix3 b t k) * w (ix2 k n) : EReal) := by
  refine (Ideal.dotGeneral_apply _ _ _ _ _ _).trans ?_
  rw [DotDims.sum_contr₁ (dot_S8x4096x1024_S1024x1024_S8x4096x1024_2_0_01_1_n_n) (a := 2) rfl (K := 1024) rfl]
  refine Finset.sum_congr rfl fun d _ => congrArg₂ (fun a b : EReal => a * b) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

theorem dot_narrow (x : FVec Ideal S8x4096x256 .f32) (w : FVec Ideal S256x1024 .f32) (b : Fin 8) (t : Fin 4096) (n : Fin 1024) :
    Host.dotGeneral dot_S8x4096x256_S256x1024_S8x4096x1024_2_0_01_1_n_n none x w (ix3 b t n) = ∑ k : Fin 256, (x (ix3 b t k) * w (ix2 k n) : EReal) := by
  refine (Ideal.dotGeneral_apply _ _ _ _ _ _).trans ?_
  rw [DotDims.sum_contr₁ (dot_S8x4096x256_S256x1024_S8x4096x1024_2_0_01_1_n_n) (a := 2) rfl (K := 256) rfl]
  refine Finset.sum_congr rfl fun d _ => congrArg₂ (fun a b : EReal => a * b) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

theorem mult_apply (x : FVec Ideal S8x4096x1024 .f32) (w : FVec Ideal S2x1024x1024 .f32) (b : Fin 8) (t : Fin 4096) (n : Fin 1024) :
    mult x w (ix3 b t n) = Tail.times (fun k => x (ix3 b t k)) (fun k n => w (ix3 1 k n)) n :=
  (dot_wide x _ b t n).trans (Finset.sum_congr rfl fun k _ => congrArg (fun y : EReal => x (ix3 b t k) * y) (square_apply w k n))

theorem embed_apply (p : FVec Ideal S2x8x4096x256 .f32) (w : FVec Ideal S2x256x1024 .f32) (b : Fin 8) (t : Fin 4096) (n : Fin 1024) :
    embed p w (ix3 b t n) = Tail.times (fun k => p (ix4 1 b t k)) (fun k n => w (ix3 1 k n)) n := by
  refine (dot_narrow _ _ b t n).trans (Finset.sum_congr rfl fun k _ => congrArg₂ (fun a b : EReal => a * b) ?_ ?_)
  · refine (shapeCast_apply _ _ (ix3 b t k) (ix4 (0 : Fin 1) b t k) ?_).trans (congrArg p (funext fun a => Fin.ext ?_))
    · rw [Shape.rowMajor_val_four, Shape.rowMajor_val_three]
      show ((0 * 8 + b.val) * 4096 + t.val) * 256 + k.val = (b.val * 4096 + t.val) * 256 + k.val
      omega
    · match a with
      | ⟨0, _⟩ => rfl
      | ⟨1, _⟩ => exact Nat.zero_add _
      | ⟨2, _⟩ => exact Nat.zero_add _
      | ⟨3, _⟩ => exact Nat.zero_add _
  · refine (shapeCast_1ab_ab_apply _ _ k n).trans (congrArg w (funext fun a => Fin.ext ?_))
    match a with
    | ⟨0, _⟩ => rfl
    | ⟨1, _⟩ => exact Nat.zero_add _
    | ⟨2, _⟩ => exact Nat.zero_add _

theorem stream_apply (h : FVec Ideal S8x4096x1024 .f32) (ya yb : FVec Ideal S8x4096x512 .bf16) (w : FVec Ideal S2x1024x1024 .f32)
    (b : Fin 8) (t : Fin 4096) (n : Fin 1024) :
    stream h ya yb w (ix3 b t n) = Tail.mixed (fun n => h (ix3 b t n)) (fun k => ya (ix3 b t k)) (fun k => yb (ix3 b t k)) (fun k n => w (ix3 1 k n)) n := by
  unfold Tail.mixed
  rw [add_assoc]
  refine congrArg (fun y : EReal => h (ix3 b t n) + y) ((mult_apply _ w b t n).trans ?_)
  unfold Tail.times
  rw [Fin.sum_univ_add (a := 512) (b := 512)]
  refine congrArg₂ (fun p q : EReal => p + q) ?_ ?_
  · refine Finset.sum_congr rfl fun k _ => congrArg₂ (fun p q : EReal => p * q) ?_ rfl
    refine concatenate_pair_apply_left (t := S8x4096x1024) (s₁ := S8x4096x512) (s₂ := S8x4096x512) 2 ya yb concatenates_S8x4096x512_S8x4096x512_S8x4096x1024_d2 (ix3 b t (Fin.castAdd 512 k)) rfl (ix3 b t k) fun d => ?_
    match d with
    | ⟨0, _⟩ => rfl
    | ⟨1, _⟩ => rfl
    | ⟨2, _⟩ => rfl
  · refine Finset.sum_congr rfl fun k _ => congrArg₂ (fun p q : EReal => p * q) ?_ rfl
    refine concatenate_pair_apply_right (t := S8x4096x1024) (s₁ := S8x4096x512) (s₂ := S8x4096x512) 2 ya yb concatenates_S8x4096x512_S8x4096x512_S8x4096x1024_d2 (ix3 b t (Fin.natAdd 512 k)) rfl rfl (ix3 b t k) (fun d hd => ?_) ?_
    · match d with
      | ⟨0, _⟩ => rfl
      | ⟨1, _⟩ => rfl
      | ⟨2, _⟩ => exact absurd rfl hd
    · show k.val + 512 = 512 + k.val
      omega

theorem sigms_apply (x : FVec Ideal S8x4096x1024 .f32) (i : S8x4096x1024.Idx) : sigms x i = Tail.sigm (x i) := by
  have h1 : (broadcastInDim S8x4096x1024 ![] bcast_S_S8x4096x1024 (constant (F := Ideal) S_ .f32 0x3F800000#32)) i = (1 : EReal) :=
    (broadcastInDim_scalar_apply _ _ _).trans Ideal.ofBits_one_f32
  exact congrArg₂ Ideal.div h1 (congrArg (fun a : EReal => a + Ideal.exp (-(x i : EReal))) h1)

theorem ending_apply (u e : FVec Ideal S8x4096x1024 .f32) (gn : FVec Ideal S2x1024 .f32) (wg : FVec Ideal S2x1024x1024 .f32) (post : FVec Ideal S2x1024 .f32)
    (fin : FVec Ideal S1024 .f32) (b : Fin 8) (t : Fin 4096) (d : Fin 1024) :
    ending u e gn wg post fin (ix3 b t d)
      = Tail.rms (Tail.gated (fun n => u (ix3 b t n)) (fun n => e (ix3 b t n)) (fun n => gn (ix2 1 n)) (fun n => post (ix2 1 n)) (fun k n => wg (ix3 1 k n)))
          (fun n => fin (ix1 n)) d := by
  refine (norms_apply _ fin b t d).trans (congrArg (fun f => Tail.rms f (fun n => fin (ix1 n)) d) (funext fun n => ?_))
  refine congrArg (fun y : EReal => u (ix3 b t n) + y) (congrArg₂ (fun p q : EReal => p * q) ?_ ?_)
  · refine (sigms_apply _ _).trans (congrArg Tail.sigm ((mult_apply _ wg b t n).trans ?_))
    refine congrArg (fun f : Fin 1024 → EReal => Tail.times f (fun k n => wg (ix3 1 k n)) n) (funext fun k => (norms_apply u _ b t k).trans ?_)
    exact congrArg (fun g : Fin 1024 → EReal => Tail.rms (fun e => u (ix3 b t e)) g k) (funext fun i => vector_apply gn i)
  · refine (norms_apply e _ b t n).trans ?_
    exact congrArg (fun g : Fin 1024 → EReal => Tail.rms (fun i => e (ix3 b t i)) g n) (funext fun i => vector_apply post i)

/-- Every entry of the plain program's result. -/
theorem ending_eq (h : FVec Ideal S8x4096x1024 .f32) (ya yb : FVec Ideal S8x4096x512 .bf16) (p : FVec Ideal S2x8x4096x256 .f32)
    (wo : FVec Ideal S2x1024x1024 .f32) (gn : FVec Ideal S2x1024 .f32) (wg : FVec Ideal S2x1024x1024 .f32) (wp : FVec Ideal S2x256x1024 .f32)
    (post : FVec Ideal S2x1024 .f32) (fin : FVec Ideal S1024 .f32) :
    ending (stream h ya yb wo) (embed p wp) gn wg post fin
      = fun i : S8x4096x1024.Idx => Tail.out h ya yb p wo gn wg wp post fin (i 0) (i 1) (i 2) := by
  funext i
  refine (congrArg _ (ValueIdx.eq_ix3 i)).trans ((ending_apply _ _ gn wg post fin _ _ _).trans ?_)
  unfold Tail.out Tail.row
  exact congrArg₂ (fun f g : Fin 1024 → EReal => Tail.rms (Tail.gated f g (fun n => gn (ix2 1 n)) (fun n => post (ix2 1 n)) (fun k n => wg (ix3 1 k n)))
      (fun n => fin (ix1 n)) (i 2))
    (funext fun n => stream_apply h ya yb wo _ _ n) (funext fun n => embed_apply p wp _ _ n)

end Cert.Reference2Ideal.Read

end
-- ==== Proof.Mix.lean ====
/- The layer's beginning in mathematics: what one row of the residual stream gives the attention, over the extended reals. -/
module

public import proofs.«01_k».proof.Proof.Tail

@[expose] public section

noncomputable section

namespace Cert.Mix

open Idealize.ShloMosaic Idealize.ShloMosaic.ValueIdx Cert.Tail

/-- A normed row times the input projection, at column `n`. -/
def proj (x g : Fin 1024 → EReal) (w : Fin 1024 → Fin 4096 → EReal) (n : Fin 4096) : EReal := ∑ k, rms x g k * w k n

/-- Column `n` of the 512 that begin at `o`. -/
def col (o : Fin 8) (n : Fin 512) : Fin 4096 := ⟨512 * o.val + n.val, by have := o.isLt; have := n.isLt; omega⟩

/-- The scale of the queries: the inverse square root of a head's width, over the natural logarithm of two. -/
def scale : EReal := (((1 / 8) * (Real.log 2)⁻¹ : ℝ) : EReal)

/-- The projection at batch entry `b`, row `t` and column `n`: the last layer's weights, which are those of index 1. -/
def entry (x : Arr3 8 4096 1024) (g : Arr2 2 1024) (w : Arr3 2 1024 4096) (b : Fin 8) (t : Fin 4096) (n : Fin 4096) : EReal :=
  proj (fun k => x (ix3 b t k)) (fun k => g (ix2 1 k)) (fun k n => w (ix3 1 k n)) n

/-- The attention's queries, keys, values and gates. -/
def query (x : Arr3 8 4096 1024) (g : Arr2 2 1024) (w : Arr3 2 1024 4096) (b : Fin 8) (t : Fin 4096) (n : Fin 512) : EReal :=
  entry x g w b t (col 4 n) * scale
def key (x : Arr3 8 4096 1024) (g : Arr2 2 1024) (w : Arr3 2 1024 4096) (b : Fin 8) (t : Fin 4096) (n : Fin 512) : EReal :=
  entry x g w b t (col 5 n)
def value (x : Arr3 8 4096 1024) (g : Arr2 2 1024) (w : Arr3 2 1024 4096) (b : Fin 8) (t : Fin 4096) (n : Fin 512) : EReal :=
  entry x g w b t (col 6 n)
def gate (x : Arr3 8 4096 1024) (g : Arr2 2 1024) (w : Arr3 2 1024 4096) (b : Fin 8) (t : Fin 4096) (n : Fin 512) : EReal :=
  entry x g w b t (col 7 n) * sigm (entry x g w b t (col 7 n))

end Cert.Mix

end
-- ==== Proof.MixTile.lean ====
/- The input kernel's tile functions: what the attention's queries, keys, values and gates read at one row and one column. -/
module

public import proofs.«01_k».proof.Proof.Gen.Kernel3Ideal.Skeleton
public import proofs.«01_k».proof.Proof.Mix
public import Idealize.ShloMosaic.Lib.MatmulPlain
public import Idealize.ShloMosaic.Lib.ValueLayout
public import Idealize.ShloMosaic.Lib.ValueLayoutCasts
public import Idealize.ShloMosaic.Lib.IdealHost

@[expose] public section

noncomputable section

namespace Cert.Kernel3Ideal.Visit

open Cert.Kernel3Ideal Cert.Kernel3Ideal.Gen
open Idealize.ShloMosaic
open Idealize.ShloMosaic.TcCoe Idealize.SL.Sem Idealize.ShloMosaic.ValueIdx

theorem zeros_apply (s : Shape) (i : s.Idx) : constant (F := Ideal) s .f32 0x00000000#32 i = 0 := Ideal.ofBits_zero_f32

theorem lift_row (i : Fin 512) (k : Fin (S512x1024.size 1)) :
    (reduces_S512x1024_S512).lift (ix1 i) k = ix2 i (⟨k.val, k.isLt⟩ : Fin 1024) := by
  funext c; apply Fin.ext
  fin_cases c <;> rfl

/-- The normed rows of a block. -/
theorem pay3_apply (x : FVec Ideal S1x512x1024 .f32) (g : FVec Ideal S1x1024 .f32) (i : Fin 512) (k : Fin 1024) :
    (k0_pay3 (F := Ideal) x g (ix2 i k) : EReal) = Tail.rms (fun e => x (ix3 0 i e)) (fun e => g (ix2 0 e)) k := by
  unfold k0_pay3 Tail.rms
  refine congrArg₂ (fun a b : EReal => a * b) (congrArg₂ (fun a b : EReal => a * b) (shapeCast_1ab_ab_apply x _ i k) ?_) ?_
  · refine (broadcastTo_apply _ _ _ (ix2 i 0) fun a => ?_).trans ?_
    · match a with
      | ⟨0, _⟩ => rfl
      | ⟨1, _⟩ => rfl
    · refine congrArg (fun s : EReal => Ideal.rsqrt (Ideal.div s Tail.width + Tail.eps)) ?_
      refine (shapeCast_a_a1_apply _ _ _ _).trans ((Ideal.multiReduction_add_single _ _ _ _ _ _).trans ?_)
      refine Finset.sum_congr rfl fun e _ => ?_
      refine (congrArg (mulf _ _) (lift_row i e)).trans ?_
      exact congrArg₂ (fun a b : EReal => a * b) (shapeCast_1ab_ab_apply x _ i _) (shapeCast_1ab_ab_apply x _ i _)
  · refine (broadcastTo_apply _ _ _ (ix2 0 k) fun a => ?_).trans ?_
    · match a with
      | ⟨0, _⟩ => rfl
      | ⟨1, _⟩ => rfl
    · rw [shapeCast_self]

/-- A tile of rows times 512 columns of the input projection. -/
def dotT (v : FVec Ideal S512x1024 .bf16) (w : FVec Ideal S1x1024x512 .f32) : FVec Ideal S512x512 .f32 :=
  matmul dot_S512x1024_S1024x512_S512x512_1_0_0_1_n_n none v (truncf .bf16 (shapeCast S1024x512 w shapeCasts_S1x1024x512_S1024x512) bitsLt_bf16_f32)
    (constant S512x512 .f32 0x00000000#32)

theorem dotT_apply (v : FVec Ideal S512x1024 .bf16) (w : FVec Ideal S1x1024x512 .f32) (i n : Fin 512) :
    (dotT v w (ix2 i n) : EReal) = ∑ k : Fin 1024, (v (ix2 i k) : EReal) * w (ix3 0 k n) := by
  refine (Ideal.matmul_plain_apply (M := 512) (K := 1024) (N := 512) none _ _ _ i n).trans ?_
  rw [zeros_apply, zero_add]
  exact Finset.sum_congr rfl fun k _ => congrArg (fun t : EReal => (v (ix2 i k) : EReal) * t) (shapeCast_1ab_ab_apply w _ k n)

/-- The queries' block: the product scaled. -/
theorem pay159_apply (v : FVec Ideal S512x1024 .bf16) (w : FVec Ideal S1x1024x512 .f32) (i n : Fin 512) :
    (k0_pay159 (F := Ideal) v w (ix3 0 i n) : EReal) = (∑ k : Fin 1024, (v (ix2 i k) : EReal) * w (ix3 0 k n)) * Mix.scale := by
  unfold k0_pay159
  refine (shapeCast_ab_1ab_apply _ _ 0 i n).trans ?_
  exact congrArg (fun a : EReal => a * Mix.scale) (dotT_apply v w i n)

/-- The keys' block: the product transposed. -/
theorem pay193_apply (v : FVec Ideal S512x1024 .bf16) (w : FVec Ideal S1x1024x512 .f32) (n i : Fin 512) :
    (k0_pay193 (F := Ideal) v w (ix3 0 n i) : EReal) = ∑ k : Fin 1024, (v (ix2 i k) : EReal) * w (ix3 0 k n) := by
  unfold k0_pay193
  refine (shapeCast_ab_1ab_apply _ _ 0 n i).trans ?_
  show (transpose S512x512 [1, 0] (dotT v w) transposes_S512x512_p1_0_S512x512 (ix2 n i) : EReal) = _
  refine (transpose_apply _ _ _ (ix2 n i) (ix2 i n) fun c => by
    match c with
    | ⟨0, _⟩ => rfl
    | ⟨1, _⟩ => rfl).trans ?_
  exact dotT_apply v w i n

/-- The values' block. -/
theorem pay908_apply (v : FVec Ideal S512x1024 .bf16) (w : FVec Ideal S1x1024x512 .f32) (i n : Fin 512) :
    (k0_pay908 (F := Ideal) v w (ix3 0 i n) : EReal) = ∑ k : Fin 1024, (v (ix2 i k) : EReal) * w (ix3 0 k n) := by
  unfold k0_pay908
  exact (shapeCast_ab_1ab_apply _ _ 0 i n).trans (dotT_apply v w i n)

/-- The gates' block: the product times its logistic function. -/
theorem pay993_apply (v : FVec Ideal S512x1024 .bf16) (w : FVec Ideal S1x1024x512 .f32) (i n : Fin 512) :
    (k0_pay993 (F := Ideal) (k0_pay992 v w) (ix3 0 i n) : EReal)
      = (∑ k : Fin 1024, (v (ix2 i k) : EReal) * w (ix3 0 k n)) * Tail.sigm (∑ k : Fin 1024, (v (ix2 i k) : EReal) * w (ix3 0 k n)) := by
  unfold k0_pay993
  refine (shapeCast_ab_1ab_apply _ _ 0 i n).trans ?_
  unfold k0_pay992
  rw [← dotT_apply v w i n]
  show (dotT v w (ix2 i n) : EReal) * Ideal.div (Ideal.ofBits .f32 0x3F800000#32)
    (Ideal.ofBits .f32 0x3F800000#32 + Ideal.exp (Ideal.ofBits .f32 0x00000000#32 - dotT v w (ix2 i n))) = _
  rw [Ideal.ofBits_one_f32, Ideal.ofBits_zero_f32, zero_sub]
  rfl

end Cert.Kernel3Ideal.Visit

end
-- ==== Proof.MixWindow.lean ====
/- The input kernel's blocks: what a visit reads of the arguments, and what its tiles hold of the blocks it reads. -/
module

public import proofs.«01_k».proof.Proof.Gen.Kernel3Ideal.Frame.Runs
public import proofs.«01_k».proof.Proof.MixTile
public import Idealize.ShloMosaic.Lib.Pipeline.ValueKit.Tiles
public import Idealize.ShloMosaic.Lib.Claim
public import Idealize.ShloMosaic.Lib.StableHlo.Run

@[expose] public section

set_option maxRecDepth 65536

noncomputable section

namespace Cert.Kernel3Ideal.Visit

open Cert.Kernel3Ideal Cert.Kernel3Ideal.Gen
open Idealize.ShloMosaic
open Idealize.ShloMosaic.TcCoe Idealize.SL.Sem Idealize.ShloMosaic.ValueIdx

/-! ### The loads -/

/-- A block of rows, whole. -/
abbrev ldX {F : FTy → Type} (v : View sig .tc .vmem S1x512x1024 .f32) (f : v.ref.ty.Contents (Elt F)) : Vec F S1x512x1024 .f32 :=
  View.readAt (Elt F) v (Rect.unit (s := S1x512x1024) ![0, 0, 0] S1x512x1024.size inb_S1x512x1024_S1x512x1024_0_0_0).toLoadRect f

/-- The norm's weights, whole. -/
abbrev ldN {F : FTy → Type} (v : View sig .tc .vmem S1x1024 .f32) (f : v.ref.ty.Contents (Elt F)) : Vec F S1x1024 .f32 :=
  View.readAt (Elt F) v (Rect.unit (s := S1x1024) ![0, 0] S1x1024.size inb_S1x1024_S1x1024_0_0).toLoadRect f

/-- 512 columns of the input projection. -/
abbrev ldC {F : FTy → Type} (v : View sig .tc .vmem S1x1024x4096 .f32) (f : v.ref.ty.Contents (Elt F)) (off : Fin 3 → ℕ)
    (h : ∀ a, off a + S1x1024x512.size a ≤ S1x1024x4096.size a) : Vec F S1x1024x512 .f32 :=
  View.readAt (Elt F) v (Rect.unit (s := S1x1024x4096) off S1x1024x512.size h).toLoadRect f

section Tiles

variable (arg2 : Memref sig .tc .vmem S1x512x1024 .f32) (harg2 : arg2.IsWhole) (arg3 : Memref sig .tc .vmem S1x1024 .f32) (harg3 : arg3.IsWhole)
  (arg4 : Memref sig .tc .vmem S1x1024x4096 .f32) (harg4 : arg4.IsWhole)
  (x0 : Vec Ideal S1x512x1024 .f32) (x1 : Vec Ideal S1x1024 .f32) (x2 : Vec Ideal S1x1024x4096 .f32)

theorem ldX_eq : ldX (F := Ideal) arg2.view (harg2.unread x0) = x0 := by
  show View.ld (arg2.view.read (Elt Ideal) (harg2.unread x0)) (Rect.unit (s := S1x512x1024) ![0, 0, 0] S1x512x1024.size inb_S1x512x1024_S1x512x1024_0_0_0) = _
  rw [harg2.read_unread]
  exact View.ld_unit_lit _ x0 (by decide)

theorem ldN_eq : ldN (F := Ideal) arg3.view (harg3.unread x1) = x1 := by
  show View.ld (arg3.view.read (Elt Ideal) (harg3.unread x1)) (Rect.unit (s := S1x1024) ![0, 0] S1x1024.size inb_S1x1024_S1x1024_0_0) = _
  rw [harg3.read_unread]
  exact View.ld_unit_lit _ x1 (by decide)

theorem ldC_apply (o : Fin 8) (h : ∀ a, (![0, 0, 512 * o.val] : Fin 3 → ℕ) a + S1x1024x512.size a ≤ S1x1024x4096.size a) (k : Fin 1024) (n : Fin 512) :
    (ldC (F := Ideal) arg4.view (harg4.unread x2) ![0, 0, 512 * o.val] h (ix3 0 k n) : EReal) = x2 (ix3 0 k (Mix.col o n)) := by
  show View.ld (arg4.view.read (Elt Ideal) (harg4.unread x2)) (Rect.unit (s := S1x1024x4096) ![0, 0, 512 * o.val] S1x1024x512.size h) (ix3 0 k n) = _
  rw [harg4.read_unread]
  refine View.ld_unit_apply_of _ _ _ _ _ _ fun a => ?_
  match a with
  | ⟨0, _⟩ => rfl
  | ⟨1, _⟩ => exact (Nat.zero_add _).symm
  | ⟨2, _⟩ => rfl

/-- The projection of row `i` of the block, at column `n`. -/
def blockProj (i : Fin 512) (n : Fin 4096) : EReal :=
  Mix.proj (fun k => x0 (ix3 0 i k)) (fun k => x1 (ix2 0 k)) (fun k n => x2 (ix3 0 k n)) n

/-- The product a visit computes of its rows and the columns that begin at `512 * o`. -/
theorem sum_eq (o : Fin 8) (h : ∀ a, (![0, 0, 512 * o.val] : Fin 3 → ℕ) a + S1x1024x512.size a ≤ S1x1024x4096.size a) (i n : Fin 512) :
    ∑ k : Fin 1024, (k0_pay3 (F := Ideal) (ldX arg2.view (harg2.unread x0)) (ldN arg3.view (harg3.unread x1)) (ix2 i k) : EReal)
      * ldC arg4.view (harg4.unread x2) ![0, 0, 512 * o.val] h (ix3 0 k n) = blockProj x0 x1 x2 i (Mix.col o n) := by
  rw [ldX_eq arg2 harg2 x0, ldN_eq arg3 harg3 x1]
  exact Finset.sum_congr rfl fun k _ => congrArg₂ (fun a b : EReal => a * b) (pay3_apply x0 x1 i k) (ldC_apply arg4 harg4 x2 o h k n)

end Tiles

variable (m : (ℓ : Loc nD τ sig) → Buf (Elt Ideal) ℓ)

/-! ### What the host code hands to the call -/

theorem V_norm (c : Dev nD) (n : Fin 1024) : V m c main_v4 (ix2 0 n) = m ((c : Thread nD τ).loc main_arg1) (ix2 1 n) := by
  have e : V m c main_v4 = shapeCast S1x1024 (shapeCast S1024 (extractStridedSlice S1x1024 ![1, 0] (m ((c : Thread nD τ).loc main_arg1)) slices_S2x1024_S1x1024_1_0) shapeCasts_S1x1024_S1024) shapeCasts_S1024_S1x1024 := by
    unfold_abbrev_sides
    after_results
    try rfl
  rw [e]
  refine (shapeCast_a_1a_apply _ _ 0 n).trans ((shapeCast_1a_a_apply _ _ n).trans (congrArg (m ((c : Thread nD τ).loc main_arg1)) (funext fun a => Fin.ext ?_)))
  match a with
  | ⟨0, _⟩ => rfl
  | ⟨1, _⟩ => exact Nat.zero_add _

/-! ### The blocks of a visit -/

theorem win0_eq : ∀ (i : grid0.Coords) a, cc0_transform_0 i a = (![(i 0).val, (i 1).val, 0] : Fin 3 → ℕ) a := by decide +kernel
theorem win1_eq : ∀ (i : grid0.Coords) a, cc0_transform_1 i a = (![0, 0] : Fin 2 → ℕ) a := by decide +kernel
theorem win2_eq : ∀ (i : grid0.Coords) a, cc0_transform_2 i a = (![1, 0, 0] : Fin 3 → ℕ) a := by decide +kernel
theorem win6_eq : ∀ (i : grid0.Coords) a, cc0_transform_6 i a = (![(i 0).val, (i 1).val, 0] : Fin 3 → ℕ) a := by decide +kernel
theorem win7_eq : ∀ (i : grid0.Coords) a, cc0_transform_7 i a = (![(i 0).val, 0, (i 1).val] : Fin 3 → ℕ) a := by decide +kernel
theorem win8_eq : ∀ (i : grid0.Coords) a, cc0_transform_8 i a = (![(i 0).val, (i 1).val, 0] : Fin 3 → ℕ) a := by decide +kernel
theorem win9_eq : ∀ (i : grid0.Coords) a, cc0_transform_9 i a = (![(i 0).val, (i 1).val, 0] : Fin 3 → ℕ) a := by decide +kernel

/-- The batch entry and the row block of a visit, and the row of an array a row of a block is. -/
def bat (t : Fin cfg0.N) : Fin 8 := grid0.coords t 0
def blk (t : Fin cfg0.N) : Fin 8 := grid0.coords t 1
def rowIx (n : Fin 8) (i : Fin 512) : Fin 4096 := ⟨512 * n.val + i.val, by have := n.isLt; have := i.isLt; omega⟩

theorem iblk0 (c : Dev nD) (t : Fin cfg0.N) (i : Fin 512) (n : Fin 1024) :
    (iblk m c 0 t (ix3 0 i n) : EReal) = m ((c : Thread nD τ).loc main_arg0) (ix3 (bat t) (rowIx (blk t) i) n) := by
  unfold iblk
  rw [View.read_apply]
  show V m c main_arg0 _ = _
  rw [V_main_arg0]
  refine congrArg (m ((c : Thread nD τ).loc main_arg0)) (funext fun a => Fin.ext ?_)
  match a with
  | ⟨0, _⟩ =>
    show cc0_transform_0 (grid0.coords t) 0 * 1 + 1 * 0 = (grid0.coords t 0).val
    rw [win0_eq]; exact Nat.mul_one _
  | ⟨1, _⟩ =>
    show cc0_transform_0 (grid0.coords t) 1 * 512 + 1 * i.val = 512 * (grid0.coords t 1).val + i.val
    rw [win0_eq]; show (grid0.coords t 1).val * 512 + 1 * i.val = _; omega
  | ⟨2, _⟩ =>
    show cc0_transform_0 (grid0.coords t) 2 * 1024 + 1 * n.val = n.val
    rw [win0_eq]; show 0 * 1024 + 1 * n.val = _; omega

theorem iblk1 (c : Dev nD) (t : Fin cfg0.N) (n : Fin 1024) :
    (iblk m c 1 t (ix2 0 n) : EReal) = m ((c : Thread nD τ).loc main_arg1) (ix2 1 n) := by
  unfold iblk
  rw [View.read_apply, ← V_norm m c]
  refine congrArg (V m c main_v4) (funext fun a => Fin.ext ?_)
  match a with
  | ⟨0, _⟩ =>
    show cc0_transform_1 (grid0.coords t) 0 * 1 + 1 * 0 = 0
    rw [win1_eq]; rfl
  | ⟨1, _⟩ =>
    show cc0_transform_1 (grid0.coords t) 1 * 1024 + 1 * n.val = n.val
    rw [win1_eq]; show 0 * 1024 + 1 * n.val = _; omega

theorem iblk2 (c : Dev nD) (t : Fin cfg0.N) (k : Fin 1024) (n : Fin 4096) :
    (iblk m c 2 t (ix3 0 k n) : EReal) = m ((c : Thread nD τ).loc main_arg2) (ix3 1 k n) := by
  unfold iblk
  rw [View.read_apply]
  show V m c main_arg2 _ = _
  rw [V_main_arg2]
  refine congrArg (m ((c : Thread nD τ).loc main_arg2)) (funext fun a => Fin.ext ?_)
  match a with
  | ⟨0, _⟩ =>
    show cc0_transform_2 (grid0.coords t) 0 * 1 + 1 * 0 = 1
    rw [win2_eq]; rfl
  | ⟨1, _⟩ =>
    show cc0_transform_2 (grid0.coords t) 1 * 1024 + 1 * k.val = k.val
    rw [win2_eq]; show 0 * 1024 + 1 * k.val = _; omega
  | ⟨2, _⟩ =>
    show cc0_transform_2 (grid0.coords t) 2 * 4096 + 1 * n.val = n.val
    rw [win2_eq]; show 0 * 4096 + 1 * n.val = _; omega

/-- The projection of a visit's rows is that of the rows of the argument. -/
theorem proj_eq (c : Dev nD) (t : Fin cfg0.N) (i : Fin 512) (n : Fin 4096) :
    blockProj (iblk m c 0 t) (iblk m c 1 t) (iblk m c 2 t) i n
      = Mix.entry (m ((c : Thread nD τ).loc main_arg0)) (m ((c : Thread nD τ).loc main_arg1)) (m ((c : Thread nD τ).loc main_arg2)) (bat t) (rowIx (blk t) i) n := by
  unfold blockProj Mix.entry
  rw [funext fun k => iblk0 m c t i k, funext fun k => iblk1 m c t k, funext fun k => funext fun n => iblk2 m c t k n]

theorem point_ex : ∀ (b n : Fin 8), ∃ t : Fin cfg0.N, bat t = b ∧ blk t = n := by decide +kernel

end Cert.Kernel3Ideal.Visit

end
-- ==== Proof.MixCase.lean ====
/- The blocks of queries, keys, values and gates that a visit leaves, as the tiles its body stores: the same whether the visit begins a batch
   entry or goes on with one. -/
module

public import proofs.«01_k».proof.Proof.Gen.Kernel3Ideal.Frame
public import proofs.«01_k».proof.Proof.MixWindow
public import Idealize.ShloMosaic.Lib.VecWindow

@[expose] public section

set_option maxRecDepth 65536

noncomputable section

namespace Cert.Kernel3Ideal.Visit

open Cert.Kernel3Ideal.Gen
open Idealize.ShloMosaic Idealize.ShloMosaic.TcCoe Idealize.ShloMosaic.Tactic Idealize.SL.Sem

variable {F : FTy → Type} [FloatOps F] [Named F]

theorem queryA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x4096 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S4x128x128 .f32) (harg12 : arg12.IsWhole) (hc0 : cond0_0 i)
    (x0 : Vec F S1x512x1024 .f32) (x1 : Vec F S1x1024 .f32) (x2 : Vec F S1x1024x4096 .f32) (x3 : Vec F S2x512 .f32) (x4 : Vec F S1x512 .f32) :
    out0_A_6 c i arg2 harg2 arg3 harg3 arg4 harg4 arg5 harg5 arg6 harg6 arg7 harg7 arg8 harg8 arg9 harg9 arg10 harg10 arg11 harg11 arg12 harg12 hc0 x0 x1 x2 x3 x4
      = k0_pay159 (k0_pay3 (ldX arg2.view (harg2.unread x0)) (ldN arg3.view (harg3.unread x1))) (ldC arg4.view (harg4.unread x2) ![0, 0, 2048] inb_S1x1024x4096_S1x1024x512_0_0_2048) := by
  unfold out0_A_6 kernelRun0_A
  dsimp only
  exact View.read_writes_full _ _ _ _ _

theorem queryB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x4096 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S4x128x128 .f32) (harg12 : arg12.IsWhole) (hc0 : ¬cond0_0 i)
    (x0 : Vec F S1x512x1024 .f32) (x1 : Vec F S1x1024 .f32) (x2 : Vec F S1x1024x4096 .f32) (x3 : Vec F S2x512 .f32) (x4 : Vec F S1x512 .f32) (xs0 : Vec F S4x128x128 .f32) :
    out0_B_6 c i arg2 harg2 arg3 harg3 arg4 harg4 arg5 harg5 arg6 harg6 arg7 harg7 arg8 harg8 arg9 harg9 arg10 harg10 arg11 harg11 arg12 harg12 hc0 x0 x1 x2 x3 x4 xs0
      = k0_pay159 (k0_pay3 (ldX arg2.view (harg2.unread x0)) (ldN arg3.view (harg3.unread x1))) (ldC arg4.view (harg4.unread x2) ![0, 0, 2048] inb_S1x1024x4096_S1x1024x512_0_0_2048) := by
  unfold out0_B_6 kernelRun0_B
  dsimp only
  exact View.read_writes_full _ _ _ _ _

theorem keyA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x4096 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S4x128x128 .f32) (harg12 : arg12.IsWhole) (hc0 : cond0_0 i)
    (x0 : Vec F S1x512x1024 .f32) (x1 : Vec F S1x1024 .f32) (x2 : Vec F S1x1024x4096 .f32) (x3 : Vec F S2x512 .f32) (x4 : Vec F S1x512 .f32) :
    out0_A_7 c i arg2 harg2 arg3 harg3 arg4 harg4 arg5 harg5 arg6 harg6 arg7 harg7 arg8 harg8 arg9 harg9 arg10 harg10 arg11 harg11 arg12 harg12 hc0 x0 x1 x2 x3 x4
      = k0_pay193 (k0_pay3 (ldX arg2.view (harg2.unread x0)) (ldN arg3.view (harg3.unread x1))) (ldC arg4.view (harg4.unread x2) ![0, 0, 2560] inb_S1x1024x4096_S1x1024x512_0_0_2560) := by
  unfold out0_A_7 kernelRun0_A
  dsimp only
  exact View.read_writes_full _ _ _ _ _

theorem keyB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x4096 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S4x128x128 .f32) (harg12 : arg12.IsWhole) (hc0 : ¬cond0_0 i)
    (x0 : Vec F S1x512x1024 .f32) (x1 : Vec F S1x1024 .f32) (x2 : Vec F S1x1024x4096 .f32) (x3 : Vec F S2x512 .f32) (x4 : Vec F S1x512 .f32) (xs0 : Vec F S4x128x128 .f32) :
    out0_B_7 c i arg2 harg2 arg3 harg3 arg4 harg4 arg5 harg5 arg6 harg6 arg7 harg7 arg8 harg8 arg9 harg9 arg10 harg10 arg11 harg11 arg12 harg12 hc0 x0 x1 x2 x3 x4 xs0
      = k0_pay193 (k0_pay3 (ldX arg2.view (harg2.unread x0)) (ldN arg3.view (harg3.unread x1))) (ldC arg4.view (harg4.unread x2) ![0, 0, 2560] inb_S1x1024x4096_S1x1024x512_0_0_2560) := by
  unfold out0_B_7 kernelRun0_B
  dsimp only
  exact View.read_writes_full _ _ _ _ _

theorem valueA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x4096 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S4x128x128 .f32) (harg12 : arg12.IsWhole) (hc0 : cond0_0 i)
    (x0 : Vec F S1x512x1024 .f32) (x1 : Vec F S1x1024 .f32) (x2 : Vec F S1x1024x4096 .f32) (x3 : Vec F S2x512 .f32) (x4 : Vec F S1x512 .f32) :
    out0_A_8 c i arg2 harg2 arg3 harg3 arg4 harg4 arg5 harg5 arg6 harg6 arg7 harg7 arg8 harg8 arg9 harg9 arg10 harg10 arg11 harg11 arg12 harg12 hc0 x0 x1 x2 x3 x4
      = k0_pay908 (k0_pay3 (ldX arg2.view (harg2.unread x0)) (ldN arg3.view (harg3.unread x1))) (ldC arg4.view (harg4.unread x2) ![0, 0, 3072] inb_S1x1024x4096_S1x1024x512_0_0_3072) := by
  unfold out0_A_8 kernelRun0_A
  dsimp only
  exact View.read_writes_full _ _ _ _ _

theorem valueB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x4096 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S4x128x128 .f32) (harg12 : arg12.IsWhole) (hc0 : ¬cond0_0 i)
    (x0 : Vec F S1x512x1024 .f32) (x1 : Vec F S1x1024 .f32) (x2 : Vec F S1x1024x4096 .f32) (x3 : Vec F S2x512 .f32) (x4 : Vec F S1x512 .f32) (xs0 : Vec F S4x128x128 .f32) :
    out0_B_8 c i arg2 harg2 arg3 harg3 arg4 harg4 arg5 harg5 arg6 harg6 arg7 harg7 arg8 harg8 arg9 harg9 arg10 harg10 arg11 harg11 arg12 harg12 hc0 x0 x1 x2 x3 x4 xs0
      = k0_pay908 (k0_pay3 (ldX arg2.view (harg2.unread x0)) (ldN arg3.view (harg3.unread x1))) (ldC arg4.view (harg4.unread x2) ![0, 0, 3072] inb_S1x1024x4096_S1x1024x512_0_0_3072) := by
  unfold out0_B_8 kernelRun0_B
  dsimp only
  exact View.read_writes_full _ _ _ _ _

theorem gateA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x4096 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S4x128x128 .f32) (harg12 : arg12.IsWhole) (hc0 : cond0_0 i)
    (x0 : Vec F S1x512x1024 .f32) (x1 : Vec F S1x1024 .f32) (x2 : Vec F S1x1024x4096 .f32) (x3 : Vec F S2x512 .f32) (x4 : Vec F S1x512 .f32) :
    out0_A_9 c i arg2 harg2 arg3 harg3 arg4 harg4 arg5 harg5 arg6 harg6 arg7 harg7 arg8 harg8 arg9 harg9 arg10 harg10 arg11 harg11 arg12 harg12 hc0 x0 x1 x2 x3 x4
      = k0_pay993 (k0_pay992 (k0_pay3 (ldX arg2.view (harg2.unread x0)) (ldN arg3.view (harg3.unread x1))) (ldC arg4.view (harg4.unread x2) ![0, 0, 3584] inb_S1x1024x4096_S1x1024x512_0_0_3584)) := by
  unfold out0_A_9 kernelRun0_A
  dsimp only
  exact View.read_writes_full _ _ _ _ _

theorem gateB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024x4096 .f32) (harg4 : arg4.IsWhole) (arg5 : Memref sig .tc .vmem S2x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S4x128x128 .f32) (harg12 : arg12.IsWhole) (hc0 : ¬cond0_0 i)
    (x0 : Vec F S1x512x1024 .f32) (x1 : Vec F S1x1024 .f32) (x2 : Vec F S1x1024x4096 .f32) (x3 : Vec F S2x512 .f32) (x4 : Vec F S1x512 .f32) (xs0 : Vec F S4x128x128 .f32) :
    out0_B_9 c i arg2 harg2 arg3 harg3 arg4 harg4 arg5 harg5 arg6 harg6 arg7 harg7 arg8 harg8 arg9 harg9 arg10 harg10 arg11 harg11 arg12 harg12 hc0 x0 x1 x2 x3 x4 xs0
      = k0_pay993 (k0_pay992 (k0_pay3 (ldX arg2.view (harg2.unread x0)) (ldN arg3.view (harg3.unread x1))) (ldC arg4.view (harg4.unread x2) ![0, 0, 3584] inb_S1x1024x4096_S1x1024x512_0_0_3584)) := by
  unfold out0_B_9 kernelRun0_B
  dsimp only
  exact View.read_writes_full _ _ _ _ _

end Cert.Kernel3Ideal.Visit

end
-- ==== Proof.MixResult.lean ====
/- The input kernel's queries, keys, values and gates: every visit writes its own rows of the common description, and the visits cover the arrays. -/
module

public import proofs.«01_k».proof.Proof.Gen.Kernel3Ideal.Value
public import proofs.«01_k».proof.Proof.MixCase

@[expose] public section

set_option maxRecDepth 65536

noncomputable section

namespace Cert.Kernel3Ideal.Visit

open Cert.Kernel3Ideal Cert.Kernel3Ideal.Gen
open Idealize.ShloMosaic
open Idealize.ShloMosaic.TcCoe Idealize.SL.Sem Idealize.ShloMosaic.ValueIdx

variable (m : (ℓ : Loc nD τ sig) → Buf (Elt Ideal) ℓ)

/-- The indices of a block, by its two axes. -/
theorem ix_block (j : S1x512x512.Idx) : j = ix3 0 (j 1) (j 2) := by
  refine funext fun a => ?_
  match a with
  | ⟨0, _⟩ => exact Subsingleton.elim (α := Fin 1) _ _
  | ⟨1, _⟩ => rfl
  | ⟨2, _⟩ => rfl

/-! ### The queries -/

/-- The array of queries. -/
def queries (c : Dev nD) : Buf (Elt Ideal) ((c : Thread nD τ).loc main_v6_1) := fun i =>
  (Mix.query (m ((c : Thread nD τ).loc main_arg0)) (m ((c : Thread nD τ).loc main_arg1)) (m ((c : Thread nD τ).loc main_arg2)) (i 0) (i 1) (i 2) : EReal)

theorem queries_tile (c : Dev nD) (t : Fin cfg0.N) :
    (cfg0.win 6).cut (grid0.coords t) (k0_pay159 (k0_pay3 (ldX (ms0_0 t).view ((hs0_0 t).unread (iblk m c 0 t))) (ldN (ms0_1 t).view ((hs0_1 t).unread (iblk m c 1 t)))) (ldC (ms0_2 t).view ((hs0_2 t).unread (iblk m c 2 t)) ![0, 0, 2048] inb_S1x1024x4096_S1x1024x512_0_0_2048))
      = ((cfg0.win 6).blk t).view.read (Elt Ideal) (queries m c) := by
  refine funext fun (j : S1x512x512.Idx) => ?_
  rw [ix_block j]
  refine Eq.trans (b := (k0_pay159 (k0_pay3 (ldX (ms0_0 t).view ((hs0_0 t).unread (iblk m c 0 t))) (ldN (ms0_1 t).view ((hs0_1 t).unread (iblk m c 1 t)))) (ldC (ms0_2 t).view ((hs0_2 t).unread (iblk m c 2 t)) ![0, 0, 2048] inb_S1x1024x4096_S1x1024x512_0_0_2048) (ix3 0 (j 1) (j 2)) : EReal)) rfl ?_
  refine (pay159_apply _ _ (j 1) (j 2)).trans ?_
  have hi : ((cfg0.win 6).blk t).view.emb (ix3 0 (j 1) (j 2)) = ix3 (bat t) (rowIx (blk t) (j 1)) (j 2) := by
    refine funext fun a => Fin.ext ?_
    match a with
    | ⟨0, _⟩ =>
      show cc0_transform_6 (grid0.coords t) 0 * 1 + 1 * 0 = (grid0.coords t 0).val
      rw [win6_eq]; exact Nat.mul_one _
    | ⟨1, _⟩ =>
      show cc0_transform_6 (grid0.coords t) 1 * 512 + 1 * (j 1).val = 512 * (grid0.coords t 1).val + (j 1).val
      rw [win6_eq]; show (grid0.coords t 1).val * 512 + 1 * (j 1).val = _; omega
    | ⟨2, _⟩ =>
      show cc0_transform_6 (grid0.coords t) 2 * 512 + 1 * (j 2).val = (j 2).val
      rw [win6_eq]; show 0 * 512 + 1 * (j 2).val = _; omega
  refine Eq.trans ?_ (congrArg (queries m c) hi.symm)
  show _ = Mix.query _ _ _ (bat t) (rowIx (blk t) (j 1)) (j 2)
  exact congrArg (fun a : EReal => a * Mix.scale) (((sum_eq (ms0_0 t) (hs0_0 t) (ms0_1 t) (hs0_1 t) (ms0_2 t) (hs0_2 t) (iblk m c 0 t) (iblk m c 1 t) (iblk m c 2 t) 4 inb_S1x1024x4096_S1x1024x512_0_0_2048 (j 1) (j 2)).trans (proj_eq m c t (j 1) (Mix.col 4 (j 2)))))

theorem queries_flushed (c : Dev nD) (t : Fin cfg0.N) (_ : (cfg0.win 6).flush t = true) :
    (dats m 0 c).flushed 6 t = ((cfg0.win 6).blk t).view.read (Elt Ideal) (queries m c) := by
  refine Eq.trans ?_ (queries_tile m c t)
  by_cases h : t.val % 8 = 0
  · rw [Value.flushed6_A m c t h, queryA]
  · rw [Value.flushed6_B m c t h, queryB]

theorem queries_final (c : Dev nD) : (dats m 0 c).arrAt 6 cfg0.N = queries m c :=
  (dats m 0 c).arrAt_eq_of_cover 6 (queries m c) (queries_flushed m c) fun i => by
    have h0 : (i 0).val < 8 := (i 0).isLt
    have h1 : (i 1).val < 4096 := (i 1).isLt
    have h2 : (i 2).val < 512 := (i 2).isLt
    obtain ⟨t, tb, tn⟩ := point_ex ⟨(i 0).val, h0⟩ ⟨(i 1).val / 512, by omega⟩
    have tb' : (grid0.coords t 0).val = (i 0).val := congrArg Fin.val tb
    have tn' : (grid0.coords t 1).val = (i 1).val / 512 := congrArg Fin.val tn
    refine ⟨t, flush0_6 t, ?_⟩
    show i ∈ ((View.whole main_v6_1).slice (win0_6.rect t)).set
    rw [View.set_slice_whole, Rect.mem_set_unit]
    intro a
    match a with
    | ⟨0, _⟩ =>
      show cc0_transform_6 (grid0.coords t) 0 * 1 ≤ (i 0).val ∧ (i 0).val < cc0_transform_6 (grid0.coords t) 0 * 1 + 1
      rw [win6_eq]
      show (grid0.coords t 0).val * 1 ≤ (i 0).val ∧ (i 0).val < (grid0.coords t 0).val * 1 + 1
      omega
    | ⟨1, _⟩ =>
      show cc0_transform_6 (grid0.coords t) 1 * 512 ≤ (i 1).val ∧ (i 1).val < cc0_transform_6 (grid0.coords t) 1 * 512 + 512
      rw [win6_eq]
      show (grid0.coords t 1).val * 512 ≤ (i 1).val ∧ (i 1).val < (grid0.coords t 1).val * 512 + 512
      omega
    | ⟨2, _⟩ =>
      show cc0_transform_6 (grid0.coords t) 2 * 512 ≤ (i 2).val ∧ (i 2).val < cc0_transform_6 (grid0.coords t) 2 * 512 + 512
      rw [win6_eq]
      show 0 * 512 ≤ (i 2).val ∧ (i 2).val < 0 * 512 + 512
      omega

/-! ### The keys -/

/-- The array of keys. -/
def keys (c : Dev nD) : Buf (Elt Ideal) ((c : Thread nD τ).loc main_v6_2) := fun i =>
  (Mix.key (m ((c : Thread nD τ).loc main_arg0)) (m ((c : Thread nD τ).loc main_arg1)) (m ((c : Thread nD τ).loc main_arg2)) (i 0) (i 2) (i 1) : EReal)

theorem keys_tile (c : Dev nD) (t : Fin cfg0.N) :
    (cfg0.win 7).cut (grid0.coords t) (k0_pay193 (k0_pay3 (ldX (ms0_0 t).view ((hs0_0 t).unread (iblk m c 0 t))) (ldN (ms0_1 t).view ((hs0_1 t).unread (iblk m c 1 t)))) (ldC (ms0_2 t).view ((hs0_2 t).unread (iblk m c 2 t)) ![0, 0, 2560] inb_S1x1024x4096_S1x1024x512_0_0_2560))
      = ((cfg0.win 7).blk t).view.read (Elt Ideal) (keys m c) := by
  refine funext fun (j : S1x512x512.Idx) => ?_
  rw [ix_block j]
  refine Eq.trans (b := (k0_pay193 (k0_pay3 (ldX (ms0_0 t).view ((hs0_0 t).unread (iblk m c 0 t))) (ldN (ms0_1 t).view ((hs0_1 t).unread (iblk m c 1 t)))) (ldC (ms0_2 t).view ((hs0_2 t).unread (iblk m c 2 t)) ![0, 0, 2560] inb_S1x1024x4096_S1x1024x512_0_0_2560) (ix3 0 (j 1) (j 2)) : EReal)) rfl ?_
  refine (pay193_apply _ _ (j 1) (j 2)).trans ?_
  have hi : ((cfg0.win 7).blk t).view.emb (ix3 0 (j 1) (j 2)) = ix3 (bat t) (j 1) (rowIx (blk t) (j 2)) := by
    refine funext fun a => Fin.ext ?_
    match a with
    | ⟨0, _⟩ =>
      show cc0_transform_7 (grid0.coords t) 0 * 1 + 1 * 0 = (grid0.coords t 0).val
      rw [win7_eq]; exact Nat.mul_one _
    | ⟨1, _⟩ =>
      show cc0_transform_7 (grid0.coords t) 1 * 512 + 1 * (j 1).val = (j 1).val
      rw [win7_eq]; show 0 * 512 + 1 * (j 1).val = _; omega
    | ⟨2, _⟩ =>
      show cc0_transform_7 (grid0.coords t) 2 * 512 + 1 * (j 2).val = 512 * (grid0.coords t 1).val + (j 2).val
      rw [win7_eq]; show (grid0.coords t 1).val * 512 + 1 * (j 2).val = _; omega
  refine Eq.trans ?_ (congrArg (keys m c) hi.symm)
  show _ = Mix.key _ _ _ (bat t) (rowIx (blk t) (j 2)) (j 1)
  exact (sum_eq (ms0_0 t) (hs0_0 t) (ms0_1 t) (hs0_1 t) (ms0_2 t) (hs0_2 t) (iblk m c 0 t) (iblk m c 1 t) (iblk m c 2 t) 5 inb_S1x1024x4096_S1x1024x512_0_0_2560 (j 2) (j 1)).trans (proj_eq m c t (j 2) (Mix.col 5 (j 1)))

theorem keys_flushed (c : Dev nD) (t : Fin cfg0.N) (_ : (cfg0.win 7).flush t = true) :
    (dats m 0 c).flushed 7 t = ((cfg0.win 7).blk t).view.read (Elt Ideal) (keys m c) := by
  refine Eq.trans ?_ (keys_tile m c t)
  by_cases h : t.val % 8 = 0
  · rw [Value.flushed7_A m c t h, keyA]
  · rw [Value.flushed7_B m c t h, keyB]

theorem keys_final (c : Dev nD) : (dats m 0 c).arrAt 7 cfg0.N = keys m c :=
  (dats m 0 c).arrAt_eq_of_cover 7 (keys m c) (keys_flushed m c) fun i => by
    have h0 : (i 0).val < 8 := (i 0).isLt
    have h1 : (i 2).val < 4096 := (i 2).isLt
    have h2 : (i 1).val < 512 := (i 1).isLt
    obtain ⟨t, tb, tn⟩ := point_ex ⟨(i 0).val, h0⟩ ⟨(i 2).val / 512, by omega⟩
    have tb' : (grid0.coords t 0).val = (i 0).val := congrArg Fin.val tb
    have tn' : (grid0.coords t 1).val = (i 2).val / 512 := congrArg Fin.val tn
    refine ⟨t, flush0_7 t, ?_⟩
    show i ∈ ((View.whole main_v6_2).slice (win0_7.rect t)).set
    rw [View.set_slice_whole, Rect.mem_set_unit]
    intro a
    match a with
    | ⟨0, _⟩ =>
      show cc0_transform_7 (grid0.coords t) 0 * 1 ≤ (i 0).val ∧ (i 0).val < cc0_transform_7 (grid0.coords t) 0 * 1 + 1
      rw [win7_eq]
      show (grid0.coords t 0).val * 1 ≤ (i 0).val ∧ (i 0).val < (grid0.coords t 0).val * 1 + 1
      omega
    | ⟨1, _⟩ =>
      show cc0_transform_7 (grid0.coords t) 1 * 512 ≤ (i 1).val ∧ (i 1).val < cc0_transform_7 (grid0.coords t) 1 * 512 + 512
      rw [win7_eq]
      show 0 * 512 ≤ (i 1).val ∧ (i 1).val < 0 * 512 + 512
      omega
    | ⟨2, _⟩ =>
      show cc0_transform_7 (grid0.coords t) 2 * 512 ≤ (i 2).val ∧ (i 2).val < cc0_transform_7 (grid0.coords t) 2 * 512 + 512
      rw [win7_eq]
      show (grid0.coords t 1).val * 512 ≤ (i 2).val ∧ (i 2).val < (grid0.coords t 1).val * 512 + 512
      omega

/-! ### The values -/

/-- The array of values. -/
def values (c : Dev nD) : Buf (Elt Ideal) ((c : Thread nD τ).loc main_v6_3) := fun i =>
  (Mix.value (m ((c : Thread nD τ).loc main_arg0)) (m ((c : Thread nD τ).loc main_arg1)) (m ((c : Thread nD τ).loc main_arg2)) (i 0) (i 1) (i 2) : EReal)

theorem values_tile (c : Dev nD) (t : Fin cfg0.N) :
    (cfg0.win 8).cut (grid0.coords t) (k0_pay908 (k0_pay3 (ldX (ms0_0 t).view ((hs0_0 t).unread (iblk m c 0 t))) (ldN (ms0_1 t).view ((hs0_1 t).unread (iblk m c 1 t)))) (ldC (ms0_2 t).view ((hs0_2 t).unread (iblk m c 2 t)) ![0, 0, 3072] inb_S1x1024x4096_S1x1024x512_0_0_3072))
      = ((cfg0.win 8).blk t).view.read (Elt Ideal) (values m c) := by
  refine funext fun (j : S1x512x512.Idx) => ?_
  rw [ix_block j]
  refine Eq.trans (b := (k0_pay908 (k0_pay3 (ldX (ms0_0 t).view ((hs0_0 t).unread (iblk m c 0 t))) (ldN (ms0_1 t).view ((hs0_1 t).unread (iblk m c 1 t)))) (ldC (ms0_2 t).view ((hs0_2 t).unread (iblk m c 2 t)) ![0, 0, 3072] inb_S1x1024x4096_S1x1024x512_0_0_3072) (ix3 0 (j 1) (j 2)) : EReal)) rfl ?_
  refine (pay908_apply _ _ (j 1) (j 2)).trans ?_
  have hi : ((cfg0.win 8).blk t).view.emb (ix3 0 (j 1) (j 2)) = ix3 (bat t) (rowIx (blk t) (j 1)) (j 2) := by
    refine funext fun a => Fin.ext ?_
    match a with
    | ⟨0, _⟩ =>
      show cc0_transform_8 (grid0.coords t) 0 * 1 + 1 * 0 = (grid0.coords t 0).val
      rw [win8_eq]; exact Nat.mul_one _
    | ⟨1, _⟩ =>
      show cc0_transform_8 (grid0.coords t) 1 * 512 + 1 * (j 1).val = 512 * (grid0.coords t 1).val + (j 1).val
      rw [win8_eq]; show (grid0.coords t 1).val * 512 + 1 * (j 1).val = _; omega
    | ⟨2, _⟩ =>
      show cc0_transform_8 (grid0.coords t) 2 * 512 + 1 * (j 2).val = (j 2).val
      rw [win8_eq]; show 0 * 512 + 1 * (j 2).val = _; omega
  refine Eq.trans ?_ (congrArg (values m c) hi.symm)
  show _ = Mix.value _ _ _ (bat t) (rowIx (blk t) (j 1)) (j 2)
  exact (sum_eq (ms0_0 t) (hs0_0 t) (ms0_1 t) (hs0_1 t) (ms0_2 t) (hs0_2 t) (iblk m c 0 t) (iblk m c 1 t) (iblk m c 2 t) 6 inb_S1x1024x4096_S1x1024x512_0_0_3072 (j 1) (j 2)).trans (proj_eq m c t (j 1) (Mix.col 6 (j 2)))

theorem values_flushed (c : Dev nD) (t : Fin cfg0.N) (_ : (cfg0.win 8).flush t = true) :
    (dats m 0 c).flushed 8 t = ((cfg0.win 8).blk t).view.read (Elt Ideal) (values m c) := by
  refine Eq.trans ?_ (values_tile m c t)
  by_cases h : t.val % 8 = 0
  · rw [Value.flushed8_A m c t h, valueA]
  · rw [Value.flushed8_B m c t h, valueB]

theorem values_final (c : Dev nD) : (dats m 0 c).arrAt 8 cfg0.N = values m c :=
  (dats m 0 c).arrAt_eq_of_cover 8 (values m c) (values_flushed m c) fun i => by
    have h0 : (i 0).val < 8 := (i 0).isLt
    have h1 : (i 1).val < 4096 := (i 1).isLt
    have h2 : (i 2).val < 512 := (i 2).isLt
    obtain ⟨t, tb, tn⟩ := point_ex ⟨(i 0).val, h0⟩ ⟨(i 1).val / 512, by omega⟩
    have tb' : (grid0.coords t 0).val = (i 0).val := congrArg Fin.val tb
    have tn' : (grid0.coords t 1).val = (i 1).val / 512 := congrArg Fin.val tn
    refine ⟨t, flush0_8 t, ?_⟩
    show i ∈ ((View.whole main_v6_3).slice (win0_8.rect t)).set
    rw [View.set_slice_whole, Rect.mem_set_unit]
    intro a
    match a with
    | ⟨0, _⟩ =>
      show cc0_transform_8 (grid0.coords t) 0 * 1 ≤ (i 0).val ∧ (i 0).val < cc0_transform_8 (grid0.coords t) 0 * 1 + 1
      rw [win8_eq]
      show (grid0.coords t 0).val * 1 ≤ (i 0).val ∧ (i 0).val < (grid0.coords t 0).val * 1 + 1
      omega
    | ⟨1, _⟩ =>
      show cc0_transform_8 (grid0.coords t) 1 * 512 ≤ (i 1).val ∧ (i 1).val < cc0_transform_8 (grid0.coords t) 1 * 512 + 512
      rw [win8_eq]
      show (grid0.coords t 1).val * 512 ≤ (i 1).val ∧ (i 1).val < (grid0.coords t 1).val * 512 + 512
      omega
    | ⟨2, _⟩ =>
      show cc0_transform_8 (grid0.coords t) 2 * 512 ≤ (i 2).val ∧ (i 2).val < cc0_transform_8 (grid0.coords t) 2 * 512 + 512
      rw [win8_eq]
      show 0 * 512 ≤ (i 2).val ∧ (i 2).val < 0 * 512 + 512
      omega

/-! ### The gates -/

/-- The array of gates. -/
def gates (c : Dev nD) : Buf (Elt Ideal) ((c : Thread nD τ).loc main_v6_4) := fun i =>
  (Mix.gate (m ((c : Thread nD τ).loc main_arg0)) (m ((c : Thread nD τ).loc main_arg1)) (m ((c : Thread nD τ).loc main_arg2)) (i 0) (i 1) (i 2) : EReal)

theorem gates_tile (c : Dev nD) (t : Fin cfg0.N) :
    (cfg0.win 9).cut (grid0.coords t) (k0_pay993 (k0_pay992 (k0_pay3 (ldX (ms0_0 t).view ((hs0_0 t).unread (iblk m c 0 t))) (ldN (ms0_1 t).view ((hs0_1 t).unread (iblk m c 1 t)))) (ldC (ms0_2 t).view ((hs0_2 t).unread (iblk m c 2 t)) ![0, 0, 3584] inb_S1x1024x4096_S1x1024x512_0_0_3584)))
      = ((cfg0.win 9).blk t).view.read (Elt Ideal) (gates m c) := by
  refine funext fun (j : S1x512x512.Idx) => ?_
  rw [ix_block j]
  refine Eq.trans (b := (k0_pay993 (k0_pay992 (k0_pay3 (ldX (ms0_0 t).view ((hs0_0 t).unread (iblk m c 0 t))) (ldN (ms0_1 t).view ((hs0_1 t).unread (iblk m c 1 t)))) (ldC (ms0_2 t).view ((hs0_2 t).unread (iblk m c 2 t)) ![0, 0, 3584] inb_S1x1024x4096_S1x1024x512_0_0_3584)) (ix3 0 (j 1) (j 2)) : EReal)) rfl ?_
  refine (pay993_apply _ _ (j 1) (j 2)).trans ?_
  have hi : ((cfg0.win 9).blk t).view.emb (ix3 0 (j 1) (j 2)) = ix3 (bat t) (rowIx (blk t) (j 1)) (j 2) := by
    refine funext fun a => Fin.ext ?_
    match a with
    | ⟨0, _⟩ =>
      show cc0_transform_9 (grid0.coords t) 0 * 1 + 1 * 0 = (grid0.coords t 0).val
      rw [win9_eq]; exact Nat.mul_one _
    | ⟨1, _⟩ =>
      show cc0_transform_9 (grid0.coords t) 1 * 512 + 1 * (j 1).val = 512 * (grid0.coords t 1).val + (j 1).val
      rw [win9_eq]; show (grid0.coords t 1).val * 512 + 1 * (j 1).val = _; omega
    | ⟨2, _⟩ =>
      show cc0_transform_9 (grid0.coords t) 2 * 512 + 1 * (j 2).val = (j 2).val
      rw [win9_eq]; show 0 * 512 + 1 * (j 2).val = _; omega
  refine Eq.trans ?_ (congrArg (gates m c) hi.symm)
  show _ = Mix.gate _ _ _ (bat t) (rowIx (blk t) (j 1)) (j 2)
  exact congrArg (fun a : EReal => a * Tail.sigm a) (((sum_eq (ms0_0 t) (hs0_0 t) (ms0_1 t) (hs0_1 t) (ms0_2 t) (hs0_2 t) (iblk m c 0 t) (iblk m c 1 t) (iblk m c 2 t) 7 inb_S1x1024x4096_S1x1024x512_0_0_3584 (j 1) (j 2)).trans (proj_eq m c t (j 1) (Mix.col 7 (j 2)))))

theorem gates_flushed (c : Dev nD) (t : Fin cfg0.N) (_ : (cfg0.win 9).flush t = true) :
    (dats m 0 c).flushed 9 t = ((cfg0.win 9).blk t).view.read (Elt Ideal) (gates m c) := by
  refine Eq.trans ?_ (gates_tile m c t)
  by_cases h : t.val % 8 = 0
  · rw [Value.flushed9_A m c t h, gateA]
  · rw [Value.flushed9_B m c t h, gateB]

theorem gates_final (c : Dev nD) : (dats m 0 c).arrAt 9 cfg0.N = gates m c :=
  (dats m 0 c).arrAt_eq_of_cover 9 (gates m c) (gates_flushed m c) fun i => by
    have h0 : (i 0).val < 8 := (i 0).isLt
    have h1 : (i 1).val < 4096 := (i 1).isLt
    have h2 : (i 2).val < 512 := (i 2).isLt
    obtain ⟨t, tb, tn⟩ := point_ex ⟨(i 0).val, h0⟩ ⟨(i 1).val / 512, by omega⟩
    have tb' : (grid0.coords t 0).val = (i 0).val := congrArg Fin.val tb
    have tn' : (grid0.coords t 1).val = (i 1).val / 512 := congrArg Fin.val tn
    refine ⟨t, flush0_9 t, ?_⟩
    show i ∈ ((View.whole main_v6_4).slice (win0_9.rect t)).set
    rw [View.set_slice_whole, Rect.mem_set_unit]
    intro a
    match a with
    | ⟨0, _⟩ =>
      show cc0_transform_9 (grid0.coords t) 0 * 1 ≤ (i 0).val ∧ (i 0).val < cc0_transform_9 (grid0.coords t) 0 * 1 + 1
      rw [win9_eq]
      show (grid0.coords t 0).val * 1 ≤ (i 0).val ∧ (i 0).val < (grid0.coords t 0).val * 1 + 1
      omega
    | ⟨1, _⟩ =>
      show cc0_transform_9 (grid0.coords t) 1 * 512 ≤ (i 1).val ∧ (i 1).val < cc0_transform_9 (grid0.coords t) 1 * 512 + 512
      rw [win9_eq]
      show (grid0.coords t 1).val * 512 ≤ (i 1).val ∧ (i 1).val < (grid0.coords t 1).val * 512 + 512
      omega
    | ⟨2, _⟩ =>
      show cc0_transform_9 (grid0.coords t) 2 * 512 ≤ (i 2).val ∧ (i 2).val < cc0_transform_9 (grid0.coords t) 2 * 512 + 512
      rw [win9_eq]
      show 0 * 512 ≤ (i 2).val ∧ (i 2).val < 0 * 512 + 512
      omega

end Cert.Kernel3Ideal.Visit

end
-- ==== Proof.MixRef.lean ====
/- The plain program of the layer's beginning: its four results, entry by entry, are the common description. -/
module

public import proofs.«01_k».proof.Proof.Gen.Reference3Ideal.Run
public import proofs.«01_k».proof.Proof.Mix
public import Idealize.ShloMosaic.Lib.ValueLayout
public import Idealize.ShloMosaic.Lib.ValueLayoutCasts
public import Idealize.ShloMosaic.Lib.IdealHost
public import Idealize.ShloMosaic.Lib.Pointwise.Contract

@[expose] public section

noncomputable section

namespace Cert.Reference3Ideal.Read

open Cert.Reference3Ideal Cert.Reference3Ideal.Gen
open Idealize.ShloMosaic hiding ix1 ix2 ix3 ix4
open Idealize.ShloMosaic.ValueIdx Idealize.ShloMosaic.TcCoe Idealize.SL.Sem

/-! ### The stages -/

/-- The last layer's weights of the norm. -/
def vector (g : FVec Ideal S2x1024 .f32) : FVec Ideal S1024 .f32 :=
  shapeCast _ (extractStridedSlice S1x1024 ![1, 0] g slices_S2x1024_S1x1024_1_0) shapeCasts_S1x1024_S1024

/-- The norm. -/
def norms (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The half of the projection that the attention reads. -/
def half (x : FVec Ideal S8x4096x1024 .f32) (g : FVec Ideal S2x1024 .f32) (w : FVec Ideal S2x1024x4096 .f32) : FVec Ideal S8x4096x2048 .f32 :=
  extractStridedSlice S8x4096x2048 ![0, 0, 2048] (Host.dotGeneral dot_S8x4096x1024_S1024x4096_S8x4096x4096_2_0_01_1_n_n none (norms x (vector g))
    (shapeCast _ (extractStridedSlice S1x1024x4096 ![1, 0, 0] w slices_S2x1024x4096_S1x1024x4096_1_0_0) shapeCasts_S1x1024x4096_S1024x4096))
    slices_S8x4096x4096_S8x4096x2048_0_0_2048

/-- The four results. -/
def queries (p : FVec Ideal S8x4096x2048 .f32) : FVec Ideal S8x4096x512 .bf16 :=
  truncf .bf16 (Host.divf (mulf (extractStridedSlice S8x4096x512 ![0, 0, 0] p slices_S8x4096x2048_S8x4096x512_0_0_0)
    (broadcastInDim S8x4096x512 ![] bcast_S_S8x4096x512 (constant S_ .f32 0x3E000000#32)))
    (broadcastInDim S8x4096x512 ![] bcast_S_S8x4096x512 (id (Host.log (constant S_ .f32 0x40000000#32))))) bitsLt_bf16_f32
def keys (p : FVec Ideal S8x4096x2048 .f32) : FVec Ideal S8x512x4096 .bf16 :=
  truncf .bf16 (transpose S8x512x4096 [0, 2, 1] (extractStridedSlice S8x4096x512 ![0, 0, 512] p slices_S8x4096x2048_S8x4096x512_0_0_512)
    transposes_S8x4096x512_S8x512x4096_0_2_1) bitsLt_bf16_f32
def values (p : FVec Ideal S8x4096x2048 .f32) : FVec Ideal S8x4096x512 .bf16 :=
  truncf .bf16 (extractStridedSlice S8x4096x512 ![0, 0, 1024] p slices_S8x4096x2048_S8x4096x512_0_0_1024) bitsLt_bf16_f32
def gates (p : FVec Ideal S8x4096x2048 .f32) : FVec Ideal S8x4096x512 .bf16 :=
  truncf .bf16 (mulf (extractStridedSlice S8x4096x512 ![0, 0, 1536] p slices_S8x4096x2048_S8x4096x512_0_0_1536)
    (Host.divf (broadcastInDim S8x4096x512 ![] bcast_S_S8x4096x512 (constant S_ .f32 0x3F800000#32))
      (addf (broadcastInDim S8x4096x512 ![] bcast_S_S8x4096x512 (constant S_ .f32 0x3F800000#32))
        (Host.exp (Host.negf (extractStridedSlice S8x4096x512 ![0, 0, 1536] p slices_S8x4096x2048_S8x4096x512_0_0_1536)))))) bitsLt_bf16_f32

/-! ### Their entries -/

theorem vector_apply (g : FVec Ideal S2x1024 .f32) (n : Fin 1024) : vector g (ix1 n) = g (ix2 1 n) := by
  refine (shapeCast_1a_a_apply _ _ n).trans (congrArg g (funext fun a => Fin.ext ?_))
  match a with
  | ⟨0, _⟩ => rfl
  | ⟨1, _⟩ => exact Nat.zero_add _

theorem squares (x : FVec Ideal S8x4096x1024 .f32) (init : FVec Ideal S_ .f32) (h0 : ∀ i, init i = (0 : EReal))
    (h : S8x4096x1024.ReducesTo [2] S8x4096) (hu : 0 < S_.numel) (b : Fin 8) (t : Fin 4096) :
    Host.reduceAdd x init h hu (ix2 b t) = ∑ e : Fin 1024, x (ix3 b t e) := by
  have h' : S8x4096x1024.Reduces [2] S8x4096 := by decide
  refine (hostReduceAdd_apply x init h hu _).trans ((Ideal.hostReduceAdd_single h h' x _ _).trans ?_)
  rw [h0, zero_add]
  refine Finset.sum_congr rfl fun e _ => congrArg x (funext fun a => ?_)
  match a with
  | ⟨0, _⟩ => rfl
  | ⟨1, _⟩ => rfl
  | ⟨2, _⟩ => rfl

theorem norms_apply (x : FVec Ideal S8x4096x1024 .f32) (g : FVec Ideal S1024 .f32) (b : Fin 8) (t : Fin 4096) (d : Fin 1024) :
    norms x g (ix3 b t d) = Tail.rms (fun e => x (ix3 b t e)) (fun e => g (ix1 e)) d := by
  refine congrArg₂ (fun a b : EReal => a * b) (congrArg (fun a : EReal => x (ix3 b t d) * a) ?_) ?_
  · refine (broadcastInDim_apply _ _ _ _ (ix3 b t (0 : Fin 1)) fun a => by
      match a with
      | ⟨0, _⟩ => rfl
      | ⟨1, _⟩ => rfl
      | ⟨2, _⟩ => rfl).trans ?_
    refine congrArg Ideal.rsqrt (congrArg₂ (fun a b : EReal => a + b) ?_ (broadcastInDim_scalar_apply _ _ _))
    refine congrArg₂ Ideal.div ?_ (broadcastInDim_scalar_apply _ _ _)
    refine (broadcastInDim_apply _ _ _ _ (ix2 b t) fun a => by
      match a with
      | ⟨0, _⟩ => rfl
      | ⟨1, _⟩ => rfl).trans ?_
    exact squares (mulf x x) _ (fun _ => Ideal.ofBits_zero_f32) _ _ b t
  · refine (broadcastInDim_apply _ _ _ _ (ix3 (0 : Fin 1) (0 : Fin 1) d) fun a => by
      match a with
      | ⟨0, _⟩ => rfl
      | ⟨1, _⟩ => rfl
      | ⟨2, _⟩ => rfl).trans ?_
    exact broadcastInDim_apply _ _ _ _ (ix1 d) fun a => by
      match a with
      | ⟨0, _⟩ => rfl

theorem dot_apply (x : FVec Ideal S8x4096x1024 .f32) (w : FVec Ideal S1024x4096 .f32) (b : Fin 8) (t : Fin 4096) (n : Fin 4096) :
    Host.dotGeneral dot_S8x4096x1024_S1024x4096_S8x4096x4096_2_0_01_1_n_n none x w (ix3 b t n) = ∑ k : Fin 1024, (x (ix3 b t k) * w (ix2 k n) : EReal) := by
  refine (Ideal.dotGeneral_apply _ _ _ _ _ _).trans ?_
  rw [DotDims.sum_contr₁ (dot_S8x4096x1024_S1024x4096_S8x4096x4096_2_0_01_1_n_n) (a := 2) rfl (K := 1024) rfl]
  refine Finset.sum_congr rfl fun d _ => congrArg₂ (fun a b : EReal => a * b) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

theorem matrix_apply (w : FVec Ideal S2x1024x4096 .f32) (k : Fin 1024) (n : Fin 4096) :
    shapeCast S1024x4096 (extractStridedSlice S1x1024x4096 ![1, 0, 0] w slices_S2x1024x4096_S1x1024x4096_1_0_0) shapeCasts_S1x1024x4096_S1024x4096 (ix2 k n)
      = w (ix3 1 k n) := by
  refine (shapeCast_1ab_ab_apply _ _ k n).trans (congrArg w (funext fun a => Fin.ext ?_))
  match a with
  | ⟨0, _⟩ => rfl
  | ⟨1, _⟩ => exact Nat.zero_add _
  | ⟨2, _⟩ => exact Nat.zero_add _

/-- Column `n` of the 512 that begin at `512 * o` of the attention's half. -/
def sub (o : Fin 4) (n : Fin 512) : Fin 2048 := ⟨512 * o.val + n.val, by have := o.isLt; have := n.isLt; omega⟩

theorem half_apply (x : FVec Ideal S8x4096x1024 .f32) (g : FVec Ideal S2x1024 .f32) (w : FVec Ideal S2x1024x4096 .f32) (b : Fin 8) (t : Fin 4096)
    (o : Fin 4) (o' : Fin 8) (ho : o'.val = 4 + o.val) (n : Fin 512) :
    half x g w (ix3 b t (sub o n)) = Mix.entry x g w b t (Mix.col o' n) := by
  unfold half
  refine (congrArg (Host.dotGeneral dot_S8x4096x1024_S1024x4096_S8x4096x4096_2_0_01_1_n_n none _ _) (a₂ := ix3 b t (Mix.col o' n)) (funext fun a => Fin.ext ?_)).trans ?_
  · match a with
    | ⟨0, _⟩ => exact Nat.zero_add _
    | ⟨1, _⟩ => exact Nat.zero_add _
    | ⟨2, _⟩ => show 2048 + (512 * o.val + n.val) = 512 * o'.val + n.val; omega
  · refine (dot_apply _ _ b t _).trans ?_
    unfold Mix.entry Mix.proj
    refine Finset.sum_congr rfl fun k _ => congrArg₂ (fun a b : EReal => a * b) ((norms_apply x _ b t k).trans ?_) (matrix_apply w k _)
    exact congrArg (fun h => Tail.rms (fun e => x (ix3 b t e)) h k) (funext fun e => vector_apply g e)

theorem cut_apply (p : FVec Ideal S8x4096x2048 .f32) (o : Fin 4) (off : Fin 3 → ℕ) (h : S8x4096x2048.Slices off S8x4096x512)
    (e0 : off 0 = 0) (e1 : off 1 = 0) (e2 : off 2 = 512 * o.val) (b : Fin 8) (t : Fin 4096) (n : Fin 512) :
    extractStridedSlice S8x4096x512 off p h (ix3 b t n) = p (ix3 b t (sub o n)) := by
  refine congrArg p (funext fun a => Fin.ext ?_)
  match a with
  | ⟨0, _⟩ => show off 0 + b.val = b.val; omega
  | ⟨1, _⟩ => show off 1 + t.val = t.val; omega
  | ⟨2, _⟩ => show off 2 + n.val = 512 * o.val + n.val; omega

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [ofBits_two, Ideal.log_coe, if_neg (by norm_num)]

theorem scaled (p : EReal) : Ideal.div (p * Ideal.ofBits .f32 0x3E000000#32) (Ideal.log (Ideal.ofBits .f32 0x40000000#32)) = p * Mix.scale := by
  rw [log_two, Ideal.div_coe (Real.log_pos (by norm_num)).ne', ofBits_eighth, mul_assoc, ← EReal.coe_mul, one_div (Real.log 2)]
  rfl

variable (x : FVec Ideal S8x4096x1024 .f32) (g : FVec Ideal S2x1024 .f32) (w : FVec Ideal S2x1024x4096 .f32)

theorem query_apply (b : Fin 8) (t : Fin 4096) (n : Fin 512) : (queries (half x g w) (ix3 b t n) : EReal) = Mix.query x g w b t n := by
  refine Eq.trans ?_ (scaled (Mix.entry x g w b t (Mix.col 4 n)))
  refine congrArg₂ Ideal.div (congrArg₂ (fun a b : EReal => a * b) ?_ (broadcastInDim_scalar_apply _ _ _)) (broadcastInDim_scalar_apply _ _ _)
  exact (cut_apply (half x g w) 0 _ _ rfl rfl rfl b t n).trans (half_apply x g w b t 0 4 rfl n)

theorem key_apply (b : Fin 8) (t : Fin 4096) (n : Fin 512) : (keys (half x g w) (ix3 b n t) : EReal) = Mix.key x g w b t n := by
  unfold keys
  show (transpose S8x512x4096 [0, 2, 1] (extractStridedSlice S8x4096x512 ![0, 0, 512] (half x g w) slices_S8x4096x2048_S8x4096x512_0_0_512)
    transposes_S8x4096x512_S8x512x4096_0_2_1 (ix3 b n t) : EReal) = _
  refine (transpose_apply _ _ _ (ix3 b n t) (ix3 b t n) fun c => by
    match c with
    | ⟨0, _⟩ => rfl
    | ⟨1, _⟩ => rfl
    | ⟨2, _⟩ => rfl).trans ?_
  exact (cut_apply (half x g w) 1 _ _ rfl rfl rfl b t n).trans (half_apply x g w b t 1 5 rfl n)

theorem value_apply (b : Fin 8) (t : Fin 4096) (n : Fin 512) : (values (half x g w) (ix3 b t n) : EReal) = Mix.value x g w b t n :=
  (cut_apply (half x g w) 2 _ slices_S8x4096x2048_S8x4096x512_0_0_1024 rfl rfl rfl b t n).trans (half_apply x g w b t 2 6 rfl n)

theorem gate_apply (b : Fin 8) (t : Fin 4096) (n : Fin 512) : (gates (half x g w) (ix3 b t n) : EReal) = Mix.gate x g w b t n := by
  have h1 : (broadcastInDim S8x4096x512 ![] bcast_S_S8x4096x512 (constant (F := Ideal) S_ .f32 0x3F800000#32)) (ix3 b t n) = (1 : EReal) :=
    (broadcastInDim_scalar_apply _ _ _).trans Ideal.ofBits_one_f32
  have e : extractStridedSlice S8x4096x512 ![0, 0, 1536] (half x g w) slices_S8x4096x2048_S8x4096x512_0_0_1536 (ix3 b t n) = Mix.entry x g w b t (Mix.col 7 n) :=
    (cut_apply (half x g w) 3 _ _ rfl rfl rfl b t n).trans (half_apply x g w b t 3 7 rfl n)
  refine congrArg₂ (fun a b : EReal => a * b) e ?_
  exact congrArg₂ Ideal.div h1 (congrArg₂ (fun a b : EReal => a + b) h1 (congrArg (fun a : EReal => Ideal.exp (-a)) e))

/-! ### The arrays, whole -/

theorem queries_eq : queries (half x g w) = fun i : (⟨3, ![8, 4096, 512]⟩ : Shape).Idx => Mix.query x g w (i 0) (i 1) (i 2) :=
  funext fun (i : (⟨3, ![8, 4096, 512]⟩ : Shape).Idx) => (congrArg (queries (half x g w)) (ValueIdx.eq_ix3 i)).trans (query_apply x g w (i 0) (i 1) (i 2))

theorem keys_eq : keys (half x g w) = fun i : (⟨3, ![8, 512, 4096]⟩ : Shape).Idx => Mix.key x g w (i 0) (i 2) (i 1) :=
  funext fun (i : (⟨3, ![8, 512, 4096]⟩ : Shape).Idx) => (congrArg (keys (half x g w)) (ValueIdx.eq_ix3 i)).trans (key_apply x g w (i 0) (i 2) (i 1))

theorem values_eq : values (half x g w) = fun i : (⟨3, ![8, 4096, 512]⟩ : Shape).Idx => Mix.value x g w (i 0) (i 1) (i 2) :=
  funext fun (i : (⟨3, ![8, 4096, 512]⟩ : Shape).Idx) => (congrArg (values (half x g w)) (ValueIdx.eq_ix3 i)).trans (value_apply x g w (i 0) (i 1) (i 2))

theorem gates_eq : gates (half x g w) = fun i : (⟨3, ![8, 4096, 512]⟩ : Shape).Idx => Mix.gate x g w (i 0) (i 1) (i 2) :=
  funext fun (i : (⟨3, ![8, 4096, 512]⟩ : Shape).Idx) => (congrArg (gates (half x g w)) (ValueIdx.eq_ix3 i)).trans (gate_apply x g w (i 0) (i 1) (i 2))

end Cert.Reference3Ideal.Read

end
-- ==== Proof.First.lean ====
/- The end of a layer before the last in mathematics: the residual row with the gated embedding added, and no norm after it. -/
module

public import proofs.«01_k».proof.Proof.Tail

@[expose] public section

noncomputable section

namespace Cert.Tail

open Idealize.ShloMosaic Idealize.ShloMosaic.ValueIdx

/-- One row handed on to the next layer. -/
def onward (h : Fin 1024 → EReal) (a b : Fin 512 → EReal) (p : Fin 256 → EReal) (wo : Fin 1024 → Fin 1024 → EReal)
    (gn : Fin 1024 → EReal) (wg : Fin 1024 → Fin 1024 → EReal) (wp : Fin 256 → Fin 1024 → EReal)
    (post : Fin 1024 → EReal) : Fin 1024 → EReal :=
  gated (mixed h a b wo) (times p wp) gn post wg

/-- The stream at batch entry `b`, row `t` and column `d` with the first layer's weights, which are those of index 0. -/
def between (h : Arr3 8 4096 1024) (ya yb : Arr3 8 4096 512) (p : Arr4 2 8 4096 256) (wo : Arr3 2 1024 1024) (gn : Arr2 2 1024)
    (wg : Arr3 2 1024 1024) (wp : Arr3 2 256 1024) (post : Arr2 2 1024) (b : Fin 8) (t : Fin 4096) : Fin 1024 → EReal :=
  onward (fun n => h (ix3 b t n)) (fun k => ya (ix3 b t k)) (fun k => yb (ix3 b t k)) (fun k => p (ix4 0 b t k)) (fun k n => wo (ix3 0 k n))
    (fun n => gn (ix2 0 n)) (fun k n => wg (ix3 0 k n)) (fun k n => wp (ix3 0 k n)) (fun n => post (ix2 0 n))

end Cert.Tail

end
-- ==== Proof.FirstTile.lean ====
/- The tile functions of the first layer's output kernel: what each reads at one row and one column, and the block one visit writes. -/
module

public import proofs.«01_k».proof.Proof.Gen.Kernel4Ideal.Value
public import proofs.«01_k».proof.Proof.First
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pipeline.ValueKit.Tiles

@[expose] public section

noncomputable section

namespace Cert.Kernel4Ideal.Visit

open Cert.Kernel4Ideal Cert.Kernel4Ideal.Gen
open Idealize.ShloMosaic
open Idealize.ShloMosaic.TcCoe Idealize.SL.Sem Idealize.ShloMosaic.ValueIdx

/-- A tile of rows, each divided by its root mean square and weighted. -/
def normT (x : FVec Ideal S256x1024 .f32) (g : FVec Ideal S1x1024 .f32) : FVec Ideal S256x1024 .f32 :=
  mulf (mulf x (broadcastTo S256x1024 (rsqrt (addf (divf
      (shapeCast S256x1 (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
    broadcasts_S256x1_S256x1024)) (broadcastTo S256x1024 (shapeCast S1x1024 g shapeCasts_S1x1024_S1x1024) broadcasts_S1x1024_S256x1024)

/-- A tile through the logistic function. -/
def sigmT (x : FVec Ideal S256x1024 .f32) : FVec Ideal S256x1024 .f32 :=
  divf (broadcast S256x1024 (Scalar.ofBits .f32 0x3F800000#32)) (addf (broadcast S256x1024 (Scalar.ofBits .f32 0x3F800000#32))
    (exp (subf (broadcast S256x1024 (Scalar.ofBits .f32 0x00000000#32)) x)))

/-- The gate's product of a tile with the gate's matrix. -/
def gateT (w : FVec Ideal S1024x1024 .bf16) (u : FVec Ideal S256x1024 .f32) (g : FVec Ideal S1x1024 .f32) : FVec Ideal S256x1024 .f32 :=
  matmul dot_S256x1024_S1024x1024_S256x1024_1_0_0_1_n_n none (truncf .bf16 (normT u g) bitsLt_bf16_f32) w (constant S256x1024 .f32 0x00000000#32)

/-- The tile a visit writes from the residual tile, the embedding's tile and the gate's. -/
def nextT (u e z : FVec Ideal S256x1024 .f32) (post : FVec Ideal S1x1024 .f32) : FVec Ideal S256x1024 .f32 :=
  addf u (mulf (sigmT z) (normT e post))

theorem pay10_eq (w : FVec Ideal S1024x1024 .bf16) (u : FVec Ideal S256x1024 .f32) (g : FVec Ideal S1x1024 .f32) :
    k0_pay10 (F := Ideal) w u g = gateT w u g := rfl

theorem pay14_eq (w : FVec Ideal S1024x1024 .bf16) (a b : FVec Ideal S512x1024 .bf16) (x : FVec Ideal S1x256x1024 .f32)
    (y z : FVec Ideal S1x256x512 .bf16) (g : FVec Ideal S1x1024 .f32) :
    k0_pay14 (F := Ideal) w (k0_pay8 a b x y z) (k0_pay11 g) (k0_pay12 a b x y z) (Scalar.ofBits .f32 0x358637BD#32)
      = sigmT (gateT w (k0_pay8 a b x y z) g) := rfl

theorem pay13_eq (u e z : FVec Ideal S256x1024 .f32) (post : FVec Ideal S1x1024 .f32) :
    k0_pay13 (F := Ideal) u e z post = shapeCast S1x256x1024 (nextT u e z post) shapeCasts_S256x1024_S1x256x1024 := rfl

theorem pay1_eq (u e z : FVec Ideal S256x1024 .f32) (post : FVec Ideal S1x1024 .f32) :
    k0_pay1 (F := Ideal) u e (sigmT z) post = shapeCast S1x256x1024 (nextT u e z post) shapeCasts_S256x1024_S1x256x1024 := rfl

theorem zeros_apply (s : Shape) (i : s.Idx) : constant (F := Ideal) s .f32 0x00000000#32 i = 0 := Ideal.ofBits_zero_f32

theorem lift_of_row {m n : Nat} (h : (⟨2, ![m, n]⟩ : Shape).Reduces [1] (⟨1, ![m]⟩ : Shape)) (x : Fin m)
    (k : Fin ((⟨2, ![m, n]⟩ : Shape).size 1)) : h.lift (ix1 x) k = ix2 x (⟨k.val, k.isLt⟩ : Fin n) := by
  funext c; apply Fin.ext
  fin_cases c <;> rfl

theorem normT_apply (x : FVec Ideal S256x1024 .f32) (g : FVec Ideal S1x1024 .f32) (i : Fin 256) (d : Fin 1024) :
    normT x g (ix2 i d) = Tail.rms (fun e => x (ix2 i e)) (fun e => g (ix2 0 e)) d := by
  unfold normT Tail.rms
  refine congrArg₂ (fun a b : EReal => a * b) (congrArg (fun b : EReal => x (ix2 i d) * b) ?_) ?_
  · refine (broadcastTo_apply _ _ _ (ix2 i 0) fun a => ?_).trans ?_
    · match a with
      | ⟨0, _⟩ => rfl
      | ⟨1, _⟩ => rfl
    · refine congrArg (fun s : EReal => Ideal.rsqrt (Ideal.div s Tail.width + Tail.eps)) ?_
      refine (shapeCast_a_a1_apply _ _ _ _).trans ((Ideal.multiReduction_add_single _ _ _ _ _ _).trans ?_)
      exact Finset.sum_congr rfl fun k _ => congrArg (mulf x x) (lift_of_row _ i k)
  · refine (broadcastTo_apply _ _ _ (ix2 0 d) fun a => ?_).trans ?_
    · match a with
      | ⟨0, _⟩ => rfl
      | ⟨1, _⟩ => rfl
    · rw [shapeCast_self]

theorem sigmT_apply (x : FVec Ideal S256x1024 .f32) (i : S256x1024.Idx) : sigmT x i = Tail.sigm (x i) := by
  show Ideal.div (Ideal.ofBits .f32 0x3F800000#32) (Ideal.ofBits .f32 0x3F800000#32 + Ideal.exp (Ideal.ofBits .f32 0x00000000#32 - x i)) = _
  rw [Ideal.ofBits_one_f32, Ideal.ofBits_zero_f32, zero_sub]
  rfl

theorem gateT_apply (w : FVec Ideal S1024x1024 .bf16) (u : FVec Ideal S256x1024 .f32) (g : FVec Ideal S1x1024 .f32) (i : Fin 256) (d : Fin 1024) :
    gateT w u g (ix2 i d) = Tail.times (Tail.rms (fun e => u (ix2 i e)) fun e => g (ix2 0 e)) (fun k e => w (ix2 k e)) d := by
  refine (Ideal.matmul_plain_apply (M := 256) (K := 1024) (N := 1024) none _ _ _ i d).trans ?_
  rw [zeros_apply, zero_add]
  exact Finset.sum_congr rfl fun k _ => congrArg (fun a : EReal => a * w (ix2 k d)) (normT_apply u g i k)

theorem nextT_apply (u e z : FVec Ideal S256x1024 .f32) (post : FVec Ideal S1x1024 .f32) (i : Fin 256) (n : Fin 1024) :
    nextT u e z post (ix2 i n) = u (ix2 i n) + Tail.sigm (z (ix2 i n)) * Tail.rms (fun k => e (ix2 i k)) (fun k => post (ix2 0 k)) n :=
  congrArg (fun y : EReal => u (ix2 i n) + y) (congrArg₂ (fun a b : EReal => a * b) (sigmT_apply z _) (normT_apply e post i n))

theorem pay8_apply (a b : FVec Ideal S512x1024 .bf16) (x : FVec Ideal S1x256x1024 .f32) (y z : FVec Ideal S1x256x512 .bf16) (i : Fin 256) (d : Fin 1024) :
    k0_pay8 (F := Ideal) a b x y z (ix2 i d) = x (ix3 0 i d) + Tail.times (fun k => y (ix3 0 i k)) (fun k e => a (ix2 k e)) d
      + Tail.times (fun k => z (ix3 0 i k)) (fun k e => b (ix2 k e)) d := by
  unfold k0_pay8
  refine congrArg₂ (fun p q : EReal => p + q) (congrArg₂ (fun p q : EReal => p + q) (shapeCast_1ab_ab_apply x _ i d) ?_) ?_
  · refine (Ideal.matmul_plain_apply (M := 256) (K := 512) (N := 1024) none _ _ _ i d).trans ?_
    rw [zeros_apply, zero_add]
    exact Finset.sum_congr rfl fun k _ => congrArg (fun t : EReal => t * a (ix2 k d)) (shapeCast_1ab_ab_apply y _ i k)
  · refine (Ideal.matmul_plain_apply (M := 256) (K := 512) (N := 1024) none _ _ _ i d).trans ?_
    rw [zeros_apply, zero_add]
    exact Finset.sum_congr rfl fun k _ => congrArg (fun t : EReal => t * b (ix2 k d)) (shapeCast_1ab_ab_apply z _ i k)

theorem pay6_eq (v w : FVec Ideal S1x512x1024 .f32) (x : FVec Ideal S1x256x1024 .f32) (y z : FVec Ideal S1x256x512 .bf16) :
    k0_pay6 (F := Ideal) v w x y z = k0_pay8 (k0_pay2 v) (k0_pay3 w) x y z := rfl

theorem pay7_eq (v : FVec Ideal S1x256x1024 .f32) (x : FVec Ideal S1x1x256x256 .f32) :
    k0_pay7 (F := Ideal) v x = k0_pay9 (k0_pay4 v) x := rfl

theorem pay2_apply (v : FVec Ideal S1x512x1024 .f32) (k : Fin 512) (d : Fin 1024) : (k0_pay2 (F := Ideal) v (ix2 k d) : EReal) = v (ix3 0 k d) :=
  shapeCast_1ab_ab_apply v _ k d
theorem pay3_apply (v : FVec Ideal S1x512x1024 .f32) (k : Fin 512) (d : Fin 1024) : (k0_pay3 (F := Ideal) v (ix2 k d) : EReal) = v (ix3 0 k d) :=
  shapeCast_1ab_ab_apply v _ k d
theorem pay4_apply (v : FVec Ideal S1x256x1024 .f32) (k : Fin 256) (d : Fin 1024) : (k0_pay4 (F := Ideal) v (ix2 k d) : EReal) = v (ix3 0 k d) :=
  shapeCast_1ab_ab_apply v _ k d
theorem pay5_apply (v : FVec Ideal S1x1024x1024 .f32) (k d : Fin 1024) : (k0_pay5 (F := Ideal) v (ix2 k d) : EReal) = v (ix3 0 k d) :=
  shapeCast_1ab_ab_apply v _ k d

theorem flat4_apply (x : FVec Ideal S1x1x256x256 .f32) (h : S1x1x256x256.ShapeCasts S256x256) (i k : Fin 256) :
    shapeCast S256x256 x h (ix2 i k) = x (ix4 0 0 i k) := by
  refine shapeCast_apply _ h _ _ ?_
  rw [Shape.rowMajor_val_four, Shape.rowMajor_val_two]
  show ((0 * 1 + 0) * 256 + i.val) * 256 + k.val = i.val * 256 + k.val
  omega

theorem pay9_apply (w : FVec Ideal S256x1024 .bf16) (x : FVec Ideal S1x1x256x256 .f32) (i : Fin 256) (d : Fin 1024) :
    k0_pay9 (F := Ideal) w x (ix2 i d) = Tail.times (fun k => x (ix4 0 0 i k)) (fun k e => w (ix2 k e)) d := by
  unfold k0_pay9
  refine (Ideal.matmul_plain_apply (M := 256) (K := 256) (N := 1024) none _ _ _ i d).trans ?_
  rw [zeros_apply, zero_add]
  exact Finset.sum_congr rfl fun k _ => congrArg (fun t : EReal => t * w (ix2 k d)) (flat4_apply x _ i k)

/-- A visit's tile, row by row, from the tiles it is computed from. -/
theorem tile_row (wa wb : FVec Ideal S1x512x1024 .f32) (wg : FVec Ideal S1x1024x1024 .f32) (wp : FVec Ideal S1x256x1024 .f32)
    (gn post : FVec Ideal S1x1024 .f32) (x : FVec Ideal S1x256x1024 .f32) (y z : FVec Ideal S1x256x512 .bf16)
    (p : FVec Ideal S1x1x256x256 .f32) (wo : Fin 1024 → Fin 1024 → EReal)
    (ha : ∀ k d, (wa (ix3 0 k d) : EReal) = Tail.upper wo k d) (hb : ∀ k d, (wb (ix3 0 k d) : EReal) = Tail.lower wo k d)
    (i : Fin 256) (d : Fin 1024) :
    nextT (k0_pay8 (k0_pay2 wa) (k0_pay3 wb) x y z) (k0_pay9 (k0_pay4 wp) p)
        (gateT (k0_pay5 wg) (k0_pay8 (k0_pay2 wa) (k0_pay3 wb) x y z) gn) post (ix2 i d)
      = Tail.onward (fun n => x (ix3 0 i n)) (fun k => y (ix3 0 i k)) (fun k => z (ix3 0 i k)) (fun k => p (ix4 0 0 i k)) wo
          (fun n => gn (ix2 0 n)) (fun k n => wg (ix3 0 k n)) (fun k n => wp (ix3 0 k n)) (fun n => post (ix2 0 n)) d := by
  have hu : ∀ n, k0_pay8 (F := Ideal) (k0_pay2 wa) (k0_pay3 wb) x y z (ix2 i n)
      = Tail.mixed (fun n => x (ix3 0 i n)) (fun k => y (ix3 0 i k)) (fun k => z (ix3 0 i k)) wo n := fun n => by
    rw [pay8_apply]
    unfold Tail.mixed Tail.times
    refine congrArg₂ (fun p q : EReal => p + q) (congrArg (fun q : EReal => x (ix3 0 i n) + q) ?_) ?_
    · exact Finset.sum_congr rfl fun k _ => congrArg (fun t : EReal => y (ix3 0 i k) * t) ((pay2_apply wa k n).trans (ha k n))
    · exact Finset.sum_congr rfl fun k _ => congrArg (fun t : EReal => z (ix3 0 i k) * t) ((pay3_apply wb k n).trans (hb k n))
  refine (nextT_apply _ _ _ post i d).trans ?_
  unfold Tail.onward Tail.gated
  refine congrArg₂ (fun p q : EReal => p + q) (hu d) (congrArg₂ (fun p q : EReal => p * q) (congrArg Tail.sigm ?_) ?_)
  · refine (gateT_apply _ _ gn i d).trans ?_
    exact congrArg₂ (fun (f : Fin 1024 → EReal) (w : Fin 1024 → Fin 1024 → EReal) => Tail.times (Tail.rms f fun e => gn (ix2 0 e)) w d)
      (funext hu) (funext fun k => funext fun e => pay5_apply wg k e)
  · refine congrArg (fun f => Tail.rms f (fun k => post (ix2 0 k)) d) (funext fun k => ?_)
    refine (pay9_apply _ p i k).trans ?_
    exact congrArg (fun w : Fin 256 → Fin 1024 → EReal => Tail.times (fun k => p (ix4 0 0 i k)) w k) (funext fun a => funext fun e => pay4_apply wp a e)

end Cert.Kernel4Ideal.Visit

end
-- ==== Proof.FirstResult.lean ====
/- The result array of the first layer's output kernel: every visit writes its own rows of the common description, and the visits cover it. -/
module

public import proofs.«01_k».proof.Proof.FirstTile
public import Idealize.ShloMosaic.Lib.StableHlo.Run

@[expose] public section

set_option maxRecDepth 65536

noncomputable section

namespace Cert.Kernel4Ideal.Visit

open Cert.Kernel4Ideal Cert.Kernel4Ideal.Gen
open Idealize.ShloMosaic
open Idealize.ShloMosaic.TcCoe Idealize.SL.Sem Idealize.ShloMosaic.ValueIdx

/-- One block of the result from the blocks a visit reads. -/
def blockRow (x0 : Vec Ideal S1x512x1024 .f32) (x1 x2 : Vec Ideal S1x512x512 .bf16) (x3 : Vec Ideal S1x1024x1024 .f32)
    (x4 : Vec Ideal S1x1x512x256 .f32) (x5 : Vec Ideal S1x256x1024 .f32) (x6 x7 : Vec Ideal S1x1024 .f32)
    (x8 : Vec Ideal S1x1024x1024 .f32) (i : Fin 512) : Fin 1024 → EReal :=
  Tail.onward (fun n => x0 (ix3 0 i n)) (fun k => x1 (ix3 0 i k)) (fun k => x2 (ix3 0 i k)) (fun k => x4 (ix4 0 0 i k))
    (fun k n => x3 (ix3 0 k n)) (fun n => x7 (ix2 0 n)) (fun k n => x8 (ix3 0 k n)) (fun k n => x5 (ix3 0 k n))
    (fun n => x6 (ix2 0 n))

section Block

variable (x0 : Vec Ideal S1x512x1024 .f32) (x1 x2 : Vec Ideal S1x512x512 .bf16) (x3 : Vec Ideal S1x1024x1024 .f32)
  (x4 : Vec Ideal S1x1x512x256 .f32) (x5 : Vec Ideal S1x256x1024 .f32) (x6 x7 : Vec Ideal S1x1024 .f32)
  (x8 : Vec Ideal S1x1024x1024 .f32) (x9 : Vec Ideal S1x1024 .f32)

/-- The tile of the half of a block whose rows begin at `o`. -/
theorem half_row (o : Nat) (x : FVec Ideal S1x256x1024 .f32) (y z : FVec Ideal S1x256x512 .bf16) (p : FVec Ideal S1x1x256x256 .f32)
    (hx : ∀ (i : Fin 256) (j : Fin 512) n, j.val = o + i.val → x (ix3 0 i n) = x0 (ix3 0 j n))
    (hy : ∀ (i : Fin 256) (j : Fin 512) n, j.val = o + i.val → y (ix3 0 i n) = x1 (ix3 0 j n))
    (hz : ∀ (i : Fin 256) (j : Fin 512) n, j.val = o + i.val → z (ix3 0 i n) = x2 (ix3 0 j n))
    (hp : ∀ (i : Fin 256) (j : Fin 512) n, j.val = o + i.val → p (ix4 0 0 i n) = x4 (ix4 0 0 j n))
    (i : Fin 256) (j : Fin 512) (h : j.val = o + i.val) (d : Fin 1024) :
    nextT (k0_pay8 (k0_pay2 (View.ld x3 r0_0)) (k0_pay3 (View.ld x3 r0_1)) x y z) (k0_pay9 (k0_pay4 (View.ld x5 r0_2)) p)
        (gateT (k0_pay5 (View.ld x8 r0_3)) (k0_pay8 (k0_pay2 (View.ld x3 r0_0)) (k0_pay3 (View.ld x3 r0_1)) x y z) (View.ld x7 r0_10))
        (View.ld x6 r0_10) (ix2 i d)
      = blockRow x0 x1 x2 x3 x4 x5 x6 x7 x8 j d := by
  refine (tile_row (View.ld x3 r0_0) (View.ld x3 r0_1) (View.ld x8 r0_3) (View.ld x5 r0_2) (View.ld x7 r0_10) (View.ld x6 r0_10)
    x y z p (fun k n => x3 (ix3 0 k n)) (fun k d => ?_) (fun k d => ?_) i d).trans ?_
  · refine View.ld_unit_apply_of _ _ _ _ _ _ fun a => ?_
    match a with
    | ⟨0, _⟩ => rfl
    | ⟨1, _⟩ => exact (Nat.zero_add _).symm
    | ⟨2, _⟩ => exact (Nat.zero_add _).symm
  · refine View.ld_unit_apply_of _ _ _ _ _ _ fun a => ?_
    match a with
    | ⟨0, _⟩ => rfl
    | ⟨1, _⟩ => rfl
    | ⟨2, _⟩ => exact (Nat.zero_add _).symm
  · have e8 : View.ld x8 r0_3 = x8 := View.ld_unit_lit _ _ (by decide)
    have e5 : View.ld x5 r0_2 = x5 := View.ld_unit_lit _ _ (by decide)
    have e7 : View.ld x7 r0_10 = x7 := View.ld_unit_lit _ _ (by decide)
    have e6 : View.ld x6 r0_10 = x6 := View.ld_unit_lit _ _ (by decide)
    rw [e8, e5, e7, e6]
    unfold blockRow
    rw [funext fun n => hx i j n h, funext fun n => hy i j n h, funext fun n => hz i j n h, funext fun n => hp i j n h]

theorem block_apply (i : Fin 512) (d : Fin 1024) :
    out0_10 x0 x1 x2 x3 x4 x5 x6 x7 x8 x9 (ix3 0 i d) = blockRow x0 x1 x2 x3 x4 x5 x6 x7 x8 i d := by
  unfold out0_10
  refine (View.canon_apply_of_pieces (Val := Elt Ideal) (fun y : S1x512x1024.Idx => blockRow x0 x1 x2 x3 x4 x5 x6 x7 x8 (y 1) (y 2)) _ ?_ _ ?_).trans rfl
  · intro q hq
    rcases List.mem_cons.1 hq with rfl | hq
    · intro (x : S1x256x1024.Idx)
      have hi : x = ix3 0 (x 1) (x 2) := by
        refine funext fun a => ?_
        match a with
        | ⟨0, _⟩ => exact Subsingleton.elim (α := Fin 1) _ _
        | ⟨1, _⟩ => rfl
        | ⟨2, _⟩ => rfl
      have h2 : (r0_7.emb x) 2 = x 2 := Fin.ext (by show 0 + 1 * (x 2).val = (x 2).val; omega)
      refine Eq.trans ?_ (congrArg (blockRow x0 x1 x2 x3 x4 x5 x6 x7 x8 (r0_7.emb x 1)) h2.symm)
      refine Eq.trans ?_ (half_row x0 x1 x2 x3 x4 x5 x6 x7 x8 256 (View.ld x0 r0_7) (View.ld x1 r0_8) (View.ld x2 r0_8) (View.ld x4 r0_9) ?_ ?_ ?_ ?_
        (x 1) (r0_7.emb x 1) (by show 256 + 1 * (x 1).val = 256 + (x 1).val; omega) (x 2))
      · refine (congrArg _ hi).trans ?_
        dsimp only
        unfold k0_pay19 k0_pay17 k0_pay16 k0_pay15
        rw [pay14_eq, pay1_eq]
        exact shapeCast_ab_1ab_apply _ _ 0 (x 1) (x 2)
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => rfl
        | ⟨2, _⟩ => exact h
        | ⟨3, _⟩ => exact (Nat.zero_add _).symm
    · obtain rfl := List.mem_singleton.1 hq
      intro (x : S1x256x1024.Idx)
      have hi : x = ix3 0 (x 1) (x 2) := by
        refine funext fun a => ?_
        match a with
        | ⟨0, _⟩ => exact Subsingleton.elim (α := Fin 1) _ _
        | ⟨1, _⟩ => rfl
        | ⟨2, _⟩ => rfl
      have h2 : (r0_4.emb x) 2 = x 2 := Fin.ext (by show 0 + 1 * (x 2).val = (x 2).val; omega)
      refine Eq.trans ?_ (congrArg (blockRow x0 x1 x2 x3 x4 x5 x6 x7 x8 (r0_4.emb x 1)) h2.symm)
      refine Eq.trans ?_ (half_row x0 x1 x2 x3 x4 x5 x6 x7 x8 0 (View.ld x0 r0_4) (View.ld x1 r0_5) (View.ld x2 r0_5) (View.ld x4 r0_6) ?_ ?_ ?_ ?_
        (x 1) (r0_4.emb x 1) (by show 0 + 1 * (x 1).val = 0 + (x 1).val; omega) (x 2))
      · refine (congrArg _ hi).trans ?_
        dsimp only
        unfold k0_pay18 k0_pay17
        rw [pay13_eq, pay6_eq, pay7_eq, pay10_eq]
        exact shapeCast_ab_1ab_apply _ _ 0 (x 1) (x 2)
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => exact h
        | ⟨2, _⟩ => exact (Nat.zero_add _).symm
      · intro i j n h
        refine View.ld_unit_apply_of _ _ _ _ _ _ fun a => ?_
        match a with
        | ⟨0, _⟩ => rfl
        | ⟨1, _⟩ => rfl
        | ⟨2, _⟩ => exact h
        | ⟨3, _⟩ => exact (Nat.zero_add _).symm
  · have hd := d.isLt
    have hi := i.isLt
    by_cases h : 256 ≤ i.val
    · refine ⟨_, List.mem_cons_self .., (Rect.mem_set_unit (inb := inb_S1x512x1024_S1x256x1024_0_256_0)).2 fun a => ?_⟩
      match a with
      | ⟨0, _⟩ => exact ⟨Nat.le_refl 0, Nat.zero_lt_one⟩
      | ⟨1, _⟩ => exact ⟨h, by show i.val < 256 + 256; omega⟩
      | ⟨2, _⟩ => exact ⟨Nat.zero_le _, by show d.val < 0 + 1024; omega⟩
    · refine ⟨_, List.mem_cons_of_mem _ (List.mem_cons_self ..), (Rect.mem_set_unit (inb := inb_S1x512x1024_S1x256x1024_0_0_0)).2 fun a => ?_⟩
      match a with
      | ⟨0, _⟩ => exact ⟨Nat.le_refl 0, Nat.zero_lt_one⟩
      | ⟨1, _⟩ => exact ⟨Nat.zero_le _, by show i.val < 0 + 256; omega⟩
      | ⟨2, _⟩ => exact ⟨Nat.zero_le _, by show d.val < 0 + 1024; omega⟩

end Block

variable (m : (ℓ : Loc nD τ sig) → Buf (Elt Ideal) ℓ)

/-! ### What the host code hands to the call -/

theorem slab_apply (x : FVec Ideal S2x1024 .f32) (h h' : _) (h'' : _) (n : Fin 1024) :
    shapeCast S1x1024 (shapeCast S1024 (extractStridedSlice S1x1024 ![0, 0] x h) h') h'' (ix2 0 n) = x (ix2 0 n) := by
  refine (shapeCast_a_1a_apply _ _ 0 n).trans ((shapeCast_1a_a_apply _ _ n).trans (congrArg x (funext fun a => Fin.ext ?_)))
  match a with
  | ⟨0, _⟩ => rfl
  | ⟨1, _⟩ => exact Nat.zero_add _

theorem V_post (c : Dev nD) (n : Fin 1024) : V m c main_v4 (ix2 0 n) = m ((c : Thread nD τ).loc main_arg8) (ix2 0 n) := by
  have e : V m c main_v4 = shapeCast S1x1024 (shapeCast S1024 (extractStridedSlice S1x1024 ![0, 0] (m ((c : Thread nD τ).loc main_arg8)) slices_S2x1024_S1x1024_0_0) shapeCasts_S1x1024_S1024) shapeCasts_S1024_S1x1024 := by
    unfold_abbrev_sides
    after_results
    try rfl
  rw [e]
  exact slab_apply _ _ _ _ n

theorem V_gain (c : Dev nD) (n : Fin 1024) : V m c main_v5 (ix2 0 n) = m ((c : Thread nD τ).loc main_arg5) (ix2 0 n) := by
  have e : V m c main_v5 = shapeCast S1x1024 (shapeCast S1024 (extractStridedSlice S1x1024 ![0, 0] (m ((c : Thread nD τ).loc main_arg5)) slices_S2x1024_S1x1024_0_0) shapeCasts_S1x1024_S1024) shapeCasts_S1024_S1x1024 := by
    unfold_abbrev_sides
    after_results
    try rfl
  rw [e]
  exact slab_apply _ _ _ _ n

/-! ### The blocks of a visit -/

theorem win0_eq : ∀ (i : grid0.Coords) a, cc0_transform_0 i a = (![(i 0).val, (i 1).val, 0] : Fin 3 → ℕ) a := by decide +kernel
theorem win1_eq : ∀ (i : grid0.Coords) a, cc0_transform_1 i a = (![(i 0).val, (i 1).val, 0] : Fin 3 → ℕ) a := by decide +kernel
theorem win2_eq : ∀ (i : grid0.Coords) a, cc0_transform_2 i a = (![(i 0).val, (i 1).val, 0] : Fin 3 → ℕ) a := by decide +kernel
theorem win3_eq : ∀ (i : grid0.Coords) a, cc0_transform_3 i a = (![0, 0, 0] : Fin 3 → ℕ) a := by decide +kernel
theorem win4_eq : ∀ (i : grid0.Coords) a, cc0_transform_4 i a = (![0, (i 0).val, (i 1).val, 0] : Fin 4 → ℕ) a := by decide +kernel
theorem win5_eq : ∀ (i : grid0.Coords) a, cc0_transform_5 i a = (![0, 0, 0] : Fin 3 → ℕ) a := by decide +kernel
theorem win6_eq : ∀ (i : grid0.Coords) a, cc0_transform_6 i a = (![0, 0] : Fin 2 → ℕ) a := by decide +kernel
theorem win7_eq : ∀ (i : grid0.Coords) a, cc0_transform_7 i a = (![0, 0] : Fin 2 → ℕ) a := by decide +kernel
theorem win8_eq : ∀ (i : grid0.Coords) a, cc0_transform_8 i a = (![0, 0, 0] : Fin 3 → ℕ) a := by decide +kernel
theorem win10_eq : ∀ (i : grid0.Coords) a, cc0_transform_10 i a = (![(i 0).val, (i 1).val, 0] : Fin 3 → ℕ) a := by decide +kernel

/-- The batch entry and the row block of a visit, and the row of an array a row of a block is. -/
def bat (t : Fin cfg0.N) : Fin 8 := grid0.coords t 0
def blk (t : Fin cfg0.N) : Fin 8 := grid0.coords t 1
def rowIx (n : Fin 8) (i : Fin 512) : Fin 4096 := ⟨512 * n.val + i.val, by have := n.isLt; have := i.isLt; omega⟩

theorem iblk0 (c : Dev nD) (t : Fin cfg0.N) (i : Fin 512) (n : Fin 1024) :
    (iblk m c 0 t (ix3 0 i n) : EReal) = m ((c : Thread nD τ).loc main_arg0) (ix3 (bat t) (rowIx (blk t) i) n) := by
  unfold iblk
  rw [View.read_apply]
  show V m c main_arg0 _ = _
  rw [V_main_arg0]
  refine congrArg (m ((c : Thread nD τ).loc main_arg0)) (funext fun a => Fin.ext ?_)
  match a with
  | ⟨0, _⟩ =>
    show cc0_transform_0 (grid0.coords t) 0 * 1 + 1 * 0 = (grid0.coords t 0).val
    rw [win0_eq]; exact Nat.mul_one _
  | ⟨1, _⟩ =>
    show cc0_transform_0 (grid0.coords t) 1 * 512 + 1 * i.val = 512 * (grid0.coords t 1).val + i.val
    rw [win0_eq]; show (grid0.coords t 1).val * 512 + 1 * i.val = _; omega
  | ⟨2, _⟩ =>
    show cc0_transform_0 (grid0.coords t) 2 * 1024 + 1 * n.val = n.val
    rw [win0_eq]; show 0 * 1024 + 1 * n.val = _; omega

theorem iblk1 (c : Dev nD) (t : Fin cfg0.N) (i : Fin 512) (n : Fin 512) :
    (iblk m c 1 t (ix3 0 i n) : EReal) = m ((c : Thread nD τ).loc main_arg1) (ix3 (bat t) (rowIx (blk t) i) n) := by
  unfold iblk
  rw [View.read_apply]
  show V m c main_arg1 _ = _
  rw [V_main_arg1]
  refine congrArg (m ((c : Thread nD τ).loc main_arg1)) (funext fun a => Fin.ext ?_)
  match a with
  | ⟨0, _⟩ =>
    show cc0_transform_1 (grid0.coords t) 0 * 1 + 1 * 0 = (grid0.coords t 0).val
    rw [win1_eq]; exact Nat.mul_one _
  | ⟨1, _⟩ =>
    show cc0_transform_1 (grid0.coords t) 1 * 512 + 1 * i.val = 512 * (grid0.coords t 1).val + i.val
    rw [win1_eq]; show (grid0.coords t 1).val * 512 + 1 * i.val = _; omega
  | ⟨2, _⟩ =>
    show cc0_transform_1 (grid0.coords t) 2 * 512 + 1 * n.val = n.val
    rw [win1_eq]; show 0 * 512 + 1 * n.val = _; omega

theorem iblk2 (c : Dev nD) (t : Fin cfg0.N) (i : Fin 512) (n : Fin 512) :
    (iblk m c 2 t (ix3 0 i n) : EReal) = m ((c : Thread nD τ).loc main_arg2) (ix3 (bat t) (rowIx (blk t) i) n) := by
  unfold iblk
  rw [View.read_apply]
  show V m c main_arg2 _ = _
  rw [V_main_arg2]
  refine congrArg (m ((c : Thread nD τ).loc main_arg2)) (funext fun a => Fin.ext ?_)
  match a with
  | ⟨0, _⟩ =>
    show cc0_transform_2 (grid0.coords t) 0 * 1 + 1 * 0 = (grid0.coords t 0).val
    rw [win2_eq]; exact Nat.mul_one _
  | ⟨1, _⟩ =>
    show cc0_transform_2 (grid0.coords t) 1 * 512 + 1 * i.val = 512 * (grid0.coords t 1).val + i.val
    rw [win2_eq]; show (grid0.coords t 1).val * 512 + 1 * i.val = _; omega
  | ⟨2, _⟩ =>
    show cc0_transform_2 (grid0.coords t) 2 * 512 + 1 * n.val = n.val
    rw [win2_eq]; show 0 * 512 + 1 * n.val = _; omega

theorem iblk3 (c : Dev nD) (t : Fin cfg0.N) (k : Fin 1024) (n : Fin 1024) :
    (iblk m c 3 t (ix3 0 k n) : EReal) = m ((c : Thread nD τ).loc main_arg4) (ix3 0 k n) := by
  unfold iblk
  rw [View.read_apply]
  show V m c main_arg4 _ = _
  rw [V_main_arg4]
  refine congrArg (m ((c : Thread nD τ).loc main_arg4)) (funext fun a => Fin.ext ?_)
  match a with
  | ⟨0, _⟩ =>
    show cc0_transform_3 (grid0.coords t) 0 * 1 + 1 * 0 = 0
    rw [win3_eq]; rfl
  | ⟨1, _⟩ =>
    show cc0_transform_3 (grid0.coords t) 1 * 1024 + 1 * k.val = k.val
    rw [win3_eq]; show 0 * 1024 + 1 * k.val = _; omega
  | ⟨2, _⟩ =>
    show cc0_transform_3 (grid0.coords t) 2 * 1024 + 1 * n.val = n.val
    rw [win3_eq]; show 0 * 1024 + 1 * n.val = _; omega

theorem iblk5 (c : Dev nD) (t : Fin cfg0.N) (k : Fin 256) (n : Fin 1024) :
    (iblk m c 5 t (ix3 0 k n) : EReal) = m ((c : Thread nD τ).loc main_arg7) (ix3 0 k n) := by
  unfold iblk
  rw [View.read_apply]
  show V m c main_arg7 _ = _
  rw [V_main_arg7]
  refine congrArg (m ((c : Thread nD τ).loc main_arg7)) (funext fun a => Fin.ext ?_)
  match a with
  | ⟨0, _⟩ =>
    show cc0_transform_5 (grid0.coords t) 0 * 1 + 1 * 0 = 0
    rw [win5_eq]; rfl
  | ⟨1, _⟩ =>
    show cc0_transform_5 (grid0.coords t) 1 * 256 + 1 * k.val = k.val
    rw [win5_eq]; show 0 * 256 + 1 * k.val = _; omega
  | ⟨2, _⟩ =>
    show cc0_transform_5 (grid0.coords t) 2 * 1024 + 1 * n.val = n.val
    rw [win5_eq]; show 0 * 1024 + 1 * n.val = _; omega

theorem iblk8 (c : Dev nD) (t : Fin cfg0.N) (k : Fin 1024) (n : Fin 1024) :
    (iblk m c 8 t (ix3 0 k n) : EReal) = m ((c : Thread nD τ).loc main_arg6) (ix3 0 k n) := by
  unfold iblk
  rw [View.read_apply]
  show V m c main_arg6 _ = _
  rw [V_main_arg6]
  refine congrArg (m ((c : Thread nD τ).loc main_arg6)) (funext fun a => Fin.ext ?_)
  match a with
  | ⟨0, _⟩ =>
    show cc0_transform_8 (grid0.coords t) 0 * 1 + 1 * 0 = 0
    rw [win8_eq]; rfl
  | ⟨1, _⟩ =>
    show cc0_transform_8 (grid0.coords t) 1 * 1024 + 1 * k.val = k.val
    rw [win8_eq]; show 0 * 1024 + 1 * k.val = _; omega
  | ⟨2, _⟩ =>
    show cc0_transform_8 (grid0.coords t) 2 * 1024 + 1 * n.val = n.val
    rw [win8_eq]; show 0 * 1024 + 1 * n.val = _; omega

theorem iblk4 (c : Dev nD) (t : Fin cfg0.N) (i : Fin 512) (n : Fin 256) :
    (iblk m c 4 t (ix4 0 0 i n) : EReal) = m ((c : Thread nD τ).loc main_arg3) (ix4 0 (bat t) (rowIx (blk t) i) n) := by
  unfold iblk
  rw [View.read_apply]
  show V m c main_arg3 _ = _
  rw [V_main_arg3]
  refine congrArg (m ((c : Thread nD τ).loc main_arg3)) (funext fun a => Fin.ext ?_)
  match a with
  | ⟨0, _⟩ =>
    show cc0_transform_4 (grid0.coords t) 0 * 1 + 1 * 0 = 0
    rw [win4_eq]; rfl
  | ⟨1, _⟩ =>
    show cc0_transform_4 (grid0.coords t) 1 * 1 + 1 * 0 = (grid0.coords t 0).val
    rw [win4_eq]; exact Nat.mul_one _
  | ⟨2, _⟩ =>
    show cc0_transform_4 (grid0.coords t) 2 * 512 + 1 * i.val = 512 * (grid0.coords t 1).val + i.val
    rw [win4_eq]; show (grid0.coords t 1).val * 512 + 1 * i.val = _; omega
  | ⟨3, _⟩ =>
    show cc0_transform_4 (grid0.coords t) 3 * 256 + 1 * n.val = n.val
    rw [win4_eq]; show 0 * 256 + 1 * n.val = _; omega

theorem iblk6 (c : Dev nD) (t : Fin cfg0.N) (n : Fin 1024) :
    (iblk m c 6 t (ix2 0 n) : EReal) = m ((c : Thread nD τ).loc main_arg8) (ix2 0 n) := by
  unfold iblk
  rw [View.read_apply, ← V_post m c]
  refine congrArg (V m c main_v4) (funext fun a => Fin.ext ?_)
  match a with
  | ⟨0, _⟩ =>
    show cc0_transform_6 (grid0.coords t) 0 * 1 + 1 * 0 = 0
    rw [win6_eq]; rfl
  | ⟨1, _⟩ =>
    show cc0_transform_6 (grid0.coords t) 1 * 1024 + 1 * n.val = n.val
    rw [win6_eq]; show 0 * 1024 + 1 * n.val = _; omega

theorem iblk7 (c : Dev nD) (t : Fin cfg0.N) (n : Fin 1024) :
    (iblk m c 7 t (ix2 0 n) : EReal) = m ((c : Thread nD τ).loc main_arg5) (ix2 0 n) := by
  unfold iblk
  rw [View.read_apply, ← V_gain m c]
  refine congrArg (V m c main_v5) (funext fun a => Fin.ext ?_)
  match a with
  | ⟨0, _⟩ =>
    show cc0_transform_7 (grid0.coords t) 0 * 1 + 1 * 0 = 0
    rw [win7_eq]; rfl
  | ⟨1, _⟩ =>
    show cc0_transform_7 (grid0.coords t) 1 * 1024 + 1 * n.val = n.val
    rw [win7_eq]; show 0 * 1024 + 1 * n.val = _; omega

/-- The result array. -/
def result (c : Dev nD) : Buf (Elt Ideal) ((c : Thread nD τ).loc main_v7) := fun i =>
  (Tail.between (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1) (i 2) : EReal)

theorem flushed_eq (c : Dev nD) (t : Fin cfg0.N) (_ : (cfg0.win 10).flush t = true) :
    (dats m 0 c).flushed 10 t = ((cfg0.win 10).blk t).view.read (Elt Ideal) (result m c) := by
  rw [Value.flushed10]
  refine funext fun (j : S1x512x1024.Idx) => ?_
  have hj : j = ix3 0 (j 1) (j 2) := by
    refine funext fun a => ?_
    match a with
    | ⟨0, _⟩ => exact Subsingleton.elim (α := Fin 1) _ _
    | ⟨1, _⟩ => rfl
    | ⟨2, _⟩ => rfl
  rw [hj]
  refine Eq.trans (b := (out0_10 (iblk m c 0 t) (iblk m c 1 t) (iblk m c 2 t) (iblk m c 3 t) (iblk m c 4 t) (iblk m c 5 t) (iblk m c 6 t)
    (iblk m c 7 t) (iblk m c 8 t) (iblk m c 9 t) (ix3 0 (j 1) (j 2)) : EReal)) rfl ?_
  refine (block_apply _ _ _ _ _ _ _ _ _ _ (j 1) (j 2)).trans ?_
  have hi : ((cfg0.win 10).blk t).view.emb (ix3 0 (j 1) (j 2)) = ix3 (bat t) (rowIx (blk t) (j 1)) (j 2) := by
    refine funext fun a => Fin.ext ?_
    match a with
    | ⟨0, _⟩ =>
      show cc0_transform_10 (grid0.coords t) 0 * 1 + 1 * 0 = (grid0.coords t 0).val
      rw [win10_eq]; exact Nat.mul_one _
    | ⟨1, _⟩ =>
      show cc0_transform_10 (grid0.coords t) 1 * 512 + 1 * (j 1).val = 512 * (grid0.coords t 1).val + (j 1).val
      rw [win10_eq]; show (grid0.coords t 1).val * 512 + 1 * (j 1).val = _; omega
    | ⟨2, _⟩ =>
      show cc0_transform_10 (grid0.coords t) 2 * 1024 + 1 * (j 2).val = (j 2).val
      rw [win10_eq]; show 0 * 1024 + 1 * (j 2).val = _; omega
  refine Eq.trans ?_ (congrArg (result m c) hi.symm)
  show _ = Tail.between _ _ _ _ _ _ _ _ _ (bat t) (rowIx (blk t) (j 1)) (j 2)
  unfold blockRow Tail.between
  rw [funext fun n => iblk0 m c t (j 1) n, funext fun n => iblk1 m c t (j 1) n, funext fun n => iblk2 m c t (j 1) n,
    funext fun n => iblk4 m c t (j 1) n, funext fun k => funext fun n => iblk3 m c t k n, funext fun n => iblk7 m c t n,
    funext fun k => funext fun n => iblk8 m c t k n, funext fun k => funext fun n => iblk5 m c t k n,
    funext fun n => iblk6 m c t n]

theorem point_ex : ∀ (b n : Fin 8), ∃ t : Fin cfg0.N, bat t = b ∧ blk t = n := by decide +kernel

/-- The output kernel's result array is the common description. -/
theorem final (c : Dev nD) : (dats m 0 c).arrAt 10 cfg0.N = result m c :=
  (dats m 0 c).arrAt_eq_of_cover 10 (result m c) (flushed_eq m c) fun i => by
    have h0 : (i 0).val < 8 := (i 0).isLt
    have h1 : (i 1).val < 4096 := (i 1).isLt
    have h2 : (i 2).val < 1024 := (i 2).isLt
    obtain ⟨t, tb, tn⟩ := point_ex ⟨(i 0).val, h0⟩ ⟨(i 1).val / 512, by omega⟩
    have tb' : (grid0.coords t 0).val = (i 0).val := congrArg Fin.val tb
    have tn' : (grid0.coords t 1).val = (i 1).val / 512 := congrArg Fin.val tn
    refine ⟨t, flush0_10 t, ?_⟩
    show i ∈ ((View.whole main_v7).slice (win0_10.rect t)).set
    rw [View.set_slice_whole, Rect.mem_set_unit]
    intro a
    match a with
    | ⟨0, _⟩ =>
      show cc0_transform_10 (grid0.coords t) 0 * 1 ≤ (i 0).val ∧ (i 0).val < cc0_transform_10 (grid0.coords t) 0 * 1 + 1
      rw [win10_eq]
      show (grid0.coords t 0).val * 1 ≤ (i 0).val ∧ (i 0).val < (grid0.coords t 0).val * 1 + 1
      omega
    | ⟨1, _⟩ =>
      show cc0_transform_10 (grid0.coords t) 1 * 512 ≤ (i 1).val ∧ (i 1).val < cc0_transform_10 (grid0.coords t) 1 * 512 + 512
      rw [win10_eq]
      show (grid0.coords t 1).val * 512 ≤ (i 1).val ∧ (i 1).val < (grid0.coords t 1).val * 512 + 512
      omega
    | ⟨2, _⟩ =>
      show cc0_transform_10 (grid0.coords t) 2 * 1024 ≤ (i 2).val ∧ (i 2).val < cc0_transform_10 (grid0.coords t) 2 * 1024 + 1024
      rw [win10_eq]
      show 0 * 1024 ≤ (i 2).val ∧ (i 2).val < 0 * 1024 + 1024
      omega

end Cert.Kernel4Ideal.Visit

end
-- ==== Proof.FirstRef.lean ====
/- The plain program of the first layer's end: its result, entry by entry, is the common description. -/
module

public import proofs.«01_k».proof.Proof.Gen.Reference4Ideal.Run
public import proofs.«01_k».proof.Proof.First
public import Idealize.ShloMosaic.Lib.ValueLayout
public import Idealize.ShloMosaic.Lib.ValueLayoutCasts
public import Idealize.ShloMosaic.Lib.IdealHost
public import Idealize.ShloMosaic.Lib.Pointwise.Contract

@[expose] public section

noncomputable section

namespace Cert.Reference4Ideal.Read

open Cert.Reference4Ideal Cert.Reference4Ideal.Gen
open Idealize.ShloMosaic hiding ix1 ix2 ix3 ix4
open Idealize.ShloMosaic.ValueIdx Idealize.ShloMosaic.TcCoe Idealize.SL.Sem

/-! ### The stages -/

/-- The first layer's matrix, and its vector, of the arrays that hold both layers'. -/
def square (w : FVec Ideal S2x1024x1024 .f32) : FVec Ideal S1024x1024 .f32 :=
  shapeCast _ (extractStridedSlice S1x1024x1024 ![0, 0, 0] w slices_S2x1024x1024_S1x1024x1024_0_0_0) shapeCasts_S1x1024x1024_S1024x1024
def vector (g : FVec Ideal S2x1024 .f32) : FVec Ideal S1024 .f32 :=
  shapeCast _ (extractStridedSlice S1x1024 ![0, 0] g slices_S2x1024_S1x1024_0_0) shapeCasts_S1x1024_S1024

/-- The norm. -/
def norms (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- Every row times a matrix. -/
def mult (x : FVec Ideal S8x4096x1024 .f32) (w : FVec Ideal S2x1024x1024 .f32) : FVec Ideal S8x4096x1024 .f32 :=
  Host.dotGeneral dot_S8x4096x1024_S1024x1024_S8x4096x1024_2_0_01_1_n_n none x (square w)

/-- The residual stream with the mixer's two outputs, side by side, projected and added. -/
def stream (h : FVec Ideal S8x4096x1024 .f32) (ya yb : FVec Ideal S8x4096x512 .bf16) (w : FVec Ideal S2x1024x1024 .f32) : FVec Ideal S8x4096x1024 .f32 :=
  addf h (mult (extf .f32 (concatenate S8x4096x1024 2 [⟨S8x4096x512, ya⟩, ⟨S8x4096x512, yb⟩] concatenates_S8x4096x512_S8x4096x512_S8x4096x1024_d2) bitsLt_bf16_f32) w)

/-- The embedding, projected. -/
def embed (p : FVec Ideal S2x8x4096x256 .f32) (w : FVec Ideal S2x256x1024 .f32) : FVec Ideal S8x4096x1024 .f32 :=
  Host.dotGeneral dot_S8x4096x256_S256x1024_S8x4096x1024_2_0_01_1_n_n none
    (shapeCast _ (extractStridedSlice S1x8x4096x256 ![0, 0, 0, 0] p slices_S2x8x4096x256_S1x8x4096x256_0_0_0_0) shapeCasts_S1x8x4096x256_S8x4096x256)
    (shapeCast _ (extractStridedSlice S1x256x1024 ![0, 0, 0] w slices_S2x256x1024_S1x256x1024_0_0_0) shapeCasts_S1x256x1024_S256x1024)

/-- The logistic function of every entry. -/
def sigms (x : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf x)))

/-- The stream with the gated embedding added. -/
def ending (u e : FVec Ideal S8x4096x1024 .f32) (gn : FVec Ideal S2x1024 .f32) (wg : FVec Ideal S2x1024x1024 .f32) (post : FVec Ideal S2x1024 .f32) :
    FVec Ideal S8x4096x1024 .f32 :=
  addf u (mulf (sigms (mult (norms u (vector gn)) wg)) (norms e (vector post)))

theorem staged (m : (ℓ : Loc nD τ sig) → Buf (Elt Ideal) ℓ) (c : Dev nD) :
    Cert.Reference4Ideal.Value.res_main_v51 (F := Ideal) m c
      = ending (stream (m ((c.tc : Thread nD τ).loc main_arg0)) (m ((c.tc : Thread nD τ).loc main_arg1)) (m ((c.tc : Thread nD τ).loc main_arg2)) (m ((c.tc : Thread nD τ).loc main_arg4)))
          (embed (m ((c.tc : Thread nD τ).loc main_arg3)) (m ((c.tc : Thread nD τ).loc main_arg7))) (m ((c.tc : Thread nD τ).loc main_arg5))
          (m ((c.tc : Thread nD τ).loc main_arg6)) (m ((c.tc : Thread nD τ).loc main_arg8)) := rfl

/-! ### Their entries -/

theorem square_apply (w : FVec Ideal S2x1024x1024 .f32) (k n : Fin 1024) : square w (ix2 k n) = w (ix3 0 k n) := by
  refine (shapeCast_1ab_ab_apply _ _ k n).trans (congrArg w (funext fun a => Fin.ext ?_))
  match a with
  | ⟨0, _⟩ => rfl
  | ⟨1, _⟩ => exact Nat.zero_add _
  | ⟨2, _⟩ => exact Nat.zero_add _

theorem vector_apply (g : FVec Ideal S2x1024 .f32) (n : Fin 1024) : vector g (ix1 n) = g (ix2 0 n) := by
  refine (shapeCast_1a_a_apply _ _ n).trans (congrArg g (funext fun a => Fin.ext ?_))
  match a with
  | ⟨0, _⟩ => rfl
  | ⟨1, _⟩ => exact Nat.zero_add _

theorem squares (x : FVec Ideal S8x4096x1024 .f32) (init : FVec Ideal S_ .f32) (h0 : ∀ i, init i = (0 : EReal))
    (h : S8x4096x1024.ReducesTo [2] S8x4096) (hu : 0 < S_.numel) (b : Fin 8) (t : Fin 4096) :
    Host.reduceAdd x init h hu (ix2 b t) = ∑ e : Fin 1024, x (ix3 b t e) := by
  have h' : S8x4096x1024.Reduces [2] S8x4096 := by decide
  refine (hostReduceAdd_apply x init h hu _).trans ((Ideal.hostReduceAdd_single h h' x _ _).trans ?_)
  rw [h0, zero_add]
  refine Finset.sum_congr rfl fun e _ => congrArg x (funext fun a => ?_)
  match a with
  | ⟨0, _⟩ => rfl
  | ⟨1, _⟩ => rfl
  | ⟨2, _⟩ => rfl

theorem norms_apply (x : FVec Ideal S8x4096x1024 .f32) (g : FVec Ideal S1024 .f32) (b : Fin 8) (t : Fin 4096) (d : Fin 1024) :
    norms x g (ix3 b t d) = Tail.rms (fun e => x (ix3 b t e)) (fun e => g (ix1 e)) d := by
  refine congrArg₂ (fun a b : EReal => a * b) (congrArg (fun a : EReal => x (ix3 b t d) * a) ?_) ?_
  · refine (broadcastInDim_apply _ _ _ _ (ix3 b t (0 : Fin 1)) fun a => by
      match a with
      | ⟨0, _⟩ => rfl
      | ⟨1, _⟩ => rfl
      | ⟨2, _⟩ => rfl).trans ?_
    refine congrArg Ideal.rsqrt (congrArg₂ (fun a b : EReal => a + b) ?_ (broadcastInDim_scalar_apply _ _ _))
    refine congrArg₂ Ideal.div ?_ (broadcastInDim_scalar_apply _ _ _)
    refine (broadcastInDim_apply _ _ _ _ (ix2 b t) fun a => by
      match a with
      | ⟨0, _⟩ => rfl
      | ⟨1, _⟩ => rfl).trans ?_
    exact squares (mulf x x) _ (fun _ => Ideal.ofBits_zero_f32) _ _ b t
  · refine (broadcastInDim_apply _ _ _ _ (ix3 (0 : Fin 1) (0 : Fin 1) d) fun a => by
      match a with
      | ⟨0, _⟩ => rfl
      | ⟨1, _⟩ => rfl
      | ⟨2, _⟩ => rfl).trans ?_
    exact broadcastInDim_apply _ _ _ _ (ix1 d) fun a => by
      match a with
      | ⟨0, _⟩ => rfl

theorem dot_wide (x : FVec Ideal S8x4096x1024 .f32) (w : FVec Ideal S1024x1024 .f32) (b : Fin 8) (t : Fin 4096) (n : Fin 1024) :
    Host.dotGeneral dot_S8x4096x1024_S1024x1024_S8x4096x1024_2_0_01_1_n_n none x w (ix3 b t n) = ∑ k : Fin 1024, (x (ix3 b t k) * w (ix2 k n) : EReal) := by
  refine (Ideal.dotGeneral_apply _ _ _ _ _ _).trans ?_
  rw [DotDims.sum_contr₁ (dot_S8x4096x1024_S1024x1024_S8x4096x1024_2_0_01_1_n_n) (a := 2) rfl (K := 1024) rfl]
  refine Finset.sum_congr rfl fun d _ => congrArg₂ (fun a b : EReal => a * b) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

theorem dot_narrow (x : FVec Ideal S8x4096x256 .f32) (w : FVec Ideal S256x1024 .f32) (b : Fin 8) (t : Fin 4096) (n : Fin 1024) :
    Host.dotGeneral dot_S8x4096x256_S256x1024_S8x4096x1024_2_0_01_1_n_n none x w (ix3 b t n) = ∑ k : Fin 256, (x (ix3 b t k) * w (ix2 k n) : EReal) := by
  refine (Ideal.dotGeneral_apply _ _ _ _ _ _).trans ?_
  rw [DotDims.sum_contr₁ (dot_S8x4096x256_S256x1024_S8x4096x1024_2_0_01_1_n_n) (a := 2) rfl (K := 256) rfl]
  refine Finset.sum_congr rfl fun d _ => congrArg₂ (fun a b : EReal => a * b) (congrArg x ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl

theorem mult_apply (x : FVec Ideal S8x4096x1024 .f32) (w : FVec Ideal S2x1024x1024 .f32) (b : Fin 8) (t : Fin 4096) (n : Fin 1024) :
    mult x w (ix3 b t n) = Tail.times (fun k => x (ix3 b t k)) (fun k n => w (ix3 0 k n)) n :=
  (dot_wide x _ b t n).trans (Finset.sum_congr rfl fun k _ => congrArg (fun y : EReal => x (ix3 b t k) * y) (square_apply w k n))

theorem embed_apply (p : FVec Ideal S2x8x4096x256 .f32) (w : FVec Ideal S2x256x1024 .f32) (b : Fin 8) (t : Fin 4096) (n : Fin 1024) :
    embed p w (ix3 b t n) = Tail.times (fun k => p (ix4 0 b t k)) (fun k n => w (ix3 0 k n)) n := by
  refine (dot_narrow _ _ b t n).trans (Finset.sum_congr rfl fun k _ => congrArg₂ (fun a b : EReal => a * b) ?_ ?_)
  · refine (shapeCast_apply _ _ (ix3 b t k) (ix4 (0 : Fin 1) b t k) ?_).trans (congrArg p (funext fun a => Fin.ext ?_))
    · rw [Shape.rowMajor_val_four, Shape.rowMajor_val_three]
      show ((0 * 8 + b.val) * 4096 + t.val) * 256 + k.val = (b.val * 4096 + t.val) * 256 + k.val
      omega
    · match a with
      | ⟨0, _⟩ => rfl
      | ⟨1, _⟩ => exact Nat.zero_add _
      | ⟨2, _⟩ => exact Nat.zero_add _
      | ⟨3, _⟩ => exact Nat.zero_add _
  · refine (shapeCast_1ab_ab_apply _ _ k n).trans (congrArg w (funext fun a => Fin.ext ?_))
    match a with
    | ⟨0, _⟩ => rfl
    | ⟨1, _⟩ => exact Nat.zero_add _
    | ⟨2, _⟩ => exact Nat.zero_add _

theorem stream_apply (h : FVec Ideal S8x4096x1024 .f32) (ya yb : FVec Ideal S8x4096x512 .bf16) (w : FVec Ideal S2x1024x1024 .f32)
    (b : Fin 8) (t : Fin 4096) (n : Fin 1024) :
    stream h ya yb w (ix3 b t n) = Tail.mixed (fun n => h (ix3 b t n)) (fun k => ya (ix3 b t k)) (fun k => yb (ix3 b t k)) (fun k n => w (ix3 0 k n)) n := by
  unfold Tail.mixed
  rw [add_assoc]
  refine congrArg (fun y : EReal => h (ix3 b t n) + y) ((mult_apply _ w b t n).trans ?_)
  unfold Tail.times
  rw [Fin.sum_univ_add (a := 512) (b := 512)]
  refine congrArg₂ (fun p q : EReal => p + q) ?_ ?_
  · refine Finset.sum_congr rfl fun k _ => congrArg₂ (fun p q : EReal => p * q) ?_ rfl
    refine concatenate_pair_apply_left (t := S8x4096x1024) (s₁ := S8x4096x512) (s₂ := S8x4096x512) 2 ya yb concatenates_S8x4096x512_S8x4096x512_S8x4096x1024_d2 (ix3 b t (Fin.castAdd 512 k)) rfl (ix3 b t k) fun d => ?_
    match d with
    | ⟨0, _⟩ => rfl
    | ⟨1, _⟩ => rfl
    | ⟨2, _⟩ => rfl
  · refine Finset.sum_congr rfl fun k _ => congrArg₂ (fun p q : EReal => p * q) ?_ rfl
    refine concatenate_pair_apply_right (t := S8x4096x1024) (s₁ := S8x4096x512) (s₂ := S8x4096x512) 2 ya yb concatenates_S8x4096x512_S8x4096x512_S8x4096x1024_d2 (ix3 b t (Fin.natAdd 512 k)) rfl rfl (ix3 b t k) (fun d hd => ?_) ?_
    · match d with
      | ⟨0, _⟩ => rfl
      | ⟨1, _⟩ => rfl
      | ⟨2, _⟩ => exact absurd rfl hd
    · show k.val + 512 = 512 + k.val
      omega

theorem sigms_apply (x : FVec Ideal S8x4096x1024 .f32) (i : S8x4096x1024.Idx) : sigms x i = Tail.sigm (x i) := by
  have h1 : (broadcastInDim S8x4096x1024 ![] bcast_S_S8x4096x1024 (constant (F := Ideal) S_ .f32 0x3F800000#32)) i = (1 : EReal) :=
    (broadcastInDim_scalar_apply _ _ _).trans Ideal.ofBits_one_f32
  exact congrArg₂ Ideal.div h1 (congrArg (fun a : EReal => a + Ideal.exp (-(x i : EReal))) h1)

theorem ending_apply (u e : FVec Ideal S8x4096x1024 .f32) (gn : FVec Ideal S2x1024 .f32) (wg : FVec Ideal S2x1024x1024 .f32) (post : FVec Ideal S2x1024 .f32)
    (b : Fin 8) (t : Fin 4096) (n : Fin 1024) :
    ending u e gn wg post (ix3 b t n)
      = Tail.gated (fun n => u (ix3 b t n)) (fun n => e (ix3 b t n)) (fun n => gn (ix2 0 n)) (fun n => post (ix2 0 n)) (fun k n => wg (ix3 0 k n)) n := by
  refine congrArg (fun y : EReal => u (ix3 b t n) + y) (congrArg₂ (fun p q : EReal => p * q) ?_ ?_)
  · refine (sigms_apply _ _).trans (congrArg Tail.sigm ((mult_apply _ wg b t n).trans ?_))
    refine congrArg (fun f : Fin 1024 → EReal => Tail.times f (fun k n => wg (ix3 0 k n)) n) (funext fun k => (norms_apply u _ b t k).trans ?_)
    exact congrArg (fun g : Fin 1024 → EReal => Tail.rms (fun e => u (ix3 b t e)) g k) (funext fun i => vector_apply gn i)
  · refine (norms_apply e _ b t n).trans ?_
    exact congrArg (fun g : Fin 1024 → EReal => Tail.rms (fun i => e (ix3 b t i)) g n) (funext fun i => vector_apply post i)

/-- Every entry of the plain program's result. -/
theorem ending_eq (h : FVec Ideal S8x4096x1024 .f32) (ya yb : FVec Ideal S8x4096x512 .bf16) (p : FVec Ideal S2x8x4096x256 .f32)
    (wo : FVec Ideal S2x1024x1024 .f32) (gn : FVec Ideal S2x1024 .f32) (wg : FVec Ideal S2x1024x1024 .f32) (wp : FVec Ideal S2x256x1024 .f32)
    (post : FVec Ideal S2x1024 .f32) :
    ending (stream h ya yb wo) (embed p wp) gn wg post
      = fun i : S8x4096x1024.Idx => Tail.between h ya yb p wo gn wg wp post (i 0) (i 1) (i 2) := by
  funext i
  refine (congrArg _ (ValueIdx.eq_ix3 i)).trans ((ending_apply _ _ gn wg post _ _ _).trans ?_)
  unfold Tail.between Tail.onward
  exact congrArg₂ (fun f g : Fin 1024 → EReal => Tail.gated f g (fun n => gn (ix2 0 n)) (fun n => post (ix2 0 n)) (fun k n => wg (ix3 0 k n)) (i 2))
    (funext fun n => stream_apply h ya yb wo _ _ n) (funext fun n => embed_apply p wp _ _ n)

end Cert.Reference4Ideal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Result
public import proofs.«01_k».proof.Proof.Ref
public import proofs.«01_k».proof.Proof.TailResult
public import proofs.«01_k».proof.Proof.TailRef
public import proofs.«01_k».proof.Proof.MixResult
public import proofs.«01_k».proof.Proof.MixRef
public import proofs.«01_k».proof.Proof.FirstResult
public import proofs.«01_k».proof.Proof.FirstRef
public import Idealize.ShloMosaic.Adequacy
public import Idealize.ShloMosaic.Init

@[expose] public section

noncomputable section

namespace Cert.Proof

open Idealize.ShloMosaic Idealize.SL.Sem Cert.Kernel

theorem frameRef : Cert.quiescent_ReferenceIdeal (hReferenceIdeal := Cert.ReferenceIdeal.Gen.facts) := fun m g _ =>
  (θ_run Cert.ReferenceIdeal.defs _ _).mono (fun r h => ⟨fun c => (h c).2,
    Idealize.ShloMosaic.sem_eq_zero_of_no_sems (by decide) r.2⟩) (Cert.ReferenceIdeal.Value.run m g)

theorem rounded : Cert.preserves_Kernel_KernelIdeal :=
  ⟨IdealRules.named_const.statement Cert.KernelIdeal.κ "qscale" .f32 0x3E38AA3B#32 _ rfl,
    IdealRules.named_const.statement Cert.KernelIdeal.κ "log2e" .f32 0x3FB8AA3B#32 _ rfl⟩

/-- On the same arguments the plain program's result is the kernel's. -/
theorem equal : Cert.algebraic_KernelIdeal_ReferenceIdeal (hKernelIdeal := Cert.KernelIdeal.Gen.facts)
    (hReferenceIdeal := Cert.ReferenceIdeal.Gen.facts) := by
  intro m g m' g' _ same
  refine ⟨fun c => Cert.KernelIdeal.Visit.result m c,
    (θ_run Cert.KernelIdeal.defs _ _).mono (fun r h c => ⟨(h c).1.trans (Cert.KernelIdeal.Visit.final m c), (h c).2⟩)
      (Cert.KernelIdeal.Value.run_blocks m g),
    (θ_run Cert.ReferenceIdeal.defs _ _).mono (fun r h c => ⟨(h c).1.trans ?_, (h c).2⟩) (Cert.ReferenceIdeal.Value.run m' g')⟩
  obtain ⟨e0, e1, e2, e3, e4⟩ := same c
  refine (Cert.ReferenceIdeal.Read.staged m' c).trans ((Cert.ReferenceIdeal.Read.whole_eq _ _ _ _ _).trans ?_)
  rw [e0, e1, e2, e3, e4]
  rfl

theorem frameRef2 : Cert.quiescent_Reference2Ideal (hReference2Ideal := Cert.Reference2Ideal.Gen.facts) := fun m g _ =>
  (θ_run Cert.Reference2Ideal.defs _ _).mono (fun r h => ⟨fun c => (h c).2,
    Idealize.ShloMosaic.sem_eq_zero_of_no_sems (by decide) r.2⟩) (Cert.Reference2Ideal.Value.run m g)

/-- The same of the layer's end. -/
theorem equal2 : Cert.algebraic_Kernel2Ideal_Reference2Ideal (hKernel2Ideal := Cert.Kernel2Ideal.Gen.facts)
    (hReference2Ideal := Cert.Reference2Ideal.Gen.facts) := by
  intro m g m' g' _ same
  refine ⟨fun c => Cert.Kernel2Ideal.Visit.result m c,
    (θ_run Cert.Kernel2Ideal.defs _ _).mono (fun r h c => ⟨(h c).1.trans (Cert.Kernel2Ideal.Visit.final m c), (h c).2⟩)
      (Cert.Kernel2Ideal.Value.run_blocks m g),
    (θ_run Cert.Reference2Ideal.defs _ _).mono (fun r h c => ⟨(h c).1.trans ?_, (h c).2⟩) (Cert.Reference2Ideal.Value.run m' g')⟩
  obtain ⟨e0, e1, e2, e3, e4, e5, e6, e7, e8, e9⟩ := same c
  refine (Cert.Reference2Ideal.Read.staged m' c).trans ((Cert.Reference2Ideal.Read.ending_eq _ _ _ _ _ _ _ _ _ _).trans ?_)
  rw [e0, e1, e2, e3, e4, e5, e6, e7, e8, e9]
  rfl

theorem frameRef3 : Cert.quiescent_Reference3Ideal (hReference3Ideal := Cert.Reference3Ideal.Gen.facts) := fun m g _ =>
  (θ_run Cert.Reference3Ideal.defs _ _).mono (fun r h => ⟨fun c => (h c).2.2.2.2,
    Idealize.ShloMosaic.sem_eq_zero_of_no_sems (by decide) r.2⟩) (Cert.Reference3Ideal.Value.run m g)

/-- The same of the layer's beginning: the queries, keys, values and gates. -/
theorem equal3 : Cert.algebraic_Kernel3Ideal_Reference3Ideal (hKernel3Ideal := Cert.Kernel3Ideal.Gen.facts)
    (hReference3Ideal := Cert.Reference3Ideal.Gen.facts) := by
  intro m g m' g' _ same
  refine ⟨fun c => Cert.Kernel3Ideal.Visit.queries m c, fun c => Cert.Kernel3Ideal.Visit.keys m c,
    fun c => Cert.Kernel3Ideal.Visit.values m c, fun c => Cert.Kernel3Ideal.Visit.gates m c,
    (θ_run Cert.Kernel3Ideal.defs _ _).mono (fun r h c => ⟨(h c).2.1.trans (Cert.Kernel3Ideal.Visit.queries_final m c),
      (h c).2.2.1.trans (Cert.Kernel3Ideal.Visit.keys_final m c), (h c).2.2.2.1.trans (Cert.Kernel3Ideal.Visit.values_final m c),
      (h c).2.2.2.2.1.trans (Cert.Kernel3Ideal.Visit.gates_final m c), (h c).2.2.2.2.2⟩)
      (Cert.Kernel3Ideal.Value.run_blocks m g),
    (θ_run Cert.Reference3Ideal.defs _ _).mono (fun r h c => ⟨(h c).1.trans ?_, (h c).2.1.trans ?_, (h c).2.2.1.trans ?_,
      (h c).2.2.2.1.trans ?_, (h c).2.2.2.2⟩) (Cert.Reference3Ideal.Value.run m' g')⟩
  all_goals obtain ⟨e0, e1, e2, _, _⟩ := same c
  · refine (Cert.Reference3Ideal.Read.queries_eq _ _ _).trans ?_
    rw [e0, e1, e2]
    rfl
  · refine (Cert.Reference3Ideal.Read.keys_eq _ _ _).trans ?_
    rw [e0, e1, e2]
    rfl
  · refine (Cert.Reference3Ideal.Read.values_eq _ _ _).trans ?_
    rw [e0, e1, e2]
    rfl
  · refine (Cert.Reference3Ideal.Read.gates_eq _ _ _).trans ?_
    rw [e0, e1, e2]
    rfl

theorem frameRef4 : Cert.quiescent_Reference4Ideal (hReference4Ideal := Cert.Reference4Ideal.Gen.facts) := fun m g _ =>
  (θ_run Cert.Reference4Ideal.defs _ _).mono (fun r h => ⟨fun c => (h c).2,
    Idealize.ShloMosaic.sem_eq_zero_of_no_sems (by decide) r.2⟩) (Cert.Reference4Ideal.Value.run m g)

/-- The same of the first layer's end. -/
theorem equal4 : Cert.algebraic_Kernel4Ideal_Reference4Ideal (hKernel4Ideal := Cert.Kernel4Ideal.Gen.facts)
    (hReference4Ideal := Cert.Reference4Ideal.Gen.facts) := by
  intro m g m' g' _ same
  refine ⟨fun c => Cert.Kernel4Ideal.Visit.result m c,
    (θ_run Cert.Kernel4Ideal.defs _ _).mono (fun r h c => ⟨(h c).1.trans (Cert.Kernel4Ideal.Visit.final m c), (h c).2⟩)
      (Cert.Kernel4Ideal.Value.run_blocks m g),
    (θ_run Cert.Reference4Ideal.defs _ _).mono (fun r h c => ⟨(h c).1.trans ?_, (h c).2⟩) (Cert.Reference4Ideal.Value.run m' g')⟩
  obtain ⟨e0, e1, e2, e3, e4, e5, e6, e7, e8, _⟩ := same c
  refine (Cert.Reference4Ideal.Read.staged m' c).trans ((Cert.Reference4Ideal.Read.ending_eq _ _ _ _ _ _ _ _ _).trans ?_)
  rw [e0, e1, e2, e3, e4, e5, e6, e7, e8]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m g _ => Cert.Kernel.Gen.frame m g, fun m g _ => Cert.KernelIdeal.Gen.frame m g, frameRef,
  fun m g _ => Cert.Kernel2.Gen.frame m g, fun m g _ => Cert.Kernel2Ideal.Gen.frame m g, frameRef2,
  fun m g _ => Cert.Kernel3.Gen.frame m g, fun m g _ => Cert.Kernel3Ideal.Gen.frame m g, frameRef3,
  fun m g _ => Cert.Kernel4.Gen.frame m g, fun m g _ => Cert.Kernel4Ideal.Gen.frame m g, frameRef4, rounded, equal, trivial, equal2,
  IdealRules.named_const.statement Cert.Kernel3Ideal.κ "qscale" .f32 0x3E38AA3B#32 _ rfl, equal3,
  trivial, equal4⟩

end Cert.Proof

end
